-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_QuantiseIdeal (m : (ℓ : Loc Cert.QuantiseIdeal.nD Cert.QuantiseIdeal.τ Cert.QuantiseIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0)
      ∧ r.2.mem ((c.tc : Thread Cert.Cast.nD Cert.Cast.τ).loc Cert.Cast.main_arg1) = m ((c.tc : Thread Cert.Cast.nD Cert.Cast.τ).loc Cert.Cast.main_arg1))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0)
      ∧ r.2.mem ((c.tc : Thread Cert.CastIdeal.nD Cert.CastIdeal.τ).loc Cert.CastIdeal.main_arg1) = m ((c.tc : Thread Cert.CastIdeal.nD Cert.CastIdeal.τ).loc Cert.CastIdeal.main_arg1))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![8, 2, 512, 512]⟩ ⟨4, ![8, 2, 4096, 512]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![8, 2, 512, 512]⟩ ⟨4, ![8, 2, 4096, 512]⟩ 2 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v65) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Cast_CastIdeal : Prop :=
  True

def algebraic_CastIdeal_QuantiseIdeal [hCastIdeal : Cert.CastIdeal.Facts] [hQuantiseIdeal : Cert.QuantiseIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.QuantiseIdeal.nD Cert.QuantiseIdeal.τ Cert.QuantiseIdeal.sig) → Buf (Elt Ideal) ℓ) (g' : Dev Cert.QuantiseIdeal.nD → PrngReg), Pre_CastIdeal m →
    (∀ c : Dev Cert.CastIdeal.nD,
      m' ((c.tc : Thread Cert.QuantiseIdeal.nD Cert.QuantiseIdeal.τ).loc Cert.QuantiseIdeal.main_arg0) = m ((c.tc : Thread Cert.CastIdeal.nD Cert.CastIdeal.τ).loc Cert.CastIdeal.main_arg0)
      ∧ m' ((c.tc : Thread Cert.QuantiseIdeal.nD Cert.QuantiseIdeal.τ).loc Cert.QuantiseIdeal.main_arg1) = m ((c.tc : Thread Cert.CastIdeal.nD Cert.CastIdeal.τ).loc Cert.CastIdeal.main_arg1)) →
    ∃ (v0 : (c : Dev Cert.CastIdeal.nD) → Buf (Elt Ideal) ((c.tc : Thread Cert.CastIdeal.nD Cert.CastIdeal.τ).loc Cert.CastIdeal.main_v0_0)) (v1 : (c : Dev Cert.CastIdeal.nD) → Buf (Elt Ideal) ((c.tc : Thread Cert.CastIdeal.nD Cert.CastIdeal.τ).loc Cert.CastIdeal.main_v0_1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0_0) = v0 c
          ∧ r.2.mem ((c.tc : Thread Cert.CastIdeal.nD Cert.CastIdeal.τ).loc Cert.CastIdeal.main_v0_1) = v1 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0)
          ∧ r.2.mem ((c.tc : Thread Cert.CastIdeal.nD Cert.CastIdeal.τ).loc Cert.CastIdeal.main_arg1) = m ((c.tc : Thread Cert.CastIdeal.nD Cert.CastIdeal.τ).loc Cert.CastIdeal.main_arg1))
      ∧ θ_run (Cert.QuantiseIdeal.defs (F := Ideal)) (onTc (τ := Cert.QuantiseIdeal.τ) (Cert.QuantiseIdeal.main (F := Ideal))) ⟨m', fun _ => 0, g'⟩ (fun r => ∀ c : Dev Cert.QuantiseIdeal.nD,
          r.2.mem ((c.tc : Thread Cert.QuantiseIdeal.nD Cert.QuantiseIdeal.τ).loc Cert.QuantiseIdeal.main_v8) = v0 c
          ∧ r.2.mem ((c.tc : Thread Cert.QuantiseIdeal.nD Cert.QuantiseIdeal.τ).loc Cert.QuantiseIdeal.main_v17) = v1 c
          ∧ r.2.mem ((c.tc : Thread Cert.QuantiseIdeal.nD Cert.QuantiseIdeal.τ).loc Cert.QuantiseIdeal.main_arg0) = m' ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m' ((c.tc : Thread Cert.QuantiseIdeal.nD Cert.QuantiseIdeal.τ).loc Cert.QuantiseIdeal.main_arg1))

def Claim : Prop :=
  ∃ (hKernel : Cert.Kernel.Facts) (hKernelIdeal : Cert.KernelIdeal.Facts) (hReferenceIdeal : Cert.ReferenceIdeal.Facts) (hCast : Cert.Cast.Facts) (hCastIdeal : Cert.CastIdeal.Facts) (hQuantiseIdeal : Cert.QuantiseIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ quiescent_Cast (hCast := hCast)
    ∧ quiescent_CastIdeal (hCastIdeal := hCastIdeal)
    ∧ quiescent_QuantiseIdeal (hQuantiseIdeal := hQuantiseIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
    ∧ preserves_Cast_CastIdeal
    ∧ algebraic_CastIdeal_QuantiseIdeal (hCastIdeal := hCastIdeal) (hQuantiseIdeal := hQuantiseIdeal)
-- ==== Pre_finite_inputs_KernelIdeal.lean ====
abbrev S2x512x768 : Shape := ⟨3, ![2, 512, 768]⟩
abbrev S768x512 : Shape := ⟨2, ![768, 512]⟩
abbrev S512x768 : Shape := ⟨2, ![512, 768]⟩
abbrev S8x2x512x512 : Shape := ⟨4, ![8, 2, 512, 512]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_

variable [Facts]

def fn {F : FTy → Type} [FloatOps F] (main_arg0 : FVec F S2x512x768 .bf16) (main_arg1 : FVec F S768x512 .bf16) (main_arg2 : FVec F S512x768 .bf16) (main_arg3 : IVec S8x2x512x512 8) (main_arg4 : IVec S8x2x512x512 8) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  main_v10
-- ==== Pre_finite_inputs_ReferenceIdeal.lean ====
abbrev S2x512x768 : Shape := ⟨3, ![2, 512, 768]⟩
abbrev S768x4096 : Shape := ⟨2, ![768, 4096]⟩
abbrev S4096x768 : Shape := ⟨2, ![4096, 768]⟩
abbrev S8x2x4096x512 : Shape := ⟨4, ![8, 2, 4096, 512]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S2x512x768 .bf16) (main_arg1 : FVec F S768x4096 .bf16) (main_arg2 : FVec F S4096x768 .bf16) (main_arg3 : IVec S8x2x4096x512 8) (main_arg4 : IVec S8x2x4096x512 8) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x4096 .f32 := (extf .f32 · bitsLt_bf16_f32) main_arg1
  let main_v6 : FVec F S768x4096 .f32 := Host.absf main_v5
  let main_cst_0 : FVec F S_ .f32 := constant S_ .f32 0x7F800000#32
  let main_v7 : FVec F S768x4096 .f32 := broadcastInDim S768x4096 ![] bcast_S_S768x4096 main_cst_0
  let main_v8 : IVec S768x4096 1 := cmpf .olt main_v6 main_v7
  let main_c_1 : IVec S_ 1 := constantI S_ 1 1#1
  let main_v9 : IVec S_ 1 := (fun x v => Host.reduce IntOp.andi x v reducesTo_S768x4096_S_d0_1 h_S_) main_v8 main_c_1
  let main_v10 : IVec S_ 1 := andi main_v4 main_v9
  main_v10
-- ==== Kernel.lean ====
abbrev S2x512x768 : Shape := ⟨3, ![2, 512, 768]⟩
abbrev S768x512 : Shape := ⟨2, ![768, 512]⟩
abbrev S512x768 : Shape := ⟨2, ![512, 768]⟩
abbrev S8x2x512x512 : Shape := ⟨4, ![8, 2, 512, 512]⟩
abbrev S8x2x64x768 : Shape := ⟨4, ![8, 2, 64, 768]⟩
abbrev S2x64x768 : Shape := ⟨3, ![2, 64, 768]⟩
abbrev S2x512x512 : Shape := ⟨3, ![2, 512, 512]⟩
abbrev S8 : Shape := ⟨1, ![8]⟩
abbrev S4 : Shape := ⟨1, ![4]⟩
abbrev S_ : Shape := ⟨0, ![]⟩
abbrev S1 : Shape := ⟨1, ![1]⟩
abbrev S1x2x512x512 : Shape := ⟨4, ![1, 2, 512, 512]⟩
abbrev S1x512x768 : Shape := ⟨3, ![1, 512, 768]⟩
abbrev S768x64 : Shape := ⟨2, ![768, 64]⟩
abbrev S512x64 : Shape := ⟨2, ![512, 64]⟩
abbrev S512x512 : Shape := ⟨2, ![512, 512]⟩
abbrev S1x1x512x64 : Shape := ⟨4, ![1, 1, 512, 64]⟩
abbrev S512 : Shape := ⟨1, ![512]⟩
abbrev S512x1 : Shape := ⟨2, ![512, 1]⟩
abbrev S64x64 : Shape := ⟨2, ![64, 64]⟩
abbrev S192x64 : Shape := ⟨2, ![192, 64]⟩
abbrev S1x1x64x64 : Shape := ⟨4, ![1, 1, 64, 64]⟩
abbrev S1216x64 : Shape := ⟨2, ![1216, 64]⟩
abbrev S192x1216 : Shape := ⟨2, ![192, 1216]⟩
abbrev S192 : Shape := ⟨1, ![192]⟩
abbrev S192x1 : Shape := ⟨2, ![192, 1]⟩
abbrev S64x1 : Shape := ⟨2, ![64, 1]⟩
abbrev S1x64x64 : Shape := ⟨3, ![1, 64, 64]⟩
abbrev S1x64x512 : Shape := ⟨3, ![1, 64, 512]⟩
abbrev S64x512 : Shape := ⟨2, ![64, 512]⟩
abbrev S64x768 : Shape := ⟨2, ![64, 768]⟩
abbrev S1x1x64x768 : Shape := ⟨4, ![1, 1, 64, 768]⟩
abbrev S1x2x64x768 : Shape := ⟨4, ![1, 2, 64, 768]⟩
abbrev S128x64 : Shape := ⟨2, ![128, 64]⟩
abbrev S1152x64 : Shape := ⟨2, ![1152, 64]⟩
abbrev S128x1152 : Shape := ⟨2, ![128, 1152]⟩
abbrev S128 : Shape := ⟨1, ![128]⟩
abbrev S128x1 : Shape := ⟨2, ![128, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S512x768, .bf16⟩
  | .hbm, ⟨3, _⟩ => ⟨S8x2x512x512, .i8⟩
  | .hbm, ⟨4, _⟩ => ⟨S8x2x512x512, .i8⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .f32⟩
  | .local _ .vmem, ⟨4, _⟩ => ⟨S8x2x512x512, .i8⟩
  | .local _ .vmem, ⟨5, _⟩ => ⟨S8x2x512x512, .i8⟩
  | .local _ .vmem, ⟨6, _⟩ => ⟨S8x2x64x768, .bf16⟩
  | .local _ .vmem, ⟨7, _⟩ => ⟨S8x2x64x768, .bf16⟩
  | .local _ .vmem, ⟨8, _⟩ => ⟨S2x64x768, .bf16⟩
  | .local _ .vmem, ⟨9, _⟩ => ⟨S8x2x64x768, .bf16⟩
  | .local _ .vmem, ⟨10, _⟩ => ⟨S2x512x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  ![v105.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  let c0_i32_75 : BitVec 32 := 0#32
  ![v2.toNat, 0, 0, 0]
def k0_off4 (d0 : Dev nD) (c1_i32_64 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c0_i32_76 : BitVec 32 := 0#32
  let c0_i32_77 : BitVec 32 := 0#32
  let c0_i32_78 : BitVec 32 := 0#32
  ![v105.toNat, 0, 0, 0]
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_71 : BitVec 32 := 1#32
  let v106 : BitVec 32 := Scalar.muli v105 c1_i32_71
  let v107 : BitVec 32 := Scalar.addi c0_i32_72 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_79 : BitVec 32 := 1#32
  let v116 : BitVec 32 := Scalar.muli v105 c1_i32_79
  let v117 : BitVec 32 := Scalar.addi c0_i32_80 v116
  v117.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_87 : BitVec 32 := 2#32
  let v126 : BitVec 32 := Scalar.addi v2 c2_i32_87
  let c8_i32_88 : BitVec 32 := 8#32
  let c0_i32_89 : BitVec 32 := 0#32
  let v127 : BitVec 1 := Scalar.cmpi .eq c8_i32_88 c0_i32_89
  let c1_i32_90 : BitVec 32 := 1#32
  let v128 : BitVec 32 := Scalar.select v127 c1_i32_90 c8_i32_88
  let v129 : BitVec 32 := Scalar.remsi v126 v128
  let c0_i32_92 : BitVec 32 := 0#32
  let v131 : BitVec 1 := Scalar.cmpi .slt v129 c0_i32_92
  let c0_i32_93 : BitVec 32 := 0#32
  let v132 : BitVec 1 := Scalar.cmpi .slt v128 c0_i32_93
  let v133 : BitVec 1 := Scalar.xori v131 v132
  let c0_i32_91 : BitVec 32 := 0#32
  let v130 : BitVec 1 := Scalar.cmpi .ne v129 c0_i32_91
  let v134 : BitVec 1 := Scalar.andi v133 v130
  let v135 : BitVec 32 := Scalar.addi v129 v128
  let v136 : BitVec 32 := Scalar.select v134 v135 v129
  let c1_i32_94 : BitVec 32 := 1#32
  let v137 : BitVec 32 := Scalar.muli v136 c1_i32_94
  let v138 : BitVec 32 := Scalar.addi c0_i32_95 v137
  v138.toNat
def k0_dev11 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_87 : BitVec 32 := 2#32
  let v126 : BitVec 32 := Scalar.addi v2 c2_i32_87
  let c8_i32_88 : BitVec 32 := 8#32
  let c0_i32_89 : BitVec 32 := 0#32
  let v127 : BitVec 1 := Scalar.cmpi .eq c8_i32_88 c0_i32_89
  let c1_i32_90 : BitVec 32 := 1#32
  let v128 : BitVec 32 := Scalar.select v127 c1_i32_90 c8_i32_88
  let v129 : BitVec 32 := Scalar.remsi v126 v128
  let c0_i32_92 : BitVec 32 := 0#32
  let v131 : BitVec 1 := Scalar.cmpi .slt v129 c0_i32_92
  let c0_i32_93 : BitVec 32 := 0#32
  let v132 : BitVec 1 := Scalar.cmpi .slt v128 c0_i32_93
  let v133 : BitVec 1 := Scalar.xori v131 v132
  let c0_i32_91 : BitVec 32 := 0#32
  let v130 : BitVec 1 := Scalar.cmpi .ne v129 c0_i32_91
  let v134 : BitVec 1 := Scalar.andi v133 v130
  let v135 : BitVec 32 := Scalar.addi v129 v128
  let v136 : BitVec 32 := Scalar.select v134 v135 v129
  let c1_i32_102 : BitVec 32 := 1#32
  let v147 : BitVec 32 := Scalar.muli v136 c1_i32_102
  let v148 : BitVec 32 := Scalar.addi c0_i32_103 v147
  v148.toNat
def k0_dev12 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v157 : BitVec 32 := Scalar.addi v2 c3_i32_110
  let c8_i32_111 : BitVec 32 := 8#32
  let c0_i32_112 : BitVec 32 := 0#32
  let v158 : BitVec 1 := Scalar.cmpi .eq c8_i32_111 c0_i32_112
  let c1_i32_113 : BitVec 32 := 1#32
  let v159 : BitVec 32 := Scalar.select v158 c1_i32_113 c8_i32_111
  let v160 : BitVec 32 := Scalar.remsi v157 v159
  let c0_i32_115 : BitVec 32 := 0#32
  let v162 : BitVec 1 := Scalar.cmpi .slt v160 c0_i32_115
  let c0_i32_116 : BitVec 32 := 0#32
  let v163 : BitVec 1 := Scalar.cmpi .slt v159 c0_i32_116
  let v164 : BitVec 1 := Scalar.xori v162 v163
  let c0_i32_114 : BitVec 32 := 0#32
  let v161 : BitVec 1 := Scalar.cmpi .ne v160 c0_i32_114
  let v165 : BitVec 1 := Scalar.andi v164 v161
  let v166 : BitVec 32 := Scalar.addi v160 v159
  let v167 : BitVec 32 := Scalar.select v165 v166 v160
  let c1_i32_117 : BitVec 32 := 1#32
  let v168 : BitVec 32 := Scalar.muli v167 c1_i32_117
  let v169 : BitVec 32 := Scalar.addi c0_i32_118 v168
  v169.toNat
def k0_dev13 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v157 : BitVec 32 := Scalar.addi v2 c3_i32_110
  let c8_i32_111 : BitVec 32 := 8#32
  let c0_i32_112 : BitVec 32 := 0#32
  let v158 : BitVec 1 := Scalar.cmpi .eq c8_i32_111 c0_i32_112
  let c1_i32_113 : BitVec 32 := 1#32
  let v159 : BitVec 32 := Scalar.select v158 c1_i32_113 c8_i32_111
  let v160 : BitVec 32 := Scalar.remsi v157 v159
  let c0_i32_115 : BitVec 32 := 0#32
  let v162 : BitVec 1 := Scalar.cmpi .slt v160 c0_i32_115
  let c0_i32_116 : BitVec 32 := 0#32
  let v163 : BitVec 1 := Scalar.cmpi .slt v159 c0_i32_116
  let v164 : BitVec 1 := Scalar.xori v162 v163
  let c0_i32_114 : BitVec 32 := 0#32
  let v161 : BitVec 1 := Scalar.cmpi .ne v160 c0_i32_114
  let v165 : BitVec 1 := Scalar.andi v164 v161
  let v166 : BitVec 32 := Scalar.addi v160 v159
  let v167 : BitVec 32 := Scalar.select v165 v166 v160
  let c1_i32_125 : BitVec 32 := 1#32
  let v178 : BitVec 32 := Scalar.muli v167 c1_i32_125
  let v179 : BitVec 32 := Scalar.addi c0_i32_126 v178
  v179.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v188 : BitVec 32 := Scalar.addi v2 c4_i32_133
  let c8_i32_134 : BitVec 32 := 8#32
  let c0_i32_135 : BitVec 32 := 0#32
  let v189 : BitVec 1 := Scalar.cmpi .eq c8_i32_134 c0_i32_135
  let c1_i32_136 : BitVec 32 := 1#32
  let v190 : BitVec 32 := Scalar.select v189 c1_i32_136 c8_i32_134
  let v191 : BitVec 32 := Scalar.remsi v188 v190
  let c0_i32_138 : BitVec 32 := 0#32
  let v193 : BitVec 1 := Scalar.cmpi .slt v191 c0_i32_138
  let c0_i32_139 : BitVec 32 := 0#32
  let v194 : BitVec 1 := Scalar.cmpi .slt v190 c0_i32_139
  let v195 : BitVec 1 := Scalar.xori v193 v194
  let c0_i32_137 : BitVec 32 := 0#32
  let v192 : BitVec 1 := Scalar.cmpi .ne v191 c0_i32_137
  let v196 : BitVec 1 := Scalar.andi v195 v192
  let v197 : BitVec 32 := Scalar.addi v191 v190
  let v198 : BitVec 32 := Scalar.select v196 v197 v191
  let c1_i32_140 : BitVec 32 := 1#32
  let v199 : BitVec 32 := Scalar.muli v198 c1_i32_140
  let v200 : BitVec 32 := Scalar.addi c0_i32_141 v199
  v200.toNat
def k0_dev15 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v188 : BitVec 32 := Scalar.addi v2 c4_i32_133
  let c8_i32_134 : BitVec 32 := 8#32
  let c0_i32_135 : BitVec 32 := 0#32
  let v189 : BitVec 1 := Scalar.cmpi .eq c8_i32_134 c0_i32_135
  let c1_i32_136 : BitVec 32 := 1#32
  let v190 : BitVec 32 := Scalar.select v189 c1_i32_136 c8_i32_134
  let v191 : BitVec 32 := Scalar.remsi v188 v190
  let c0_i32_138 : BitVec 32 := 0#32
  let v193 : BitVec 1 := Scalar.cmpi .slt v191 c0_i32_138
  let c0_i32_139 : BitVec 32 := 0#32
  let v194 : BitVec 1 := Scalar.cmpi .slt v190 c0_i32_139
  let v195 : BitVec 1 := Scalar.xori v193 v194
  let c0_i32_137 : BitVec 32 := 0#32
  let v192 : BitVec 1 := Scalar.cmpi .ne v191 c0_i32_137
  let v196 : BitVec 1 := Scalar.andi v195 v192
  let v197 : BitVec 32 := Scalar.addi v191 v190
  let v198 : BitVec 32 := Scalar.select v196 v197 v191
  let c1_i32_148 : BitVec 32 := 1#32
  let v209 : BitVec 32 := Scalar.muli v198 c1_i32_148
  let v210 : BitVec 32 := Scalar.addi c0_i32_149 v209
  v210.toNat
def k0_dev16 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_156 : BitVec 32 := 5#32
  let v219 : BitVec 32 := Scalar.addi v2 c5_i32_156
  let c8_i32_157 : BitVec 32 := 8#32
  let c0_i32_158 : BitVec 32 := 0#32
  let v220 : BitVec 1 := Scalar.cmpi .eq c8_i32_157 c0_i32_158
  let c1_i32_159 : BitVec 32 := 1#32
  let v221 : BitVec 32 := Scalar.select v220 c1_i32_159 c8_i32_157
  let v222 : BitVec 32 := Scalar.remsi v219 v221
  let c0_i32_161 : BitVec 32 := 0#32
  let v224 : BitVec 1 := Scalar.cmpi .slt v222 c0_i32_161
  let c0_i32_162 : BitVec 32 := 0#32
  let v225 : BitVec 1 := Scalar.cmpi .slt v221 c0_i32_162
  let v226 : BitVec 1 := Scalar.xori v224 v225
  let c0_i32_160 : BitVec 32 := 0#32
  let v223 : BitVec 1 := Scalar.cmpi .ne v222 c0_i32_160
  let v227 : BitVec 1 := Scalar.andi v226 v223
  let v228 : BitVec 32 := Scalar.addi v222 v221
  let v229 : BitVec 32 := Scalar.select v227 v228 v222
  let c1_i32_163 : BitVec 32 := 1#32
  let v230 : BitVec 32 := Scalar.muli v229 c1_i32_163
  let v231 : BitVec 32 := Scalar.addi c0_i32_164 v230
  v231.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_156 : BitVec 32 := 5#32
  let v219 : BitVec 32 := Scalar.addi v2 c5_i32_156
  let c8_i32_157 : BitVec 32 := 8#32
  let c0_i32_158 : BitVec 32 := 0#32
  let v220 : BitVec 1 := Scalar.cmpi .eq c8_i32_157 c0_i32_158
  let c1_i32_159 : BitVec 32 := 1#32
  let v221 : BitVec 32 := Scalar.select v220 c1_i32_159 c8_i32_157
  let v222 : BitVec 32 := Scalar.remsi v219 v221
  let c0_i32_161 : BitVec 32 := 0#32
  let v224 : BitVec 1 := Scalar.cmpi .slt v222 c0_i32_161
  let c0_i32_162 : BitVec 32 := 0#32
  let v225 : BitVec 1 := Scalar.cmpi .slt v221 c0_i32_162
  let v226 : BitVec 1 := Scalar.xori v224 v225
  let c0_i32_160 : BitVec 32 := 0#32
  let v223 : BitVec 1 := Scalar.cmpi .ne v222 c0_i32_160
  let v227 : BitVec 1 := Scalar.andi v226 v223
  let v228 : BitVec 32 := Scalar.addi v222 v221
  let v229 : BitVec 32 := Scalar.select v227 v228 v222
  let c1_i32_171 : BitVec 32 := 1#32
  let v240 : BitVec 32 := Scalar.muli v229 c1_i32_171
  let v241 : BitVec 32 := Scalar.addi c0_i32_172 v240
  v241.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_179 : BitVec 32 := 6#32
  let v250 : BitVec 32 := Scalar.addi v2 c6_i32_179
  let c8_i32_180 : BitVec 32 := 8#32
  let c0_i32_181 : BitVec 32 := 0#32
  let v251 : BitVec 1 := Scalar.cmpi .eq c8_i32_180 c0_i32_181
  let c1_i32_182 : BitVec 32 := 1#32
  let v252 : BitVec 32 := Scalar.select v251 c1_i32_182 c8_i32_180
  let v253 : BitVec 32 := Scalar.remsi v250 v252
  let c0_i32_184 : BitVec 32 := 0#32
  let v255 : BitVec 1 := Scalar.cmpi .slt v253 c0_i32_184
  let c0_i32_185 : BitVec 32 := 0#32
  let v256 : BitVec 1 := Scalar.cmpi .slt v252 c0_i32_185
  let v257 : BitVec 1 := Scalar.xori v255 v256
  let c0_i32_183 : BitVec 32 := 0#32
  let v254 : BitVec 1 := Scalar.cmpi .ne v253 c0_i32_183
  let v258 : BitVec 1 := Scalar.andi v257 v254
  let v259 : BitVec 32 := Scalar.addi v253 v252
  let v260 : BitVec 32 := Scalar.select v258 v259 v253
  let c1_i32_186 : BitVec 32 := 1#32
  let v261 : BitVec 32 := Scalar.muli v260 c1_i32_186
  let v262 : BitVec 32 := Scalar.addi c0_i32_187 v261
  v262.toNat
def k0_dev19 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_179 : BitVec 32 := 6#32
  let v250 : BitVec 32 := Scalar.addi v2 c6_i32_179
  let c8_i32_180 : BitVec 32 := 8#32
  let c0_i32_181 : BitVec 32 := 0#32
  let v251 : BitVec 1 := Scalar.cmpi .eq c8_i32_180 c0_i32_181
  let c1_i32_182 : BitVec 32 := 1#32
  let v252 : BitVec 32 := Scalar.select v251 c1_i32_182 c8_i32_180
  let v253 : BitVec 32 := Scalar.remsi v250 v252
  let c0_i32_184 : BitVec 32 := 0#32
  let v255 : BitVec 1 := Scalar.cmpi .slt v253 c0_i32_184
  let c0_i32_185 : BitVec 32 := 0#32
  let v256 : BitVec 1 := Scalar.cmpi .slt v252 c0_i32_185
  let v257 : BitVec 1 := Scalar.xori v255 v256
  let c0_i32_183 : BitVec 32 := 0#32
  let v254 : BitVec 1 := Scalar.cmpi .ne v253 c0_i32_183
  let v258 : BitVec 1 := Scalar.andi v257 v254
  let v259 : BitVec 32 := Scalar.addi v253 v252
  let v260 : BitVec 32 := Scalar.select v258 v259 v253
  let c1_i32_194 : BitVec 32 := 1#32
  let v271 : BitVec 32 := Scalar.muli v260 c1_i32_194
  let v272 : BitVec 32 := Scalar.addi c0_i32_195 v271
  v272.toNat
def k0_dev20 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_202 : BitVec 32 := 7#32
  let v281 : BitVec 32 := Scalar.addi v2 c7_i32_202
  let c8_i32_203 : BitVec 32 := 8#32
  let c0_i32_204 : BitVec 32 := 0#32
  let v282 : BitVec 1 := Scalar.cmpi .eq c8_i32_203 c0_i32_204
  let c1_i32_205 : BitVec 32 := 1#32
  let v283 : BitVec 32 := Scalar.select v282 c1_i32_205 c8_i32_203
  let v284 : BitVec 32 := Scalar.remsi v281 v283
  let c0_i32_207 : BitVec 32 := 0#32
  let v286 : BitVec 1 := Scalar.cmpi .slt v284 c0_i32_207
  let c0_i32_208 : BitVec 32 := 0#32
  let v287 : BitVec 1 := Scalar.cmpi .slt v283 c0_i32_208
  let v288 : BitVec 1 := Scalar.xori v286 v287
  let c0_i32_206 : BitVec 32 := 0#32
  let v285 : BitVec 1 := Scalar.cmpi .ne v284 c0_i32_206
  let v289 : BitVec 1 := Scalar.andi v288 v285
  let v290 : BitVec 32 := Scalar.addi v284 v283
  let v291 : BitVec 32 := Scalar.select v289 v290 v284
  let c1_i32_209 : BitVec 32 := 1#32
  let v292 : BitVec 32 := Scalar.muli v291 c1_i32_209
  let v293 : BitVec 32 := Scalar.addi c0_i32_210 v292
  v293.toNat
def k0_dev21 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_202 : BitVec 32 := 7#32
  let v281 : BitVec 32 := Scalar.addi v2 c7_i32_202
  let c8_i32_203 : BitVec 32 := 8#32
  let c0_i32_204 : BitVec 32 := 0#32
  let v282 : BitVec 1 := Scalar.cmpi .eq c8_i32_203 c0_i32_204
  let c1_i32_205 : BitVec 32 := 1#32
  let v283 : BitVec 32 := Scalar.select v282 c1_i32_205 c8_i32_203
  let v284 : BitVec 32 := Scalar.remsi v281 v283
  let c0_i32_207 : BitVec 32 := 0#32
  let v286 : BitVec 1 := Scalar.cmpi .slt v284 c0_i32_207
  let c0_i32_208 : BitVec 32 := 0#32
  let v287 : BitVec 1 := Scalar.cmpi .slt v283 c0_i32_208
  let v288 : BitVec 1 := Scalar.xori v286 v287
  let c0_i32_206 : BitVec 32 := 0#32
  let v285 : BitVec 1 := Scalar.cmpi .ne v284 c0_i32_206
  let v289 : BitVec 1 := Scalar.andi v288 v285
  let v290 : BitVec 32 := Scalar.addi v284 v283
  let v291 : BitVec 32 := Scalar.select v289 v290 v284
  let c1_i32_217 : BitVec 32 := 1#32
  let v302 : BitVec 32 := Scalar.muli v291 c1_i32_217
  let v303 : BitVec 32 := Scalar.addi c0_i32_218 v302
  v303.toNat
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3310 : BitVec 32 := 0#32
  let c0_i32_3311 : BitVec 32 := 0#32
  let c0_i32_3312 : BitVec 32 := 0#32
  ![v2.toNat, 0, 0, 0]
def k0_dev22 : Nat :=
  let c0_i32_3309 : BitVec 32 := 0#32
  let c0_i32_3307 : BitVec 32 := 0#32
  let c1_i32_3308 : BitVec 32 := 1#32
  let v2962 : BitVec 32 := Scalar.muli c0_i32_3307 c1_i32_3308
  let v2963 : BitVec 32 := Scalar.addi c0_i32_3309 v2962
  v2963.toNat
def k0_dev23 : Nat :=
  let c0_i32_3336 : BitVec 32 := 0#32
  let c3_i32_3334 : BitVec 32 := 3#32
  let c1_i32_3335 : BitVec 32 := 1#32
  let v2986 : BitVec 32 := Scalar.muli c3_i32_3334 c1_i32_3335
  let v2987 : BitVec 32 := Scalar.addi c0_i32_3336 v2986
  v2987.toNat
def k0_dev24 : Nat :=
  let c0_i32_3363 : BitVec 32 := 0#32
  let c6_i32_3361 : BitVec 32 := 6#32
  let c1_i32_3362 : BitVec 32 := 1#32
  let v3010 : BitVec 32 := Scalar.muli c6_i32_3361 c1_i32_3362
  let v3011 : BitVec 32 := Scalar.addi c0_i32_3363 v3010
  v3011.toNat
def k0_dev25 : Nat :=
  let c0_i32_6062 : BitVec 32 := 0#32
  let c1_i32_6060 : BitVec 32 := 1#32
  let c1_i32_6061 : BitVec 32 := 1#32
  let v5146 : BitVec 32 := Scalar.muli c1_i32_6060 c1_i32_6061
  let v5147 : BitVec 32 := Scalar.addi c0_i32_6062 v5146
  v5147.toNat
def k0_dev26 : Nat :=
  let c0_i32_6089 : BitVec 32 := 0#32
  let c4_i32_6087 : BitVec 32 := 4#32
  let c1_i32_6088 : BitVec 32 := 1#32
  let v5170 : BitVec 32 := Scalar.muli c4_i32_6087 c1_i32_6088
  let v5171 : BitVec 32 := Scalar.addi c0_i32_6089 v5170
  v5171.toNat
def k0_dev27 : Nat :=
  let c0_i32_6116 : BitVec 32 := 0#32
  let c7_i32_6114 : BitVec 32 := 7#32
  let c1_i32_6115 : BitVec 32 := 1#32
  let v5194 : BitVec 32 := Scalar.muli c7_i32_6114 c1_i32_6115
  let v5195 : BitVec 32 := Scalar.addi c0_i32_6116 v5194
  v5195.toNat
def k0_dev28 : Nat :=
  let c0_i32_8623 : BitVec 32 := 0#32
  let c2_i32_8621 : BitVec 32 := 2#32
  let c1_i32_8622 : BitVec 32 := 1#32
  let v7026 : BitVec 32 := Scalar.muli c2_i32_8621 c1_i32_8622
  let v7027 : BitVec 32 := Scalar.addi c0_i32_8623 v7026
  v7027.toNat
def k0_dev29 : Nat :=
  let c0_i32_8650 : BitVec 32 := 0#32
  let c5_i32_8648 : BitVec 32 := 5#32
  let c1_i32_8649 : BitVec 32 := 1#32
  let v7050 : BitVec 32 := Scalar.muli c5_i32_8648 c1_i32_8649
  let v7051 : BitVec 32 := Scalar.addi c0_i32_8650 v7050
  v7051.toNat
def k0_dev30 (d0 : Dev nD) : Nat :=
  let c0_i32_8804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8796 : BitVec 32 := 0#32
  let v7159 : BitVec 32 := Scalar.addi v2 c0_i32_8796
  let c8_i32_8797 : BitVec 32 := 8#32
  let c0_i32_8798 : BitVec 32 := 0#32
  let v7160 : BitVec 1 := Scalar.cmpi .eq c8_i32_8797 c0_i32_8798
  let c1_i32_8799 : BitVec 32 := 1#32
  let v7161 : BitVec 32 := Scalar.select v7160 c1_i32_8799 c8_i32_8797
  let v7162 : BitVec 32 := Scalar.remsi v7159 v7161
  let c0_i32_8801 : BitVec 32 := 0#32
  let v7164 : BitVec 1 := Scalar.cmpi .slt v7162 c0_i32_8801
  let c0_i32_8802 : BitVec 32 := 0#32
  let v7165 : BitVec 1 := Scalar.cmpi .slt v7161 c0_i32_8802
  let v7166 : BitVec 1 := Scalar.xori v7164 v7165
  let c0_i32_8800 : BitVec 32 := 0#32
  let v7163 : BitVec 1 := Scalar.cmpi .ne v7162 c0_i32_8800
  let v7167 : BitVec 1 := Scalar.andi v7166 v7163
  let v7168 : BitVec 32 := Scalar.addi v7162 v7161
  let v7169 : BitVec 32 := Scalar.select v7167 v7168 v7162
  let c1_i32_8803 : BitVec 32 := 1#32
  let v7170 : BitVec 32 := Scalar.muli v7169 c1_i32_8803
  let v7171 : BitVec 32 := Scalar.addi c0_i32_8804 v7170
  v7171.toNat
def k0_dev31 (d0 : Dev nD) : Nat :=
  let c0_i32_8816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8808 : BitVec 32 := 1#32
  let v7178 : BitVec 32 := Scalar.addi v2 c1_i32_8808
  let c8_i32_8809 : BitVec 32 := 8#32
  let c0_i32_8810 : BitVec 32 := 0#32
  let v7179 : BitVec 1 := Scalar.cmpi .eq c8_i32_8809 c0_i32_8810
  let c1_i32_8811 : BitVec 32 := 1#32
  let v7180 : BitVec 32 := Scalar.select v7179 c1_i32_8811 c8_i32_8809
  let v7181 : BitVec 32 := Scalar.remsi v7178 v7180
  let c0_i32_8813 : BitVec 32 := 0#32
  let v7183 : BitVec 1 := Scalar.cmpi .slt v7181 c0_i32_8813
  let c0_i32_8814 : BitVec 32 := 0#32
  let v7184 : BitVec 1 := Scalar.cmpi .slt v7180 c0_i32_8814
  let v7185 : BitVec 1 := Scalar.xori v7183 v7184
  let c0_i32_8812 : BitVec 32 := 0#32
  let v7182 : BitVec 1 := Scalar.cmpi .ne v7181 c0_i32_8812
  let v7186 : BitVec 1 := Scalar.andi v7185 v7182
  let v7187 : BitVec 32 := Scalar.addi v7181 v7180
  let v7188 : BitVec 32 := Scalar.select v7186 v7187 v7181
  let c1_i32_8815 : BitVec 32 := 1#32
  let v7189 : BitVec 32 := Scalar.muli v7188 c1_i32_8815
  let v7190 : BitVec 32 := Scalar.addi c0_i32_8816 v7189
  v7190.toNat
def k0_dev32 (d0 : Dev nD) : Nat :=
  let c0_i32_8828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_8820 : BitVec 32 := 2#32
  let v7197 : BitVec 32 := Scalar.addi v2 c2_i32_8820
  let c8_i32_8821 : BitVec 32 := 8#32
  let c0_i32_8822 : BitVec 32 := 0#32
  let v7198 : BitVec 1 := Scalar.cmpi .eq c8_i32_8821 c0_i32_8822
  let c1_i32_8823 : BitVec 32 := 1#32
  let v7199 : BitVec 32 := Scalar.select v7198 c1_i32_8823 c8_i32_8821
  let v7200 : BitVec 32 := Scalar.remsi v7197 v7199
  let c0_i32_8825 : BitVec 32 := 0#32
  let v7202 : BitVec 1 := Scalar.cmpi .slt v7200 c0_i32_8825
  let c0_i32_8826 : BitVec 32 := 0#32
  let v7203 : BitVec 1 := Scalar.cmpi .slt v7199 c0_i32_8826
  let v7204 : BitVec 1 := Scalar.xori v7202 v7203
  let c0_i32_8824 : BitVec 32 := 0#32
  let v7201 : BitVec 1 := Scalar.cmpi .ne v7200 c0_i32_8824
  let v7205 : BitVec 1 := Scalar.andi v7204 v7201
  let v7206 : BitVec 32 := Scalar.addi v7200 v7199
  let v7207 : BitVec 32 := Scalar.select v7205 v7206 v7200
  let c1_i32_8827 : BitVec 32 := 1#32
  let v7208 : BitVec 32 := Scalar.muli v7207 c1_i32_8827
  let v7209 : BitVec 32 := Scalar.addi c0_i32_8828 v7208
  v7209.toNat
def k0_dev33 (d0 : Dev nD) : Nat :=
  let c0_i32_8840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_8832 : BitVec 32 := 3#32
  let v7216 : BitVec 32 := Scalar.addi v2 c3_i32_8832
  let c8_i32_8833 : BitVec 32 := 8#32
  let c0_i32_8834 : BitVec 32 := 0#32
  let v7217 : BitVec 1 := Scalar.cmpi .eq c8_i32_8833 c0_i32_8834
  let c1_i32_8835 : BitVec 32 := 1#32
  let v7218 : BitVec 32 := Scalar.select v7217 c1_i32_8835 c8_i32_8833
  let v7219 : BitVec 32 := Scalar.remsi v7216 v7218
  let c0_i32_8837 : BitVec 32 := 0#32
  let v7221 : BitVec 1 := Scalar.cmpi .slt v7219 c0_i32_8837
  let c0_i32_8838 : BitVec 32 := 0#32
  let v7222 : BitVec 1 := Scalar.cmpi .slt v7218 c0_i32_8838
  let v7223 : BitVec 1 := Scalar.xori v7221 v7222
  let c0_i32_8836 : BitVec 32 := 0#32
  let v7220 : BitVec 1 := Scalar.cmpi .ne v7219 c0_i32_8836
  let v7224 : BitVec 1 := Scalar.andi v7223 v7220
  let v7225 : BitVec 32 := Scalar.addi v7219 v7218
  let v7226 : BitVec 32 := Scalar.select v7224 v7225 v7219
  let c1_i32_8839 : BitVec 32 := 1#32
  let v7227 : BitVec 32 := Scalar.muli v7226 c1_i32_8839
  let v7228 : BitVec 32 := Scalar.addi c0_i32_8840 v7227
  v7228.toNat
def k0_dev34 (d0 : Dev nD) : Nat :=
  let c0_i32_8852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8844 : BitVec 32 := 4#32
  let v7235 : BitVec 32 := Scalar.addi v2 c4_i32_8844
  let c8_i32_8845 : BitVec 32 := 8#32
  let c0_i32_8846 : BitVec 32 := 0#32
  let v7236 : BitVec 1 := Scalar.cmpi .eq c8_i32_8845 c0_i32_8846
  let c1_i32_8847 : BitVec 32 := 1#32
  let v7237 : BitVec 32 := Scalar.select v7236 c1_i32_8847 c8_i32_8845
  let v7238 : BitVec 32 := Scalar.remsi v7235 v7237
  let c0_i32_8849 : BitVec 32 := 0#32
  let v7240 : BitVec 1 := Scalar.cmpi .slt v7238 c0_i32_8849
  let c0_i32_8850 : BitVec 32 := 0#32
  let v7241 : BitVec 1 := Scalar.cmpi .slt v7237 c0_i32_8850
  let v7242 : BitVec 1 := Scalar.xori v7240 v7241
  let c0_i32_8848 : BitVec 32 := 0#32
  let v7239 : BitVec 1 := Scalar.cmpi .ne v7238 c0_i32_8848
  let v7243 : BitVec 1 := Scalar.andi v7242 v7239
  let v7244 : BitVec 32 := Scalar.addi v7238 v7237
  let v7245 : BitVec 32 := Scalar.select v7243 v7244 v7238
  let c1_i32_8851 : BitVec 32 := 1#32
  let v7246 : BitVec 32 := Scalar.muli v7245 c1_i32_8851
  let v7247 : BitVec 32 := Scalar.addi c0_i32_8852 v7246
  v7247.toNat
def k0_dev35 (d0 : Dev nD) : Nat :=
  let c0_i32_8864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_8856 : BitVec 32 := 5#32
  let v7254 : BitVec 32 := Scalar.addi v2 c5_i32_8856
  let c8_i32_8857 : BitVec 32 := 8#32
  let c0_i32_8858 : BitVec 32 := 0#32
  let v7255 : BitVec 1 := Scalar.cmpi .eq c8_i32_8857 c0_i32_8858
  let c1_i32_8859 : BitVec 32 := 1#32
  let v7256 : BitVec 32 := Scalar.select v7255 c1_i32_8859 c8_i32_8857
  let v7257 : BitVec 32 := Scalar.remsi v7254 v7256
  let c0_i32_8861 : BitVec 32 := 0#32
  let v7259 : BitVec 1 := Scalar.cmpi .slt v7257 c0_i32_8861
  let c0_i32_8862 : BitVec 32 := 0#32
  let v7260 : BitVec 1 := Scalar.cmpi .slt v7256 c0_i32_8862
  let v7261 : BitVec 1 := Scalar.xori v7259 v7260
  let c0_i32_8860 : BitVec 32 := 0#32
  let v7258 : BitVec 1 := Scalar.cmpi .ne v7257 c0_i32_8860
  let v7262 : BitVec 1 := Scalar.andi v7261 v7258
  let v7263 : BitVec 32 := Scalar.addi v7257 v7256
  let v7264 : BitVec 32 := Scalar.select v7262 v7263 v7257
  let c1_i32_8863 : BitVec 32 := 1#32
  let v7265 : BitVec 32 := Scalar.muli v7264 c1_i32_8863
  let v7266 : BitVec 32 := Scalar.addi c0_i32_8864 v7265
  v7266.toNat
def k0_dev36 (d0 : Dev nD) : Nat :=
  let c0_i32_8876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_8868 : BitVec 32 := 6#32
  let v7273 : BitVec 32 := Scalar.addi v2 c6_i32_8868
  let c8_i32_8869 : BitVec 32 := 8#32
  let c0_i32_8870 : BitVec 32 := 0#32
  let v7274 : BitVec 1 := Scalar.cmpi .eq c8_i32_8869 c0_i32_8870
  let c1_i32_8871 : BitVec 32 := 1#32
  let v7275 : BitVec 32 := Scalar.select v7274 c1_i32_8871 c8_i32_8869
  let v7276 : BitVec 32 := Scalar.remsi v7273 v7275
  let c0_i32_8873 : BitVec 32 := 0#32
  let v7278 : BitVec 1 := Scalar.cmpi .slt v7276 c0_i32_8873
  let c0_i32_8874 : BitVec 32 := 0#32
  let v7279 : BitVec 1 := Scalar.cmpi .slt v7275 c0_i32_8874
  let v7280 : BitVec 1 := Scalar.xori v7278 v7279
  let c0_i32_8872 : BitVec 32 := 0#32
  let v7277 : BitVec 1 := Scalar.cmpi .ne v7276 c0_i32_8872
  let v7281 : BitVec 1 := Scalar.andi v7280 v7277
  let v7282 : BitVec 32 := Scalar.addi v7276 v7275
  let v7283 : BitVec 32 := Scalar.select v7281 v7282 v7276
  let c1_i32_8875 : BitVec 32 := 1#32
  let v7284 : BitVec 32 := Scalar.muli v7283 c1_i32_8875
  let v7285 : BitVec 32 := Scalar.addi c0_i32_8876 v7284
  v7285.toNat
def k0_dev37 (d0 : Dev nD) : Nat :=
  let c0_i32_8888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_8880 : BitVec 32 := 7#32
  let v7292 : BitVec 32 := Scalar.addi v2 c7_i32_8880
  let c8_i32_8881 : BitVec 32 := 8#32
  let c0_i32_8882 : BitVec 32 := 0#32
  let v7293 : BitVec 1 := Scalar.cmpi .eq c8_i32_8881 c0_i32_8882
  let c1_i32_8883 : BitVec 32 := 1#32
  let v7294 : BitVec 32 := Scalar.select v7293 c1_i32_8883 c8_i32_8881
  let v7295 : BitVec 32 := Scalar.remsi v7292 v7294
  let c0_i32_8885 : BitVec 32 := 0#32
  let v7297 : BitVec 1 := Scalar.cmpi .slt v7295 c0_i32_8885
  let c0_i32_8886 : BitVec 32 := 0#32
  let v7298 : BitVec 1 := Scalar.cmpi .slt v7294 c0_i32_8886
  let v7299 : BitVec 1 := Scalar.xori v7297 v7298
  let c0_i32_8884 : BitVec 32 := 0#32
  let v7296 : BitVec 1 := Scalar.cmpi .ne v7295 c0_i32_8884
  let v7300 : BitVec 1 := Scalar.andi v7299 v7296
  let v7301 : BitVec 32 := Scalar.addi v7295 v7294
  let v7302 : BitVec 32 := Scalar.select v7300 v7301 v7295
  let c1_i32_8887 : BitVec 32 := 1#32
  let v7303 : BitVec 32 := Scalar.muli v7302 c1_i32_8887
  let v7304 : BitVec 32 := Scalar.addi c0_i32_8888 v7303
  v7304.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S4096x768 : Shape := ⟨2, ![4096, 768]⟩
abbrev S8x2x4096x512 : Shape := ⟨4, ![8, 2, 4096, 512]⟩
abbrev S8x2x4096x8x64 : Shape := ⟨5, ![8, 2, 4096, 8, 64]⟩
abbrev S2x4096x8x8x64 : Shape := ⟨5, ![2, 4096, 8, 8, 64]⟩
abbrev S2x4096x64x64 : Shape := ⟨4, ![2, 4096, 64, 64]⟩
abbrev S_ : Shape := ⟨0, ![]⟩
abbrev S2x512x4096 : Shape := ⟨3, ![2, 512, 4096]⟩
abbrev S2x512x64x64 : Shape := ⟨4, ![2, 512, 64, 64]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 144
  | .vmem => 0
  | .smem => 0
  | _ => 0

abbrev hbmTy0_0 (i : Nat) : BufTy := match i % 128 with
  | 0 => ⟨S2x512x768, .bf16⟩
  | 1 => ⟨S768x4096, .bf16⟩
  | 2 => ⟨S4096x768, .bf16⟩
  | 3 => ⟨S8x2x4096x512, .i8⟩
  | 4 => ⟨S8x2x4096x512, .i8⟩
  | 5 => ⟨S8x2x4096x8x64, .i8⟩
  | 6 => ⟨S2x4096x8x8x64, .i8⟩
  | 7 => ⟨S2x4096x64x64, .i8⟩
  | 8 => ⟨S2x4096x64x64, .i32⟩
  | 9 => ⟨S2x4096x64x64, .f32⟩
  | 10 => ⟨S_, .f32⟩
  | 11 => ⟨S2x4096x64x64, .f32⟩
  | 12 => ⟨S2x4096x64x64, .f32⟩
  | 13 => ⟨S8x2x4096x8x64, .i8⟩
  | 14 => ⟨S2x4096x8x8x64, .i8⟩
  | 15 => ⟨S2x4096x64x64, .i8⟩
  | 16 => ⟨S2x4096x64x64, .i32⟩
  | 17 => ⟨S2x4096x64x64, .f32⟩
  | 18 => ⟨S_, .f32⟩
  | 19 => ⟨S2x4096x64x64, .f32⟩
  | 20 => ⟨S2x4096x64x64, .f32⟩
  | 21 => ⟨S2x512x768, .f32⟩
  | 22 => ⟨S768x4096, .f32⟩
  | 23 => ⟨S2x512x4096, .f32⟩
  | 24 => ⟨S2x512x4096, .bf16⟩
  | 25 => ⟨S2x512x4096, .f32⟩
  | 26 => ⟨S2x512x64x64, .f32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S512x1, .i32⟩
  | 47 => ⟨S4096, .i32⟩
  | 48 => ⟨S_, .i32⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i1⟩
  | 56 => ⟨S4096, .i32⟩
  | 57 => ⟨S4096, .i32⟩
  | 58 => ⟨S_, .i32⟩
  | 59 => ⟨S4096, .i32⟩
  | 60 => ⟨S4096, .i1⟩
  | 61 => ⟨S4096, .i1⟩
  | 62 => ⟨S_, .i32⟩
  | 63 => ⟨S4096, .i32⟩
  | 64 => ⟨S4096, .i32⟩
  | 65 => ⟨S4096, .i32⟩
  | 66 => ⟨S1x4096, .i32⟩
  | 67 => ⟨S512x4096, .i32⟩
  | 68 => ⟨S512x4096, .i32⟩
  | 69 => ⟨S512x4096, .i1⟩
  | 70 => ⟨S_, .i32⟩
  | 71 => ⟨S1x4096, .i32⟩
  | 72 => ⟨S1x4096, .i1⟩
  | 73 => ⟨S512x4096, .i1⟩
  | 74 => ⟨S512x4096, .i1⟩
  | 75 => ⟨S512x4096, .i32⟩
  | 76 => ⟨S512x4096, .i32⟩
  | 77 => ⟨S512x4096, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S512x4096, .i32⟩
  | 85 => ⟨S512x4096, .i32⟩
  | 86 => ⟨S_, .i32⟩
  | 87 => ⟨S512x4096, .i32⟩
  | 88 => ⟨S512x4096, .i1⟩
  | 89 => ⟨S_, .i32⟩
  | 90 => ⟨S512x4096, .i32⟩
  | 91 => ⟨S512x4096, .i1⟩
  | 92 => ⟨S_, .i32⟩
  | 93 => ⟨S_, .i1⟩
  | 94 => ⟨S512x4096, .i1⟩
  | 95 => ⟨S512x4096, .i1⟩
  | 96 => ⟨S512x4096, .i1⟩
  | 97 => ⟨S512x4096, .i32⟩
  | 98 => ⟨S512x4096, .i32⟩
  | 99 => ⟨S512x4096, .i32⟩
  | 100 => ⟨S_, .i32⟩
  | 101 => ⟨S512x4096, .i32⟩
  | 102 => ⟨S512x4096, .i1⟩
  | 103 => ⟨S512x4096, .i1⟩
  | 104 => ⟨S2x64x512x4096, .f32⟩
  | 105 => ⟨S_, .f32⟩
  | 106 => ⟨S2x64x512x4096, .f32⟩
  | 107 => ⟨S2x64x512x4096, .f32⟩
  | 108 => ⟨S1x1x512x4096, .i1⟩
  | 109 => ⟨S_, .f32⟩
  | 110 => ⟨S_, .f32⟩
  | 111 => ⟨S2x64x512x4096, .i1⟩
  | 112 => ⟨S2x64x512x4096, .f32⟩
  | 113 => ⟨S2x64x512x4096, .f32⟩
  | 114 => ⟨S_, .f32⟩
  | 115 => ⟨S2x64x512, .f32⟩
  | 116 => ⟨S2x64x512x1, .f32⟩
  | 117 => ⟨S2x64x512x4096, .f32⟩
  | 118 => ⟨S2x64x512x4096, .f32⟩
  | 119 => ⟨S2x64x512x4096, .f32⟩
  | 120 => ⟨S_, .i1⟩
  | 121 => ⟨S512, .i1⟩
  | 122 => ⟨S1x1x512x1, .i1⟩
  | 123 => ⟨S_, .f32⟩
  | 124 => ⟨S2x64x512, .f32⟩
  | 125 => ⟨S2x64x512x1, .f32⟩
  | 126 => ⟨S_, .f32⟩
  | 127 => ⟨S2x64x512x1, .i1⟩
  | _ => ⟨S2x512x768, .bf16⟩

abbrev hbmTy0_1 (i : Nat) : BufTy := match i % 128 with
  | 0 => ⟨S2x64x512x1, .f32⟩
  | 1 => ⟨S2x64x512x1, .f32⟩
  | 2 => ⟨S2x64x512x4096, .f32⟩
  | 3 => ⟨S2x64x512x4096, .f32⟩
  | 4 => ⟨S1x1x512x1, .i1⟩
  | 5 => ⟨S_, .f32⟩
  | 6 => ⟨S2x64x512x4096, .i1⟩
  | 7 => ⟨S2x64x512x4096, .f32⟩
  | 8 => ⟨S2x64x512x4096, .f32⟩
  | 9 => ⟨S2x64x64x512, .f32⟩
  | 10 => ⟨S2x512x64x64, .f32⟩
  | 11 => ⟨S2x512x4096, .f32⟩
  | 12 => ⟨S2x512x4096, .bf16⟩
  | 13 => ⟨S2x512x4096, .f32⟩
  | 14 => ⟨S4096x768, .f32⟩
  | 15 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_3 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v36 : Ref sig .tc := ⟨.hbm, 99, rfl⟩
abbrev main_c_4 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_5 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_6 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v44 : Ref sig .tc := ⟨.hbm, 113, rfl⟩
abbrev main_cst_7 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_c_8 : Ref sig .tc := ⟨.hbm, 120, rfl⟩
abbrev main_v50 : Ref sig .tc := ⟨.hbm, 121, rfl⟩
abbrev main_v51 : Ref sig .tc := ⟨.hbm, 122, rfl⟩
abbrev main_cst_9 : Ref sig .tc := ⟨.hbm, 123, rfl⟩
abbrev main_v52 : Ref sig .tc := ⟨.hbm, 124, rfl⟩
abbrev main_v53 : Ref sig .tc := ⟨.hbm, 125, rfl⟩
abbrev main_cst_10 : Ref sig .tc := ⟨.hbm, 126, rfl⟩
abbrev main_call4_v0 : Ref sig .tc := ⟨.hbm, 127, rfl⟩
abbrev main_call4_v1 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_11 : Ref sig .tc := ⟨.hbm, 133, rfl⟩
abbrev main_call5_v0 : Ref sig .tc := ⟨.hbm, 134, rfl⟩
abbrev main_call5_v1 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩

abbrev nD : Nat := 1
abbrev τ : Topo := Topo.v7x

variable {F : FTy → Type} [FloatOps F]
-- ==== Cast.lean ====
abbrev S2x512x4096 : Shape := ⟨3, ![2, 512, 4096]⟩
abbrev S8x2x512x512 : Shape := ⟨4, ![8, 2, 512, 512]⟩
abbrev S2x512x512 : Shape := ⟨3, ![2, 512, 512]⟩
abbrev S1x2x512x512 : Shape := ⟨4, ![1, 2, 512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2x512x4096, .bf16⟩
  | .hbm, ⟨1, _⟩ => ⟨S2x512x4096, .bf16⟩
  | .hbm, ⟨2, _⟩ => ⟨S8x2x512x512, .i8⟩
  | .hbm, ⟨3, _⟩ => ⟨S8x2x512x512, .i8⟩
  | .local _ .vmem, ⟨0, _⟩ => ⟨S2x512x512, .bf16⟩
  | .local _ .vmem, ⟨1, _⟩ => ⟨S2x512x512, .bf16⟩
  | .local _ .vmem, ⟨2, _⟩ => ⟨S2x512x512, .bf16⟩
  | .local _ .vmem, ⟨3, _⟩ => ⟨S2x512x512, .bf16⟩
  | .local _ .vmem, ⟨4, _⟩ => ⟨S1x2x512x512, .i8⟩
  | .local _ .vmem, ⟨5, _⟩ => ⟨S1x2x512x512, .i8⟩
  | .local _ .vmem, ⟨6, _⟩ => ⟨S1x2x512x512, .i8⟩
  | .local _ .vmem, ⟨7, _⟩ => ⟨S1x2x512x512, .i8⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x512x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantiseIdeal.lean ====
abbrev S2x512x4096 : Shape := ⟨3, ![2, 512, 4096]⟩
abbrev S_ : Shape := ⟨0, ![]⟩
abbrev S2x512x8x512 : Shape := ⟨4, ![2, 512, 8, 512]⟩
abbrev S8x2x512x512 : Shape := ⟨4, ![8, 2, 512, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x512x4096, .bf16⟩
  | .hbm, ⟨1, _⟩ => ⟨S2x512x4096, .bf16⟩
  | .hbm, ⟨2, _⟩ => ⟨S_, .bf16⟩
  | .hbm, ⟨3, _⟩ => ⟨S2x512x4096, .bf16⟩
  | .hbm, ⟨4, _⟩ => ⟨S2x512x4096, .bf16⟩
  | .hbm, ⟨5, _⟩ => ⟨S_, .f32⟩
  | .hbm, ⟨6, _⟩ => ⟨S_, .f32⟩
  | .hbm, ⟨7, _⟩ => ⟨S_, .bf16⟩
  | .hbm, ⟨8, _⟩ => ⟨S2x512x4096, .bf16⟩
  | .hbm, ⟨9, _⟩ => ⟨S2x512x4096, .bf16⟩
  | .hbm, ⟨10, _⟩ => ⟨S_, .bf16⟩
  | .hbm, ⟨11, _⟩ => ⟨S2x512x4096, .bf16⟩
  | .hbm, ⟨12, _⟩ => ⟨S2x512x4096, .bf16⟩
  | .hbm, ⟨13, _⟩ => ⟨S2x512x4096, .bf16⟩
  | .hbm, ⟨14, _⟩ => ⟨S2x512x4096, .f32⟩
  | .hbm, ⟨15, _⟩ => ⟨S2x512x4096, .i32⟩
  | .hbm, ⟨16, _⟩ => ⟨S2x512x4096, .i8⟩
  | .hbm, ⟨17, _⟩ => ⟨S2x512x8x512, .i8⟩
  | .hbm, ⟨18, _⟩ => ⟨S8x2x512x512, .i8⟩
  | .hbm, ⟨19, _⟩ => ⟨S_, .bf16⟩
  | .hbm, ⟨20, _⟩ => ⟨S2x512x4096, .bf16⟩
  | .hbm, ⟨21, _⟩ => ⟨S2x512x4096, .bf16⟩
  | .hbm, ⟨22, _⟩ => ⟨S_, .f32⟩
  | .hbm, ⟨23, _⟩ => ⟨S_, .f32⟩
  | .hbm, ⟨24, _⟩ => ⟨S_, .bf16⟩
  | .hbm, ⟨25, _⟩ => ⟨S2x512x4096, .bf16⟩
  | .hbm, ⟨26, _⟩ => ⟨S2x512x4096, .bf16⟩
  | .hbm, ⟨27, _⟩ => ⟨S_, .bf16⟩
  | .hbm, ⟨28, _⟩ => ⟨S2x512x4096, .bf16⟩
  | .hbm, ⟨29, _⟩ => ⟨S2x512x4096, .bf16⟩
  | .hbm, ⟨30, _⟩ => ⟨S2x512x4096, .bf16⟩
  | .hbm, ⟨31, _⟩ => ⟨S2x512x4096, .f32⟩
  | .hbm, ⟨32, _⟩ => ⟨S2x512x4096, .i32⟩
  | .hbm, ⟨33, _⟩ => ⟨S2x512x4096, .i8⟩
  | .hbm, ⟨34, _⟩ => ⟨S2x512x8x512, .i8⟩
  | .hbm, ⟨35, _⟩ => ⟨S8x2x512x512, .i8⟩
  | _, _ => ⟨S2x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Proof.Fold.lean ====
/-
The kernel's body, folded.

The printed body repeats a handful of pieces: a slot sent to a peer, a slot waited for, the 19 (or 18) key blocks of one
head loaded, one block of the context stored.  Here each piece is written once, at its indices, the repeated stretches are
recursions over the indices, and `body_eq` says that the printed body is the folded one, by unfolding.
-/
module

public import proofs.«01_k».proof.Proof.Gen.KernelIdeal.Skeleton

@[expose] public section

noncomputable section

namespace Cert.KernelIdeal.Fold

open Idealize.ShloMosaic Idealize.SL.Sem Cert.KernelIdeal.Gen

variable {F : FTy → Type} [FloatOps F] [Named F] {β : Type}

/-- Programs of the kernel's core. -/
abbrev PG (F : FTy → Type) (β : Type) := Prog (TpuEff nD τ sig (Elt F) Λ₀ .tc) β

/-- A sequence with `v` in front. -/
def natCons {α : Type} (v : α) (f : ℕ → α) : ℕ → α
  | 0 => v
  | i + 1 => f i

/-! ## Slots and semaphores -/

/-- The slot at offset `off` of a buffer of eight slots of codes. -/
def slotC {sp} (m : Memref sig .tc sp S8x2x512x512 .i8) (off : Fin 4 → ℕ)
    (h : ∀ a, off a + S1x2x512x512.size a ≤ S8x2x512x512.size a) : Memref sig .tc sp S2x512x512 .i8 :=
  (m.slice (Rect.unit (s := S8x2x512x512) off S1x2x512x512.size h) (fun _ => rfl)).squeeze S2x512x512 squeezes_S1x2x512x512_S2x512x512

/-- The slot at offset `off` of a buffer of eight slots of partial results. -/
def slotP (m : Memref sig .tc .vmem S8x2x64x768 .bf16) (off : Fin 4 → ℕ)
    (h : ∀ a, off a + S1x2x64x768.size a ≤ S8x2x64x768.size a) : Memref sig .tc .vmem S2x64x768 .bf16 :=
  (m.slice (Rect.unit (s := S8x2x64x768) off S1x2x64x768.size h) (fun _ => rfl)).squeeze S2x64x768 squeezes_S1x2x64x768_S2x64x768

/-- The semaphore at offset `off` of an array of eight. -/
def semAt (s : DmaSems sig S8) (off : Fin 1 → ℕ) (h : ∀ a, off a + S1.size a ≤ S8.size a) : DmaSem sig :=
  ((s.slice (Rect.unit (s := S8) off S1.size h)).squeeze S_ squeezes_S1_S_).sem

theorem sem_inb (j : Fin 8) : ∀ a, (![j.val] : Fin 1 → ℕ) a + S1.size a ≤ S8.size a := by revert j; decide

theorem slotC_inb (j : Fin 8) : ∀ a, (![j.val, 0, 0, 0] : Fin 4 → ℕ) a + S1x2x512x512.size a ≤ S8x2x512x512.size a := by
  revert j; decide

theorem slotP_inb (j : Fin 8) : ∀ a, (![j.val, 0, 0, 0] : Fin 4 → ℕ) a + S1x2x64x768.size a ≤ S8x2x64x768.size a := by
  revert j; decide

theorem slotC_words (j : Fin 8) :
    (Rect.unit (s := S8x2x512x512) ![j.val, 0, 0, 0] S1x2x512x512.size (slotC_inb j)).WholeWords (EltTy.packing .i8) := by
  revert j; decide

theorem slotP_words (j : Fin 8) :
    (Rect.unit (s := S8x2x64x768) ![j.val, 0, 0, 0] S1x2x64x768.size (slotP_inb j)).WholeWords (EltTy.packing .bf16) := by
  revert j; decide

/-! ## The exchanges -/

/-- The barrier semaphore. -/
def barA : Sems sig S_ := SemArray.scalar (sig.barrier 0 rfl)

/-- The seven signals of the entry handshake and its wait. -/
def handshake (d0 : Dev nD) (K : PG F β) : PG F β :=
  (semSignalWord (⟨k0_dev1 d0, k0_dev1_lt d0⟩ : Dev nD) barA.sem 1#32).bind fun _ =>
  (semSignalWord (⟨k0_dev2 d0, k0_dev2_lt d0⟩ : Dev nD) barA.sem 1#32).bind fun _ =>
  (semSignalWord (⟨k0_dev3 d0, k0_dev3_lt d0⟩ : Dev nD) barA.sem 1#32).bind fun _ =>
  (semSignalWord (⟨k0_dev4 d0, k0_dev4_lt d0⟩ : Dev nD) barA.sem 1#32).bind fun _ =>
  (semSignalWord (⟨k0_dev5 d0, k0_dev5_lt d0⟩ : Dev nD) barA.sem 1#32).bind fun _ =>
  (semSignalWord (⟨k0_dev6 d0, k0_dev6_lt d0⟩ : Dev nD) barA.sem 1#32).bind fun _ =>
  (semSignalWord (⟨k0_dev7 d0, k0_dev7_lt d0⟩ : Dev nD) barA.sem 1#32).bind fun _ =>
  (semWaitWord barA.sem 7#32).bind fun _ => K

/-- Slot `me + 1 + r` of the codes `src` sent to device `p`, into slot `me` there. -/
def sendC (src : Memref sig .tc .hbm S8x2x512x512 .i8) (hs : src.IsWhole) (dst : Memref sig .tc .vmem S8x2x512x512 .i8)
    (hd : dst.IsWhole) (ss rs : DmaSems sig S8) (d0 : Dev nD) (r : Fin 7) (p : Dev nD) (K : PG F β) : PG F β :=
  .op (.enqueueDma (slotC src (k0_off4 d0 (BitVec.ofNat 32 (1 + r.val))) (k0_off4_inb d0 r))
    (.remote (Dev.tc p) (slotC dst (k0_off3 d0) (k0_off3_inb d0))
      (.dma (semAt ss (k0_off1 d0 (BitVec.ofNat 32 (r.succ).val)) (k0_off1_inb d0 r.succ))))
    (.dma (semAt rs (k0_off2 d0) (k0_off2_inb d0)))
    ((hs.wordExact_slice rfl _ (k0_off4_wordsi8 d0 r)).reshape _ _) ((hd.wordExact_slice rfl _ (k0_off3_wordsi8 d0)).reshape _ _)
    ⟨⟨rfl, Or.inl rfl⟩, trivial⟩) fun _ => K

/-- Slot `me` of the codes `src` copied into slot `me` of this device's own buffer. -/
def copyC (src : Memref sig .tc .hbm S8x2x512x512 .i8) (hs : src.IsWhole) (dst : Memref sig .tc .vmem S8x2x512x512 .i8)
    (hd : dst.IsWhole) (rs : DmaSems sig S8) (d0 : Dev nD) (K : PG F β) : PG F β :=
  .op (.enqueueDma (slotC src (k0_off3 d0) (k0_off3_inb d0)) (.here (slotC dst (k0_off3 d0) (k0_off3_inb d0)))
    (.dma (semAt rs (k0_off2 d0) (k0_off2_inb d0)))
    ((hs.wordExact_slice rfl _ (k0_off3_wordsi8 d0)).reshape _ _) ((hd.wordExact_slice rfl _ (k0_off3_wordsi8 d0)).reshape _ _)
    ⟨Or.inl rfl, trivial⟩) fun _ => K

/-- The wait for slot `j` of the codes. -/
def waitC (dst : Memref sig .tc .vmem S8x2x512x512 .i8) (hd : dst.IsWhole) (rs : DmaSems sig S8) (j : Fin 8) (K : PG F β) :
    PG F β :=
  .op (.waitDma2 (semAt rs ![j.val] (sem_inb j)) (slotC dst ![j.val, 0, 0, 0] (slotC_inb j)) (slotC dst ![j.val, 0, 0, 0] (slotC_inb j))
    ((hd.wordExact_slice rfl _ (slotC_words j)).reshape _ _) ((hd.wordExact_slice rfl _ (slotC_words j)).reshape _ _)) fun _ => K

/-- The wait for the send of `sendC` to have left. -/
def sentC (src : Memref sig .tc .hbm S8x2x512x512 .i8) (hs : src.IsWhole) (dst : Memref sig .tc .vmem S8x2x512x512 .i8)
    (hd : dst.IsWhole) (ss : DmaSems sig S8) (d0 : Dev nD) (r : Fin 7) (K : PG F β) : PG F β :=
  .op (.waitDma2 (semAt ss (k0_off1 d0 (BitVec.ofNat 32 (r.succ).val)) (k0_off1_inb d0 r.succ)) (slotC dst (k0_off3 d0) (k0_off3_inb d0))
    (slotC src (k0_off4 d0 (BitVec.ofNat 32 (1 + r.val))) (k0_off4_inb d0 r))
    ((hd.wordExact_slice rfl _ (k0_off3_wordsi8 d0)).reshape _ _) ((hs.wordExact_slice rfl _ (k0_off4_wordsi8 d0 r)).reshape _ _)) fun _ => K

/-- Slot `qb` of the partial results sent to device `p`, into slot `me` there. -/
def sendP (src dst : Memref sig .tc .vmem S8x2x64x768 .bf16) (hs : src.IsWhole) (hd : dst.IsWhole) (ss rs : DmaSems sig S8)
    (d0 : Dev nD) (qb : Fin 8) (p : Dev nD) (K : PG F β) : PG F β :=
  .op (.enqueueDma (slotP src ![qb.val, 0, 0, 0] (slotP_inb qb))
    (.remote (Dev.tc p) (slotP dst (k0_off5 d0) (k0_off5_inb d0)) (.dma (semAt ss ![qb.val] (sem_inb qb))))
    (.dma (semAt rs (k0_off2 d0) (k0_off2_inb d0)))
    ((hs.wordExact_slice rfl _ (slotP_words qb)).reshape _ _) ((hd.wordExact_slice rfl _ (k0_off5_wordsbf16 d0)).reshape _ _)
    ⟨⟨rfl, Or.inl rfl⟩, trivial⟩) fun _ => K

/-- The wait for slot `j` of the received partial results. -/
def waitP (src dst : Memref sig .tc .vmem S8x2x64x768 .bf16) (hs : src.IsWhole) (hd : dst.IsWhole) (rs : DmaSems sig S8)
    (j : Fin 8) (K : PG F β) : PG F β :=
  .op (.waitDma2 (semAt rs ![j.val] (sem_inb j)) (slotP src ![j.val, 0, 0, 0] (slotP_inb j)) (slotP dst ![j.val, 0, 0, 0] (slotP_inb j))
    ((hs.wordExact_slice rfl _ (slotP_words j)).reshape _ _) ((hd.wordExact_slice rfl _ (slotP_words j)).reshape _ _)) fun _ => K

/-- The wait for the send of `sendP` to have left. -/
def sentP (src dst : Memref sig .tc .vmem S8x2x64x768 .bf16) (hs : src.IsWhole) (hd : dst.IsWhole) (ss : DmaSems sig S8)
    (d0 : Dev nD) (qb : Fin 8) (K : PG F β) : PG F β :=
  .op (.waitDma2 (semAt ss ![qb.val] (sem_inb qb)) (slotP dst (k0_off5 d0) (k0_off5_inb d0)) (slotP src ![qb.val, 0, 0, 0] (slotP_inb qb))
    ((hd.wordExact_slice rfl _ (k0_off5_wordsbf16 d0)).reshape _ _) ((hs.wordExact_slice rfl _ (slotP_words qb)).reshape _ _)) fun _ => K

/-- The reduced block sent to device `p`, into slot `me` there. -/
def sendG (src : Memref sig .tc .vmem S2x64x768 .bf16) (hs : src.IsWhole) (dst : Memref sig .tc .vmem S8x2x64x768 .bf16)
    (hd : dst.IsWhole) (ss rs : DmaSems sig S8) (d0 : Dev nD) (d : Fin 8) (p : Dev nD) (K : PG F β) : PG F β :=
  .op (.enqueueDma src
    (.remote (Dev.tc p) (slotP dst (k0_off5 d0) (k0_off5_inb d0)) (.dma (semAt ss (k0_off1 d0 (BitVec.ofNat 32 d.val)) (k0_off1_inb d0 d))))
    (.dma (semAt rs (k0_off2 d0) (k0_off2_inb d0))) hs.wordExact ((hd.wordExact_slice rfl _ (k0_off5_wordsbf16 d0)).reshape _ _)
    ⟨⟨rfl, Or.inl rfl⟩, trivial⟩) fun _ => K

/-- The wait for slot `j` of the gathered blocks. -/
def waitG (src : Memref sig .tc .vmem S2x64x768 .bf16) (hs : src.IsWhole) (dst : Memref sig .tc .vmem S8x2x64x768 .bf16)
    (hd : dst.IsWhole) (rs : DmaSems sig S8) (j : Fin 8) (K : PG F β) : PG F β :=
  .op (.waitDma2 (semAt rs ![j.val] (sem_inb j)) src (slotP dst ![j.val, 0, 0, 0] (slotP_inb j)) hs.wordExact
    ((hd.wordExact_slice rfl _ (slotP_words j)).reshape _ _)) fun _ => K

/-- The wait for the send of `sendG` to have left. -/
def sentG (src : Memref sig .tc .vmem S2x64x768 .bf16) (hs : src.IsWhole) (dst : Memref sig .tc .vmem S8x2x64x768 .bf16)
    (hd : dst.IsWhole) (ss : DmaSems sig S8) (d0 : Dev nD) (d : Fin 8) (K : PG F β) : PG F β :=
  .op (.waitDma2 (semAt ss (k0_off1 d0 (BitVec.ofNat 32 d.val)) (k0_off1_inb d0 d)) (slotP dst (k0_off5 d0) (k0_off5_inb d0)) src
    ((hd.wordExact_slice rfl _ (k0_off5_wordsbf16 d0)).reshape _ _) hs.wordExact) fun _ => K

/-! ## Loads and stores -/

theorem row_inb (t : ℕ) (ht : t < 16) :
    ∀ a, (![0, t / 8, 0, t % 8 * 64] : Fin 4 → ℕ) a + S1x1x512x64.size a ≤ S8x2x512x512.size a := by
  have : ∀ t : Fin 16, ∀ a, (![0, t.val / 8, 0, t.val % 8 * 64] : Fin 4 → ℕ) a + S1x1x512x64.size a ≤ S8x2x512x512.size a := by decide
  exact this ⟨t, ht⟩

theorem blk_inb (t : ℕ) (ht : t < 16) (n : ℕ) (hn : n < 64) :
    ∀ a, (![n / 8, t / 8, n % 8 * 64, t % 8 * 64] : Fin 4 → ℕ) a + S1x1x64x64.size a ≤ S8x2x512x512.size a := by
  have : ∀ a, (![n / 8, t / 8, n % 8 * 64, t % 8 * 64] : Fin 4 → ℕ) a + (![1, 1, 64, 64] : Fin 4 → ℕ) a ≤ (![8, 2, 512, 512] : Fin 4 → ℕ) a := by
    intro a; fin_cases a <;> simp <;> omega
  exact this

theorem ctx_inb (t : ℕ) (ht : t < 16) (n : ℕ) (hn : n < 8) :
    ∀ a, (![t / 8, n * 64, t % 8 * 64] : Fin 3 → ℕ) a + S1x64x64.size a ≤ S2x512x512.size a := by
  have : ∀ a, (![t / 8, n * 64, t % 8 * 64] : Fin 3 → ℕ) a + (![1, 64, 64] : Fin 3 → ℕ) a ≤ (![2, 512, 512] : Fin 3 → ℕ) a := by
    intro a; fin_cases a <;> simp <;> omega
  exact this

theorem ctx_packed (t : ℕ) (ht : t < 16) (n : ℕ) (hn : n < 8) :
    (Rect.unit (s := S2x512x512) ![t / 8, n * 64, t % 8 * 64] S1x64x64.size (ctx_inb t ht n hn)).PackedRows (EltTy.packing .bf16) := by
  refine .inr ⟨(by decide : 2 ≤ 3), rfl, .inl ⟨?_, ?_⟩⟩
  · exact (show 2 ∣ n * 64 from ⟨n * 32, by omega⟩)
  · exact (show 2 ∣ 64 by decide)

theorem ctxRow_inb (b : ℕ) (hb : b < 2) (n : ℕ) (hn : n < 8) :
    ∀ a, (![b, n * 64, 0] : Fin 3 → ℕ) a + S1x64x512.size a ≤ S2x512x512.size a := by
  have : ∀ a, (![b, n * 64, 0] : Fin 3 → ℕ) a + (![1, 64, 512] : Fin 3 → ℕ) a ≤ (![2, 512, 512] : Fin 3 → ℕ) a := by
    intro a; fin_cases a <;> simp <;> omega
  exact this

theorem part_inb (b : ℕ) (hb : b < 2) (n : ℕ) (hn : n < 8) :
    ∀ a, (![n, b, 0, 0] : Fin 4 → ℕ) a + S1x1x64x768.size a ≤ S8x2x64x768.size a := by
  have : ∀ a, (![n, b, 0, 0] : Fin 4 → ℕ) a + (![1, 1, 64, 768] : Fin 4 → ℕ) a ≤ (![8, 2, 64, 768] : Fin 4 → ℕ) a := by
    intro a; fin_cases a <;> simp <;> omega
  exact this

theorem part_packed (b : ℕ) (hb : b < 2) (n : ℕ) (hn : n < 8) :
    (Rect.unit (s := S8x2x64x768) ![n, b, 0, 0] S1x1x64x768.size (part_inb b hb n hn)).PackedRows (EltTy.packing .bf16) := by
  refine .inr ⟨(by decide : 2 ≤ 4), rfl, .inl ⟨?_, ?_⟩⟩
  · exact (show 2 ∣ 0 by omega)
  · exact (show 2 ∣ 64 by decide)

theorem out_inb (j : Fin 8) : ∀ a, (![0, j.val * 64, 0] : Fin 3 → ℕ) a + S2x64x768.size a ≤ S2x512x768.size a := by
  revert j; decide

/-- The 512 codes of device 0's slot for batch and head `t`. -/
def loadRow (m : Memref sig .tc .vmem S8x2x512x512 .i8) (t : ℕ) (ht : t < 16) (K : Vec F S1x1x512x64 .i8 → PG F β) : PG F β :=
  .op (.load m (Rect.unit (s := S8x2x512x512) ![0, t / 8, 0, t % 8 * 64] S1x1x512x64.size (row_inb t ht)).toLoadRect
    (View.loadsAt_vmem h_S1x1x512x64)) K

/-- Block `n` of 64 keys for batch and head `t`. -/
def loadBlk (m : Memref sig .tc .vmem S8x2x512x512 .i8) (t : ℕ) (ht : t < 16) (n : ℕ) (hn : n < 64)
    (K : Vec F S1x1x64x64 .i8 → PG F β) : PG F β :=
  .op (.load m (Rect.unit (s := S8x2x512x512) ![n / 8, t / 8, n % 8 * 64, t % 8 * 64] S1x1x64x64.size (blk_inb t ht n hn)).toLoadRect
    (View.loadsAt_vmem h_S1x1x64x64)) K

/-- `c` blocks of 64 keys, every third from `n` on. -/
def loadBlks (m : Memref sig .tc .vmem S8x2x512x512 .i8) (t : ℕ) (ht : t < 16) :
    (c : ℕ) → (n : ℕ) → n + 3 * c < 67 → ((ℕ → Vec F S1x1x64x64 .i8) → PG F β) → PG F β
  | 0, _, _, K => K fun _ _ => (0 : BitVec 8)
  | c + 1, n, h, K => loadBlk m t ht n (by omega) fun v => loadBlks m t ht c (n + 3) (by omega) fun f => K (natCons v f)

/-- Device 0's codes for `c` batches and heads from `t` on. -/
def loadRows (mk mv : Memref sig .tc .vmem S8x2x512x512 .i8) :
    (c : ℕ) → (t : ℕ) → t + c ≤ 16 → ((ℕ → Vec F S1x1x512x64 .i8 × Vec F S1x1x512x64 .i8) → PG F β) → PG F β
  | 0, _, _, K => K fun _ => (fun _ => (0 : BitVec 8), fun _ => (0 : BitVec 8))
  | c + 1, t, h, K =>
    loadRow mk t (by omega) fun k => loadRow mv t (by omega) fun v => loadRows mk mv c (t + 1) (by omega) fun f => K (natCons (k, v) f)

/-- Query block `n` of batch and head `t` of the context stored. -/
def stCtx (m : Memref sig .tc .vmem S2x512x512 .bf16) (hm : m.IsWhole) (t : ℕ) (ht : t < 16) (n : ℕ) (hn : n < 8)
    (w : FVec F S64x64 .bf16) (K : PG F β) : PG F β :=
  .op (.load m (Rect.unit (s := S2x512x512) ![t / 8, n * 64, t % 8 * 64] S1x64x64.size (ctx_inb t ht n hn)).toLoadRect
    (View.loadsAt_vmem h_S1x64x64)) fun _ =>
  .op (.store m (Rect.unit (s := S2x512x512) ![t / 8, n * 64, t % 8 * 64] S1x64x64.size (ctx_inb t ht n hn))
    (shapeCast S1x64x64 w shapeCasts_S64x64_S1x64x64) Finset.univ
    (View.stores_vmem h_S1x64x64 (hm.storeExact_slice rfl _ (ctx_packed t ht n hn)) (fun _ => rfl)) (.inl rfl)) fun _ => K

/-! ## The values -/

/-- The mask of the first 512 keys: query block and key block equal, first key block, or sum divisible by three. -/
def mask : IVec S512x512 1 := k0_pay26 k0_pay22 k0_pay23 k0_pay24 k0_pay25

theorem slices_x (t : ℕ) (ht : t < 16) : S2x512x768.Slices ![t / 8, 0, 0] S1x512x768 := by
  have : ∀ t : Fin 16, S2x512x768.Slices ![t.val / 8, 0, 0] S1x512x768 := by decide
  exact this ⟨t, ht⟩

theorem slices_w (t : ℕ) : S768x512.Slices ![0, t % 8 * 64] S768x64 := by
  have : ∀ h : Fin 8, S768x512.Slices ![0, h.val * 64] S768x64 := by decide
  exact this ⟨t % 8, Nat.mod_lt _ (by decide)⟩

theorem slices_512x64 (n : ℕ) (hn : n < 8) : S512x64.Slices ![n * 64, 0] S64x64 := by
  have : ∀ h : Fin 8, S512x64.Slices ![h.val * 64, 0] S64x64 := by decide
  exact this ⟨n, hn⟩

theorem slices_512x1 (n : ℕ) (hn : n < 8) : S512x1.Slices ![n * 64, 0] S64x1 := by
  have : ∀ h : Fin 8, S512x1.Slices ![h.val * 64, 0] S64x1 := by decide
  exact this ⟨n, hn⟩

theorem slices_192x64 (i : Fin 3) : S192x64.Slices ![i.val * 64, 0] S64x64 := by revert i; decide
theorem slices_192x1 (i : Fin 3) : S192x1.Slices ![i.val * 64, 0] S64x1 := by revert i; decide
theorem slices_128x64 (i : Fin 2) : S128x64.Slices ![i.val * 64, 0] S64x64 := by revert i; decide
theorem slices_128x1 (i : Fin 2) : S128x1.Slices ![i.val * 64, 0] S64x1 := by revert i; decide

/-- The scaled queries of batch and head `t`. -/
def qv (x : Vec F S2x512x768 .bf16) (w : Vec F S768x512 .bf16) (t : ℕ) (ht : t < 16) : FVec F S512x64 .bf16 :=
  truncf .bf16 (mulf (matmul dot_S512x768_S768x64_S512x64_1_0_0_1_n_n none
    (shapeCast S512x768 (extractStridedSlice S1x512x768 ![t / 8, 0, 0] (k0_pay1 x) (slices_x t ht)) shapeCasts_S1x512x768_S512x768)
    (extractStridedSlice S768x64 ![0, t % 8 * 64] (k0_pay2 w) (slices_w t)) (constant S512x64 .f32 0x00000000#32))
    (broadcast S512x64 (Scalar.ofBits .f32 0x3B912245#32))) bitsLt_bf16_f32

/-- The row sums of the masked exponentials over the first 512 keys. -/
def l0v (q : FVec F S512x64 .bf16) (kv : Vec F S1x1x512x64 .i8 × Vec F S1x1x512x64 .i8) : FVec F S512x1 .f32 := k0_pay32 q mask kv.1

/-- Their products with the first 512 values. -/
def a0v (q : FVec F S512x64 .bf16) (kv : Vec F S1x1x512x64 .i8 × Vec F S1x1x512x64 .i8) : FVec F S512x64 .f32 := k0_pay33 q mask kv.1 kv.2

/-- Nineteen blocks of codes on top of each other, as numbers. -/
def catA (f : ℕ → Vec F S1x1x64x64 .i8) : FVec F S1216x64 .bf16 :=
  sitofp .bf16 (concatenate S1216x64 0 [⟨S64x64, shapeCast S64x64 (f 0) shapeCasts_S1x1x64x64_S64x64⟩, ⟨S64x64, shapeCast S64x64 (f 1) shapeCasts_S1x1x64x64_S64x64⟩, ⟨S64x64, shapeCast S64x64 (f 2) shapeCasts_S1x1x64x64_S64x64⟩, ⟨S64x64, shapeCast S64x64 (f 3) shapeCasts_S1x1x64x64_S64x64⟩, ⟨S64x64, shapeCast S64x64 (f 4) shapeCasts_S1x1x64x64_S64x64⟩, ⟨S64x64, shapeCast S64x64 (f 5) shapeCasts_S1x1x64x64_S64x64⟩, ⟨S64x64, shapeCast S64x64 (f 6) shapeCasts_S1x1x64x64_S64x64⟩, ⟨S64x64, shapeCast S64x64 (f 7) shapeCasts_S1x1x64x64_S64x64⟩, ⟨S64x64, shapeCast S64x64 (f 8) shapeCasts_S1x1x64x64_S64x64⟩, ⟨S64x64, shapeCast S64x64 (f 9) shapeCasts_S1x1x64x64_S64x64⟩, ⟨S64x64, shapeCast S64x64 (f 10) shapeCasts_S1x1x64x64_S64x64⟩, ⟨S64x64, shapeCast S64x64 (f 11) shapeCasts_S1x1x64x64_S64x64⟩, ⟨S64x64, shapeCast S64x64 (f 12) shapeCasts_S1x1x64x64_S64x64⟩, ⟨S64x64, shapeCast S64x64 (f 13) shapeCasts_S1x1x64x64_S64x64⟩, ⟨S64x64, shapeCast S64x64 (f 14) shapeCasts_S1x1x64x64_S64x64⟩, ⟨S64x64, shapeCast S64x64 (f 15) shapeCasts_S1x1x64x64_S64x64⟩, ⟨S64x64, shapeCast S64x64 (f 16) shapeCasts_S1x1x64x64_S64x64⟩, ⟨S64x64, shapeCast S64x64 (f 17) shapeCasts_S1x1x64x64_S64x64⟩, ⟨S64x64, shapeCast S64x64 (f 18) shapeCasts_S1x1x64x64_S64x64⟩] concatenates_S64x64_S64x64_S64x64_S64x64_S64x64_S64x64_S64x64_S64x64_S64x64_S64x64_S64x64_S64x64_S64x64_S64x64_S64x64_S64x64_S64x64_S64x64_S64x64_S1216x64_d0)

/-- Eighteen blocks of codes on top of each other, as numbers. -/
def catB (f : ℕ → Vec F S1x1x64x64 .i8) : FVec F S1152x64 .bf16 :=
  sitofp .bf16 (concatenate S1152x64 0 [⟨S64x64, shapeCast S64x64 (f 0) shapeCasts_S1x1x64x64_S64x64⟩, ⟨S64x64, shapeCast S64x64 (f 1) shapeCasts_S1x1x64x64_S64x64⟩, ⟨S64x64, shapeCast S64x64 (f 2) shapeCasts_S1x1x64x64_S64x64⟩, ⟨S64x64, shapeCast S64x64 (f 3) shapeCasts_S1x1x64x64_S64x64⟩, ⟨S64x64, shapeCast S64x64 (f 4) shapeCasts_S1x1x64x64_S64x64⟩, ⟨S64x64, shapeCast S64x64 (f 5) shapeCasts_S1x1x64x64_S64x64⟩, ⟨S64x64, shapeCast S64x64 (f 6) shapeCasts_S1x1x64x64_S64x64⟩, ⟨S64x64, shapeCast S64x64 (f 7) shapeCasts_S1x1x64x64_S64x64⟩, ⟨S64x64, shapeCast S64x64 (f 8) shapeCasts_S1x1x64x64_S64x64⟩, ⟨S64x64, shapeCast S64x64 (f 9) shapeCasts_S1x1x64x64_S64x64⟩, ⟨S64x64, shapeCast S64x64 (f 10) shapeCasts_S1x1x64x64_S64x64⟩, ⟨S64x64, shapeCast S64x64 (f 11) shapeCasts_S1x1x64x64_S64x64⟩, ⟨S64x64, shapeCast S64x64 (f 12) shapeCasts_S1x1x64x64_S64x64⟩, ⟨S64x64, shapeCast S64x64 (f 13) shapeCasts_S1x1x64x64_S64x64⟩, ⟨S64x64, shapeCast S64x64 (f 14) shapeCasts_S1x1x64x64_S64x64⟩, ⟨S64x64, shapeCast S64x64 (f 15) shapeCasts_S1x1x64x64_S64x64⟩, ⟨S64x64, shapeCast S64x64 (f 16) shapeCasts_S1x1x64x64_S64x64⟩, ⟨S64x64, shapeCast S64x64 (f 17) shapeCasts_S1x1x64x64_S64x64⟩] concatenates_S64x64_S64x64_S64x64_S64x64_S64x64_S64x64_S64x64_S64x64_S64x64_S64x64_S64x64_S64x64_S64x64_S64x64_S64x64_S64x64_S64x64_S64x64_S1152x64_d0)

/-- Query blocks `r`, `r + 3`, `r + 6`. -/
def qA (q : FVec F S512x64 .bf16) (r : ℕ) (hr : r < 2) : FVec F S192x64 .bf16 :=
  concatenate S192x64 0 [⟨S64x64, extractStridedSlice S64x64 ![r * 64, 0] q (slices_512x64 r (by omega))⟩,
    ⟨S64x64, extractStridedSlice S64x64 ![(r + 3) * 64, 0] q (slices_512x64 (r + 3) (by omega))⟩,
    ⟨S64x64, extractStridedSlice S64x64 ![(r + 6) * 64, 0] q (slices_512x64 (r + 6) (by omega))⟩] concatenates_S64x64_S64x64_S64x64_S192x64_d0

/-- Query blocks 2 and 5. -/
def qB (q : FVec F S512x64 .bf16) : FVec F S128x64 .bf16 :=
  concatenate S128x64 0 [⟨S64x64, extractStridedSlice S64x64 ![128, 0] q (slices_512x64 2 (by omega))⟩,
    ⟨S64x64, extractStridedSlice S64x64 ![320, 0] q (slices_512x64 5 (by omega))⟩] concatenates_S64x64_S64x64_S128x64_d0

/-- The exponentials of the scores. -/
def pA (q : FVec F S192x64 .bf16) (k : FVec F S1216x64 .bf16) : FVec F S192x1216 .f32 :=
  exp (matmul dot_S192x64_S1216x64_S192x1216_1_1_0_0_n_n none q k (constant S192x1216 .f32 0x00000000#32))
def pB (q : FVec F S128x64 .bf16) (k : FVec F S1152x64 .bf16) : FVec F S128x1152 .f32 :=
  exp (matmul dot_S128x64_S1152x64_S128x1152_1_1_0_0_n_n none q k (constant S128x1152 .f32 0x00000000#32))

/-- Their row sums. -/
def lA (q : FVec F S192x64 .bf16) (k : FVec F S1216x64 .bf16) : FVec F S192x1 .f32 :=
  shapeCast S192x1 (multiReduction .add [1] S192 (pA q k) 0x00000000#32 reduces_S192x1216_S192 (.inl rfl) rfl) shapeCasts_S192_S192x1
def lB (q : FVec F S128x64 .bf16) (k : FVec F S1152x64 .bf16) : FVec F S128x1 .f32 :=
  shapeCast S128x1 (multiReduction .add [1] S128 (pB q k) 0x00000000#32 reduces_S128x1152_S128 (.inl rfl) rfl) shapeCasts_S128_S128x1

/-- Their products with the values. -/
def aA (q : FVec F S192x64 .bf16) (k v : FVec F S1216x64 .bf16) : FVec F S192x64 .f32 :=
  matmul dot_S192x1216_S1216x64_S192x64_1_0_0_1_n_n none (truncf .bf16 (pA q k) bitsLt_bf16_f32) v (constant S192x64 .f32 0x00000000#32)
def aB (q : FVec F S128x64 .bf16) (k v : FVec F S1152x64 .bf16) : FVec F S128x64 .f32 :=
  matmul dot_S128x1152_S1152x64_S128x64_1_0_0_1_n_n none (truncf .bf16 (pB q k) bitsLt_bf16_f32) v (constant S128x64 .f32 0x00000000#32)

/-- A block of the context: the two parts of the product added, scaled and divided by the two parts of the row sum. -/
def quot (a a' : FVec F S64x64 .f32) (l l' : FVec F S64x1 .f32) : FVec F S64x64 .bf16 :=
  truncf .bf16 (divf (mulf (addf a a') (broadcast S64x64 (Scalar.ofBits .f32 0x3D112245#32)))
    (broadcastTo S64x64 (addf l l') broadcasts_S64x1_S64x64)) bitsLt_bf16_f32

def ctxA (l0 : FVec F S512x1 .f32) (a0 : FVec F S512x64 .f32) (lg : FVec F S192x1 .f32) (ag : FVec F S192x64 .f32) (n : ℕ) (hn : n < 8)
    (i : Fin 3) : FVec F S64x64 .bf16 :=
  quot (extractStridedSlice S64x64 ![n * 64, 0] a0 (slices_512x64 n hn)) (extractStridedSlice S64x64 ![i.val * 64, 0] ag (slices_192x64 i))
    (extractStridedSlice S64x1 ![n * 64, 0] l0 (slices_512x1 n hn)) (extractStridedSlice S64x1 ![i.val * 64, 0] lg (slices_192x1 i))

def ctxB (l0 : FVec F S512x1 .f32) (a0 : FVec F S512x64 .f32) (lg : FVec F S128x1 .f32) (ag : FVec F S128x64 .f32) (n : ℕ) (hn : n < 8)
    (i : Fin 2) : FVec F S64x64 .bf16 :=
  quot (extractStridedSlice S64x64 ![n * 64, 0] a0 (slices_512x64 n hn)) (extractStridedSlice S64x64 ![i.val * 64, 0] ag (slices_128x64 i))
    (extractStridedSlice S64x1 ![n * 64, 0] l0 (slices_512x1 n hn)) (extractStridedSlice S64x1 ![i.val * 64, 0] lg (slices_128x1 i))

/-- The product of 64 rows of the context with `Wo`. -/
def proj (wo : FVec F S512x768 .bf16) (c : Vec F S1x64x512 .bf16) : FVec F S1x1x64x768 .bf16 := k0_pay655 wo c

/-- The sum of the eight partial results. -/
def redv (f : ℕ → Vec F S1x2x64x768 .bf16) : FVec F S2x64x768 .bf16 :=
  k0_pay1773 (k0_pay1772 (f 0) (f 1) (f 2)) (f 3) (f 4) (f 5) (f 6) (f 7)

/-! ## One batch and head -/

/-- What the body holds of every batch and head after its first stage. -/
structure St (F : FTy → Type) where
  q : (t : ℕ) → t < 16 → FVec F S512x64 .bf16
  kv : ℕ → Vec F S1x1x512x64 .i8 × Vec F S1x1x512x64 .i8

/-- Batch and head `t` of the group of query blocks `r`, `r + 3`, `r + 6`, whose key blocks are `9 - r`, `12 - r`, …. -/
def stepA (mk mv : Memref sig .tc .vmem S8x2x512x512 .i8) (mc : Memref sig .tc .vmem S2x512x512 .bf16) (hc : mc.IsWhole) (s : St F)
    (r : ℕ) (hr : r < 2) (t : ℕ) (ht : t < 16) (K : PG F β) : PG F β :=
  loadBlks mk t ht 19 (9 - r) (by omega) fun ks => loadBlks mv t ht 19 (9 - r) (by omega) fun vs =>
  stCtx mc hc t ht r (by omega) (ctxA (l0v (s.q t ht) (s.kv t)) (a0v (s.q t ht) (s.kv t)) (lA (qA (s.q t ht) r hr) (catA ks))
    (aA (qA (s.q t ht) r hr) (catA ks) (catA vs)) r (by omega) 0) <|
  stCtx mc hc t ht (r + 3) (by omega) (ctxA (l0v (s.q t ht) (s.kv t)) (a0v (s.q t ht) (s.kv t)) (lA (qA (s.q t ht) r hr) (catA ks))
    (aA (qA (s.q t ht) r hr) (catA ks) (catA vs)) (r + 3) (by omega) 1) <|
  stCtx mc hc t ht (r + 6) (by omega) (ctxA (l0v (s.q t ht) (s.kv t)) (a0v (s.q t ht) (s.kv t)) (lA (qA (s.q t ht) r hr) (catA ks))
    (aA (qA (s.q t ht) r hr) (catA ks) (catA vs)) (r + 6) (by omega) 2) K

/-- Batch and head `t` of the group of query blocks 2 and 5, whose key blocks are 10, 13, …. -/
def stepB (mk mv : Memref sig .tc .vmem S8x2x512x512 .i8) (mc : Memref sig .tc .vmem S2x512x512 .bf16) (hc : mc.IsWhole) (s : St F)
    (t : ℕ) (ht : t < 16) (K : PG F β) : PG F β :=
  loadBlks mk t ht 18 10 (by omega) fun ks => loadBlks mv t ht 18 10 (by omega) fun vs =>
  stCtx mc hc t ht 2 (by omega) (ctxB (l0v (s.q t ht) (s.kv t)) (a0v (s.q t ht) (s.kv t)) (lB (qB (s.q t ht)) (catB ks))
    (aB (qB (s.q t ht)) (catB ks) (catB vs)) 2 (by omega) 0) <|
  stCtx mc hc t ht 5 (by omega) (ctxB (l0v (s.q t ht) (s.kv t)) (a0v (s.q t ht) (s.kv t)) (lB (qB (s.q t ht)) (catB ks))
    (aB (qB (s.q t ht)) (catB ks) (catB vs)) 5 (by omega) 1) K

def stepsA (mk mv : Memref sig .tc .vmem S8x2x512x512 .i8) (mc : Memref sig .tc .vmem S2x512x512 .bf16) (hc : mc.IsWhole) (s : St F)
    (r : ℕ) (hr : r < 2) : (c : ℕ) → (t : ℕ) → t + c ≤ 16 → PG F β → PG F β
  | 0, _, _, K => K
  | c + 1, t, h, K => stepA mk mv mc hc s r hr t (by omega) (stepsA mk mv mc hc s r hr c (t + 1) (by omega) K)

def stepsB (mk mv : Memref sig .tc .vmem S8x2x512x512 .i8) (mc : Memref sig .tc .vmem S2x512x512 .bf16) (hc : mc.IsWhole) (s : St F) :
    (c : ℕ) → (t : ℕ) → t + c ≤ 16 → PG F β → PG F β
  | 0, _, _, K => K
  | c + 1, t, h, K => stepB mk mv mc hc s t (by omega) (stepsB mk mv mc hc s c (t + 1) (by omega) K)

/-- Batch `b` of query block `n` projected and stored for its device. -/
def stPart (mc : Memref sig .tc .vmem S2x512x512 .bf16) (mp : Memref sig .tc .vmem S8x2x64x768 .bf16) (hp : mp.IsWhole)
    (wo : FVec F S512x768 .bf16) (b : ℕ) (hb : b < 2) (n : ℕ) (hn : n < 8) (K : PG F β) : PG F β :=
  .op (.load mc (Rect.unit (s := S2x512x512) ![b, n * 64, 0] S1x64x512.size (ctxRow_inb b hb n hn)).toLoadRect
    (View.loadsAt_vmem h_S1x64x512)) fun c =>
  .op (.load mp (Rect.unit (s := S8x2x64x768) ![n, b, 0, 0] S1x1x64x768.size (part_inb b hb n hn)).toLoadRect
    (View.loadsAt_vmem h_S1x1x64x768)) fun _ =>
  .op (.store mp (Rect.unit (s := S8x2x64x768) ![n, b, 0, 0] S1x1x64x768.size (part_inb b hb n hn)) (proj wo c) Finset.univ
    (View.stores_vmem h_S1x1x64x768 (hp.storeExact_slice rfl _ (part_packed b hb n hn)) (fun _ => rfl)) (.inl rfl)) fun _ => K

/-- Query block `n` projected, stored and sent to its device. -/
def stSend (mc : Memref sig .tc .vmem S2x512x512 .bf16) (mp mr : Memref sig .tc .vmem S8x2x64x768 .bf16) (hp : mp.IsWhole) (hr : mr.IsWhole)
    (ss rs : DmaSems sig S8) (d0 : Dev nD) (wo : FVec F S512x768 .bf16) (n : Fin 8) (p : Dev nD) (K : PG F β) : PG F β :=
  stPart mc mp hp wo 0 (by decide) n.val n.isLt <| stPart mc mp hp wo 1 (by decide) n.val n.isLt <| sendP mp mr hp hr ss rs d0 n p K

/-- The received partial results read from slot `j` on. -/
def loadParts (mr : Memref sig .tc .vmem S8x2x64x768 .bf16) : (c : ℕ) → (j : ℕ) → j + c ≤ 8 →
    ((ℕ → Vec F S1x2x64x768 .bf16) → PG F β) → PG F β
  | 0, _, _, K => K fun _ _ => Scalar.ofBits .bf16 0#16
  | c + 1, j, h, K =>
    .op (.load mr (Rect.unit (s := S8x2x64x768) ![j, 0, 0, 0] S1x2x64x768.size (slotP_inb ⟨j, by omega⟩)).toLoadRect
      (View.loadsAt_vmem h_S1x2x64x768)) fun v => loadParts mr c (j + 1) (by omega) fun f => K (natCons v f)

/-- The reduced block stored. -/
def stRed (mg : Memref sig .tc .vmem S2x64x768 .bf16) (hg : mg.IsWhole) (w : FVec F S2x64x768 .bf16) (K : PG F β) : PG F β :=
  .op (.load mg (Rect.unit (s := S2x64x768) ![0, 0, 0] S2x64x768.size inb_S2x64x768_S2x64x768_0_0_0).toLoadRect
    (View.loadsAt_vmem h_S2x64x768)) fun _ =>
  .op (.store mg (Rect.unit (s := S2x64x768) ![0, 0, 0] S2x64x768.size inb_S2x64x768_S2x64x768_0_0_0) w Finset.univ
    (View.stores_vmem h_S2x64x768 (hg.storeExact_slice rfl _ packedbf16_S2x64x768_S2x64x768_0_0_0) (fun _ => rfl)) (.inl rfl)) fun _ => K

/-- Slot `j` of the gathered blocks written to the result. -/
def stOut (ma : Memref sig .tc .vmem S8x2x64x768 .bf16) (mo : Memref sig .tc .vmem S2x512x768 .f32) (j : Fin 8) (K : PG F β) : PG F β :=
  .op (.load ma (Rect.unit (s := S8x2x64x768) ![j.val, 0, 0, 0] S1x2x64x768.size (slotP_inb j)).toLoadRect
    (View.loadsAt_vmem h_S1x2x64x768)) fun v =>
  .op (.load mo (Rect.unit (s := S2x512x768) ![0, j.val * 64, 0] S2x64x768.size (out_inb j)).toLoadRect
    (View.loadsAt_vmem h_S2x64x768)) fun _ =>
  .op (.store mo (Rect.unit (s := S2x512x768) ![0, j.val * 64, 0] S2x64x768.size (out_inb j)) (k0_pay1774 v) Finset.univ
    (View.stores_vmem_bits_univ h_S2x64x768 rfl) (.inl rfl)) fun _ => K

/-! ## The body -/

variable (arg0 : Memref sig .tc .vmem S2x512x768 .bf16) (harg0 : arg0.IsWhole) (arg1 : Memref sig .tc .vmem S768x512 .bf16) (harg1 : arg1.IsWhole)
    (arg2 : Memref sig .tc .vmem S512x768 .bf16) (harg2 : arg2.IsWhole) (arg3 : Memref sig .tc .hbm S8x2x512x512 .i8) (harg3 : arg3.IsWhole)
    (arg4 : Memref sig .tc .hbm S8x2x512x512 .i8) (harg4 : arg4.IsWhole) (arg5 : Memref sig .tc .vmem S2x512x768 .f32) (harg5 : arg5.IsWhole)
    (arg6 : Memref sig .tc .vmem S8x2x512x512 .i8) (harg6 : arg6.IsWhole) (arg7 : Memref sig .tc .vmem S8x2x512x512 .i8) (harg7 : arg7.IsWhole)
    (arg8 : Memref sig .tc .vmem S8x2x64x768 .bf16) (harg8 : arg8.IsWhole) (arg9 : Memref sig .tc .vmem S8x2x64x768 .bf16) (harg9 : arg9.IsWhole)
    (arg10 : Memref sig .tc .vmem S2x64x768 .bf16) (harg10 : arg10.IsWhole) (arg11 : Memref sig .tc .vmem S8x2x64x768 .bf16) (harg11 : arg11.IsWhole)
    (arg12 : Memref sig .tc .vmem S2x512x512 .bf16) (harg12 : arg12.IsWhole) (arg13 arg14 arg15 arg16 arg17 arg18 arg19 arg20 : DmaSems sig S8)
    (arg21 : DmaSems sig S4)

/-- The codes exchanged. -/
def exchangeC (d0 : Dev nD) (K : PG F β) : PG F β :=
  sendC arg3 harg3 arg6 harg6 arg13 arg15 d0 0 ⟨k0_dev8 d0, k0_dev8_lt d0⟩ <|
  sendC arg4 harg4 arg7 harg7 arg14 arg16 d0 0 ⟨k0_dev9 d0, k0_dev9_lt d0⟩ <|
  sendC arg3 harg3 arg6 harg6 arg13 arg15 d0 1 ⟨k0_dev10 d0, k0_dev10_lt d0⟩ <|
  sendC arg4 harg4 arg7 harg7 arg14 arg16 d0 1 ⟨k0_dev11 d0, k0_dev11_lt d0⟩ <|
  sendC arg3 harg3 arg6 harg6 arg13 arg15 d0 2 ⟨k0_dev12 d0, k0_dev12_lt d0⟩ <|
  sendC arg4 harg4 arg7 harg7 arg14 arg16 d0 2 ⟨k0_dev13 d0, k0_dev13_lt d0⟩ <|
  sendC arg3 harg3 arg6 harg6 arg13 arg15 d0 3 ⟨k0_dev14 d0, k0_dev14_lt d0⟩ <|
  sendC arg4 harg4 arg7 harg7 arg14 arg16 d0 3 ⟨k0_dev15 d0, k0_dev15_lt d0⟩ <|
  sendC arg3 harg3 arg6 harg6 arg13 arg15 d0 4 ⟨k0_dev16 d0, k0_dev16_lt d0⟩ <|
  sendC arg4 harg4 arg7 harg7 arg14 arg16 d0 4 ⟨k0_dev17 d0, k0_dev17_lt d0⟩ <|
  sendC arg3 harg3 arg6 harg6 arg13 arg15 d0 5 ⟨k0_dev18 d0, k0_dev18_lt d0⟩ <|
  sendC arg4 harg4 arg7 harg7 arg14 arg16 d0 5 ⟨k0_dev19 d0, k0_dev19_lt d0⟩ <|
  sendC arg3 harg3 arg6 harg6 arg13 arg15 d0 6 ⟨k0_dev20 d0, k0_dev20_lt d0⟩ <|
  sendC arg4 harg4 arg7 harg7 arg14 arg16 d0 6 ⟨k0_dev21 d0, k0_dev21_lt d0⟩ <|
  copyC arg3 harg3 arg6 harg6 arg15 d0 <| copyC arg4 harg4 arg7 harg7 arg16 d0 K

/-- The waits for the codes of the devices of a list. -/
def waitsC : List (Fin 8) → PG F β → PG F β
  | [], K => K
  | j :: l, K => waitC arg6 harg6 arg15 j <| waitC arg7 harg7 arg16 j <| waitsC l K

/-- The state after the first stage. -/
def st (x : Vec F S2x512x768 .bf16) (w : Vec F S768x512 .bf16) (kv : ℕ → Vec F S1x1x512x64 .i8 × Vec F S1x1x512x64 .i8) : St F :=
  ⟨qv x w, kv⟩

/-- From the handshake to the first stage's end. -/
def head (K : Dev nD → FVec F S512x768 .bf16 → St F → PG F β) : PG F β :=
  .op .deviceId fun d0 =>
  handshake d0 <| exchangeC arg3 harg3 arg4 harg4 arg6 harg6 arg7 harg7 arg13 arg14 arg15 arg16 d0 <|
  .op (.load arg0 (Rect.unit (s := S2x512x768) ![0, 0, 0] S2x512x768.size inb_S2x512x768_S2x512x768_0_0_0).toLoadRect (View.loadsAt_vmem h_S2x512x768)) fun x =>
  .op (.load arg1 (Rect.unit (s := S768x512) ![0, 0] S768x512.size inb_S768x512_S768x512_0_0).toLoadRect (View.loadsAt_vmem h_S768x512)) fun w =>
  waitsC arg6 harg6 arg7 harg7 arg15 arg16 [0] <|
  loadRows arg6 arg7 16 0 (by decide) fun kv =>
  waitsC arg6 harg6 arg7 harg7 arg15 arg16 [1, 2, 3, 4, 5, 6, 7] <|
  .op (.load arg2 (Rect.unit (s := S512x768) ![0, 0] S512x768.size inb_S512x768_S512x768_0_0).toLoadRect (View.loadsAt_vmem h_S512x768)) fun wo =>
  K d0 (k0_pay82 wo) (st x w kv)

/-- The waits for the partial results of the devices of a list. -/
def waitsP : List (Fin 8) → PG F β → PG F β
  | [], K => K
  | j :: l, K => waitP arg8 arg9 harg8 harg9 arg18 j <| waitsP l K

/-- The reduced block gathered. -/
def exchangeG (d0 : Dev nD) (K : PG F β) : PG F β :=
  sendG arg10 harg10 arg11 harg11 arg19 arg20 d0 0 ⟨k0_dev30 d0, k0_dev30_lt d0⟩ <|
  sendG arg10 harg10 arg11 harg11 arg19 arg20 d0 1 ⟨k0_dev31 d0, k0_dev31_lt d0⟩ <|
  sendG arg10 harg10 arg11 harg11 arg19 arg20 d0 2 ⟨k0_dev32 d0, k0_dev32_lt d0⟩ <|
  sendG arg10 harg10 arg11 harg11 arg19 arg20 d0 3 ⟨k0_dev33 d0, k0_dev33_lt d0⟩ <|
  sendG arg10 harg10 arg11 harg11 arg19 arg20 d0 4 ⟨k0_dev34 d0, k0_dev34_lt d0⟩ <|
  sendG arg10 harg10 arg11 harg11 arg19 arg20 d0 5 ⟨k0_dev35 d0, k0_dev35_lt d0⟩ <|
  sendG arg10 harg10 arg11 harg11 arg19 arg20 d0 6 ⟨k0_dev36 d0, k0_dev36_lt d0⟩ <|
  sendG arg10 harg10 arg11 harg11 arg19 arg20 d0 7 ⟨k0_dev37 d0, k0_dev37_lt d0⟩ <|
  K

/-- The waits for the gathered blocks of the devices of a list. -/
def waitsG : List (Fin 8) → PG F β → PG F β
  | [], K => K
  | j :: l, K => waitG arg10 harg10 arg11 harg11 arg20 j <| waitsG l K

/-- The gathered blocks of the devices of a list written to the result. -/
def stOuts : List (Fin 8) → PG F β → PG F β
  | [], K => K
  | j :: l, K => stOut arg11 arg5 j <| stOuts l K

/-- The waits for the sends of the codes. -/
def sentsC (d0 : Dev nD) : List (Fin 7) → PG F β → PG F β
  | [], K => K
  | r :: l, K => sentC arg3 harg3 arg6 harg6 arg13 d0 r <| sentC arg4 harg4 arg7 harg7 arg14 d0 r <| sentsC d0 l K

/-- The waits for the sends of the partial results. -/
def sentsP (d0 : Dev nD) : List (Fin 8) → PG F β → PG F β
  | [], K => K
  | j :: l, K => sentP arg8 arg9 harg8 harg9 arg17 d0 j <| sentsP d0 l K

/-- The waits for the sends of the reduced block. -/
def sentsG (d0 : Dev nD) : List (Fin 8) → PG F β → PG F β
  | [], K => K
  | j :: l, K => sentG arg10 harg10 arg11 harg11 arg19 d0 j <| sentsG d0 l K

/-- From the partial results' arrival to the end. -/
def tail (d0 : Dev nD) : PG F PUnit :=
  waitsP arg8 harg8 arg9 harg9 arg18 [0, 1, 2, 3, 4, 5, 6, 7] <|
  loadParts arg9 8 0 (by decide) fun f => stRed arg10 harg10 (redv f) <|
  exchangeG arg10 harg10 arg11 harg11 arg19 arg20 d0 <|
  waitsG arg10 harg10 arg11 harg11 arg20 [0, 1, 2, 3, 4, 5, 6, 7] <|
  stOuts arg5 arg11 [0, 1, 2, 3, 4, 5, 6, 7] <|
  sentsC arg3 harg3 arg4 harg4 arg6 harg6 arg7 harg7 arg13 arg14 d0 [0, 1, 2, 3, 4, 5, 6] <|
  sentsP arg8 harg8 arg9 harg9 arg17 d0 [0, 3, 6, 1, 4, 7, 2, 5] <|
  sentsG arg10 harg10 arg11 harg11 arg19 d0 [0, 1, 2, 3, 4, 5, 6, 7] <| .ret ⟨⟩

/-- The three query blocks of a group projected and sent. -/
def sends0 (d0 : Dev nD) (wo : FVec F S512x768 .bf16) (K : PG F β) : PG F β :=
  stSend arg12 arg8 arg9 harg8 harg9 arg17 arg18 d0 wo 0 ⟨k0_dev22, k0_dev22_lt⟩ <|
  stSend arg12 arg8 arg9 harg8 harg9 arg17 arg18 d0 wo 3 ⟨k0_dev23, k0_dev23_lt⟩ <|
  stSend arg12 arg8 arg9 harg8 harg9 arg17 arg18 d0 wo 6 ⟨k0_dev24, k0_dev24_lt⟩ K

def sends1 (d0 : Dev nD) (wo : FVec F S512x768 .bf16) (K : PG F β) : PG F β :=
  stSend arg12 arg8 arg9 harg8 harg9 arg17 arg18 d0 wo 1 ⟨k0_dev25, k0_dev25_lt⟩ <|
  stSend arg12 arg8 arg9 harg8 harg9 arg17 arg18 d0 wo 4 ⟨k0_dev26, k0_dev26_lt⟩ <|
  stSend arg12 arg8 arg9 harg8 harg9 arg17 arg18 d0 wo 7 ⟨k0_dev27, k0_dev27_lt⟩ K

def sends2 (d0 : Dev nD) (wo : FVec F S512x768 .bf16) (K : PG F β) : PG F β :=
  stSend arg12 arg8 arg9 harg8 harg9 arg17 arg18 d0 wo 2 ⟨k0_dev28, k0_dev28_lt⟩ <|
  stSend arg12 arg8 arg9 harg8 harg9 arg17 arg18 d0 wo 5 ⟨k0_dev29, k0_dev29_lt⟩ K

/-- The folded body. -/
def body : PG F PUnit :=
  head arg0 arg1 arg2 arg3 harg3 arg4 harg4 arg6 harg6 arg7 harg7 arg13 arg14 arg15 arg16 fun d0 wo s =>
  stepsA arg6 arg7 arg12 harg12 s 0 (by decide) 16 0 (by decide) <|
  sends0 arg8 harg8 arg9 harg9 arg12 arg17 arg18 d0 wo <|
  stepsA arg6 arg7 arg12 harg12 s 1 (by decide) 16 0 (by decide) <|
  sends1 arg8 harg8 arg9 harg9 arg12 arg17 arg18 d0 wo <|
  stepsB arg6 arg7 arg12 harg12 s 16 0 (by decide) <|
  sends2 arg8 harg8 arg9 harg9 arg12 arg17 arg18 d0 wo <|
  tail arg3 harg3 arg4 harg4 arg5 arg6 harg6 arg7 harg7 arg8 harg8 arg9 harg9 arg10 harg10 arg11 harg11 arg13 arg14 arg17 arg18 arg19 arg20 d0

set_option maxRecDepth 1000000 in
set_option maxHeartbeats 0 in
/-- The printed body is the folded one. -/
theorem body_eq : cc0__body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 arg18 arg19 arg20 arg21 = body arg0 arg1 arg2 arg3 harg3 arg4 harg4 arg5 arg6 harg6 arg7 harg7 arg8 harg8 arg9 harg9 arg10 harg10 arg11 harg11 arg12 harg12 arg13 arg14 arg15 arg16 arg17 arg18 arg19 arg20 := rfl
end Cert.KernelIdeal.Fold

end

end
-- ==== Proof.Geo.lean ====
/-
The slots of a buffer of eight slots: where an index of slot `j` lies, which elements the slot is, and what a slot's
read and write are in terms of the whole buffer's read.
-/
module

public import proofs.«01_k».proof.Proof.Fold

@[expose] public section

noncomputable section

namespace Cert.KernelIdeal.Geo

open Idealize.ShloMosaic Idealize.SL Idealize.SL.Sem Cert.KernelIdeal.Gen Cert.KernelIdeal.Fold

/-- The index of slot `j` at `x`. -/
def ix4 {A B C : ℕ} (j : Fin 8) (x : (⟨3, ![A, B, C]⟩ : Shape).Idx) : (⟨4, ![8, A, B, C]⟩ : Shape).Idx :=
  Fin.cons (α := fun a => Fin ((![8, A, B, C] : Fin 4 → ℕ) a)) j x

/-- An index without its slot. -/
def tl4 {A B C : ℕ} (i : (⟨4, ![8, A, B, C]⟩ : Shape).Idx) : (⟨3, ![A, B, C]⟩ : Shape).Idx := fun a => i a.succ

theorem ix4_tl4 {A B C : ℕ} (i : (⟨4, ![8, A, B, C]⟩ : Shape).Idx) : ix4 (i 0) (tl4 i) = i := by
  funext a; refine Fin.cases rfl (fun a => rfl) a

theorem tl4_ix4 {A B C : ℕ} (j : Fin 8) (x : (⟨3, ![A, B, C]⟩ : Shape).Idx) : tl4 (ix4 j x) = x := rfl

theorem ix4_zero {A B C : ℕ} (j : Fin 8) (x : (⟨3, ![A, B, C]⟩ : Shape).Idx) : ix4 j x 0 = j := rfl

/-- An element of the slot at offset `j`, among the buffer's. -/
theorem emb_slot {sp e} {A B C : ℕ} (m : Memref sig .tc sp ⟨4, ![8, A, B, C]⟩ e) (j : Fin 8) (off : Fin 4 → ℕ)
    (hoff : off = ![j.val, 0, 0, 0]) (h) (hs) (hq : Shape.Squeezes ⟨4, ![1, A, B, C]⟩ ⟨3, ![A, B, C]⟩)
    (x : (⟨3, ![A, B, C]⟩ : Shape).Idx) :
    ((m.slice (Rect.unit (s := ⟨4, ![8, A, B, C]⟩) off ![1, A, B, C] h) hs).squeeze ⟨3, ![A, B, C]⟩ hq).view.emb x
      = m.view.emb (ix4 j x) := by
  subst hoff
  show m.view.emb ((Rect.unit (s := ⟨4, ![8, A, B, C]⟩) ![j.val, 0, 0, 0] ![1, A, B, C] h).emb (Shape.reshapeEquiv hq.numel_eq x)) = _
  have e : Shape.reshapeEquiv hq.numel_eq x
      = (Fin.cons (α := fun a => Fin ((![1, A, B, C] : Fin 4 → ℕ) a)) (⟨0, Nat.one_pos⟩ : Fin 1) x : (⟨4, ![1, A, B, C]⟩ : Shape).Idx) := by
    apply Shape.reshapeEquiv_eq_of_rowMajor
    rw [Shape.rowMajor_val_four, Shape.rowMajor_val_three]
    show (((0 * A + (x 0).val) * B + (x 1).val) * C + (x 2).val) = ((x 0).val * B + (x 1).val) * C + (x 2).val
    rw [Nat.zero_mul, Nat.zero_add]
  refine congrArg m.view.emb ?_
  rw [e]
  funext a
  apply Fin.ext
  rw [Rect.emb_apply]
  refine Fin.cases ?_ (fun a => ?_) a
  · show j.val + 1 * 0 = j.val
    omega
  · have : (![j.val, 0, 0, 0] : Fin 4 → ℕ) a.succ = 0 := by fin_cases a <;> rfl
    show (![j.val, 0, 0, 0] : Fin 4 → ℕ) a.succ + 1 * (x a).val = (x a).val
    omega

variable {sp : Space} {e : EltTy} {A B C : ℕ}

/-- Its elements are those whose slot is `j`. -/
theorem slot_inb (j : Fin 8) (A B C : ℕ) : ∀ a, (![j.val, 0, 0, 0] : Fin 4 → ℕ) a + (![1, A, B, C] : Fin 4 → ℕ) a ≤ (![8, A, B, C] : Fin 4 → ℕ) a := by
  have := j.isLt
  intro a; fin_cases a <;> simp <;> omega

variable (m : Memref sig .tc sp ⟨4, ![8, A, B, C]⟩ e)

/-- The elements of slot `j`. -/
def slotSet (j : Fin 8) : Finset m.view.ty.Idx := Finset.univ.filter fun i => ∃ x, m.view.emb (ix4 j x) = i

variable {m}

theorem mem_slotSet {j : Fin 8} {i : m.view.ty.Idx} : i ∈ slotSet m j ↔ ∃ x, m.view.emb (ix4 j x) = i := by
  simp [slotSet]

theorem slotSet_disjoint {i j : Fin 8} (h : i ≠ j) : Disjoint (slotSet m i) (slotSet m j) := by
  rw [Finset.disjoint_left]
  intro a ha hb
  obtain ⟨x, rfl⟩ := mem_slotSet.1 ha
  obtain ⟨y, hy⟩ := mem_slotSet.1 hb
  have := congrFun (m.view.emb.injective hy) 0
  exact h this.symm

theorem slotSet_cover (hm : m.view.set = Finset.univ) : Finset.univ.biUnion (slotSet m) = Finset.univ := by
  ext i
  simp only [Finset.mem_biUnion, Finset.mem_univ, true_and, iff_true]
  have : i ∈ m.view.set := hm ▸ Finset.mem_univ i
  obtain ⟨x, -, rfl⟩ := Finset.mem_map.1 this
  exact ⟨x 0, mem_slotSet.2 ⟨tl4 x, congrArg m.view.emb (ix4_tl4 x)⟩⟩

theorem squeezes4 (A B C : ℕ) : Shape.Squeezes ⟨4, ![1, A, B, C]⟩ ⟨3, ![A, B, C]⟩ := by
  show Shape.dropsOnes [C, B, A, 1] [C, B, A] = true
  iterate 3 (unfold Shape.dropsOnes; rw [if_pos rfl])
  rfl

/-- Slot `j` of a buffer. -/
def slot (m : Memref sig .tc sp ⟨4, ![8, A, B, C]⟩ e) (j : Fin 8) : Memref sig .tc sp ⟨3, ![A, B, C]⟩ e :=
  (m.slice (Rect.unit (s := ⟨4, ![8, A, B, C]⟩) ![j.val, 0, 0, 0] ![1, A, B, C] (slot_inb j A B C)) (fun _ => rfl)).squeeze _ (squeezes4 A B C)

theorem slot_emb (j : Fin 8) (x : (⟨3, ![A, B, C]⟩ : Shape).Idx) : (slot m j).view.emb x = m.view.emb (ix4 j x) :=
  emb_slot m j _ rfl _ _ (squeezes4 A B C) x

theorem slot_set (j : Fin 8) : ((slot m j).view.set : Finset m.view.ty.Idx) = slotSet m j := by
  ext i
  refine Iff.trans ?_ mem_slotSet.symm
  constructor
  · intro h
    obtain ⟨x, -, rfl⟩ := Finset.mem_map.1 h
    exact ⟨x, (slot_emb j x).symm⟩
  · rintro ⟨x, rfl⟩
    exact Finset.mem_map.2 ⟨x, Finset.mem_univ _, slot_emb j x⟩

variable {Val : EltTy → Type}

theorem slot_read (j : Fin 8) (f : m.view.ty.Contents Val) (x : (⟨3, ![A, B, C]⟩ : Shape).Idx) :
    (slot m j).view.read Val f x = m.view.read Val f (ix4 j x) := by
  show cast _ (f ((slot m j).view.emb x)) = cast _ (f (m.view.emb (ix4 j x)))
  congr 2
  exact slot_emb j x

/-- A slot written is the slot of any contents that read there what was written. -/
theorem slot_write (j : Fin 8) (fd G : m.view.ty.Contents Val) (w : (⟨3, ![A, B, C]⟩ : Shape).Idx → Val e)
    (h : ∀ x, w x = m.view.read Val G (ix4 j x)) :
    ∀ i ∈ slotSet m j, (slot m j).view.write Val fd w Finset.univ i = G i := by
  intro i hi
  obtain ⟨x, rfl⟩ := mem_slotSet.1 hi
  rw [← slot_emb]
  refine ((slot m j).view.write_emb_of_mem fd w (Finset.mem_univ x)).trans ?_
  rw [h x]
  rw [← slot_read]
  exact cast_cast ..

/-- Two contents that read alike in slot `j` are alike there. -/
theorem slot_congr (j : Fin 8) (f G : m.view.ty.Contents Val) (h : ∀ x, m.view.read Val f (ix4 j x) = m.view.read Val G (ix4 j x)) :
    ∀ i ∈ slotSet m j, f i = G i := by
  intro i hi
  obtain ⟨x, rfl⟩ := mem_slotSet.1 hi
  exact (cast_bijective _).injective (h x)

theorem slotC_eq {sp} (m : Memref sig .tc sp S8x2x512x512 .i8) (j : Fin 8) (off : Fin 4 → ℕ) (h) (ho : off = ![j.val, 0, 0, 0]) :
    slotC m off h = slot m j := by subst ho; rfl

theorem slotP_eq (m : Memref sig .tc .vmem S8x2x64x768 .bf16) (j : Fin 8) (off : Fin 4 → ℕ) (h) (ho : off = ![j.val, 0, 0, 0]) :
    slotP m off h = slot m j := by subst ho; rfl

end Cert.KernelIdeal.Geo
-- ==== Proof.Vals.lean ====
/-
What every buffer holds, as functions of the inputs: the codes gathered, the context, the partial results, the reduced
blocks, the result.
-/
module

public import proofs.«01_k».proof.Proof.Geo

@[expose] public section

noncomputable section

namespace Cert.KernelIdeal.Vals

open Idealize.ShloMosaic Idealize.SL Idealize.SL.Sem Cert.KernelIdeal.Gen Cert.KernelIdeal.Fold Cert.KernelIdeal.Geo

variable (F : FTy → Type)

/-- The inputs, device by device. -/
structure Inp where
  x : Dev nD → Vec F S2x512x768 .bf16
  wq : Dev nD → Vec F S768x512 .bf16
  wo : Dev nD → Vec F S512x768 .bf16
  ks : Dev nD → Vec F S8x2x512x512 .i8
  vs : Dev nD → Vec F S8x2x512x512 .i8

variable {F} [FloatOps F] [Named F] (I : Inp F)

/-- The key codes device `c` holds after the exchange: slot `j` is slot `c` of device `j`'s. -/
def kall (c : Dev nD) : Vec F S8x2x512x512 .i8 := fun i => I.ks (i 0) (ix4 (A := 2) (B := 512) (C := 512) c (tl4 i))
def vall (c : Dev nD) : Vec F S8x2x512x512 .i8 := fun i => I.vs (i 0) (ix4 (A := 2) (B := 512) (C := 512) c (tl4 i))

/-- The 512 codes of slot 0 for batch and head `t`. -/
def rowOf (f : Vec F S8x2x512x512 .i8) (t : ℕ) (ht : t < 16) : Vec F S1x1x512x64 .i8 := fun y =>
  f ((Rect.unit (s := S8x2x512x512) ![0, t / 8, 0, t % 8 * 64] S1x1x512x64.size (row_inb t ht)).emb y)

/-- Block `n` of 64 keys for batch and head `t`. -/
def blkOf (f : Vec F S8x2x512x512 .i8) (t : ℕ) (ht : t < 16) (n : ℕ) (hn : n < 64) : Vec F S1x1x64x64 .i8 := fun y =>
  f ((Rect.unit (s := S8x2x512x512) ![n / 8, t / 8, n % 8 * 64, t % 8 * 64] S1x1x64x64.size (blk_inb t ht n hn)).emb y)

/-- `c` blocks, every third from `n` on. -/
def blksOf (f : Vec F S8x2x512x512 .i8) (t : ℕ) (ht : t < 16) : (c : ℕ) → (n : ℕ) → n + 3 * c < 67 → ℕ → Vec F S1x1x64x64 .i8
  | 0, _, _ => fun _ _ => (0 : BitVec 8)
  | c + 1, n, h => natCons (blkOf f t ht n (by omega)) (blksOf f t ht c (n + 3) (by omega))

/-- Slot 0's codes of `c` batches and heads from `t` on. -/
def rowsOf (f g : Vec F S8x2x512x512 .i8) : (c : ℕ) → (t : ℕ) → t + c ≤ 16 → ℕ → Vec F S1x1x512x64 .i8 × Vec F S1x1x512x64 .i8
  | 0, _, _ => fun _ => (fun _ => (0 : BitVec 8), fun _ => (0 : BitVec 8))
  | c + 1, t, h => natCons (rowOf f t (by omega), rowOf g t (by omega)) (rowsOf f g c (t + 1) (by omega))

/-- What the body of device `c` holds after its first stage. -/
def stOf (c : Dev nD) : St F := st (I.x c) (I.wq c) (rowsOf (kall I c) (vall I c) 16 0 (by decide))

section
variable (s : St F) (fk fv : Vec F S8x2x512x512 .i8) (t : ℕ) (ht : t < 16)

/-- A context block of the group `r`, `r + 3`, `r + 6`. -/
def blkA (r : ℕ) (hr : r < 2) (n : ℕ) (hn : n < 8) (i : Fin 3) : FVec F S64x64 .bf16 :=
  ctxA (l0v (s.q t ht) (s.kv t)) (a0v (s.q t ht) (s.kv t)) (lA (qA (s.q t ht) r hr) (catA (blksOf fk t ht 19 (9 - r) (by omega))))
    (aA (qA (s.q t ht) r hr) (catA (blksOf fk t ht 19 (9 - r) (by omega))) (catA (blksOf fv t ht 19 (9 - r) (by omega)))) n hn i

/-- A context block of the group 2, 5. -/
def blkB (n : ℕ) (hn : n < 8) (i : Fin 2) : FVec F S64x64 .bf16 :=
  ctxB (l0v (s.q t ht) (s.kv t)) (a0v (s.q t ht) (s.kv t)) (lB (qB (s.q t ht)) (catB (blksOf fk t ht 18 10 (by omega))))
    (aB (qB (s.q t ht)) (catB (blksOf fk t ht 18 10 (by omega))) (catB (blksOf fv t ht 18 10 (by omega)))) n hn i

/-- Query block `n` of batch and head `t` of the context. -/
def ctxBlk : Fin 8 → FVec F S64x64 .bf16
  | ⟨0, _⟩ => blkA s fk fv t ht 0 (by decide) 0 (by decide) 0
  | ⟨1, _⟩ => blkA s fk fv t ht 1 (by decide) 1 (by decide) 0
  | ⟨2, _⟩ => blkB s fk fv t ht 2 (by decide) 0
  | ⟨3, _⟩ => blkA s fk fv t ht 0 (by decide) (0 + 3) (by decide) 1
  | ⟨4, _⟩ => blkA s fk fv t ht 1 (by decide) (1 + 3) (by decide) 1
  | ⟨5, _⟩ => blkB s fk fv t ht 5 (by decide) 1
  | ⟨6, _⟩ => blkA s fk fv t ht 0 (by decide) (0 + 6) (by decide) 2
  | ⟨7, _⟩ => blkA s fk fv t ht 1 (by decide) (1 + 6) (by decide) 2
end

/-- The batch and head, and the query block, of an element of the context. -/
def tOf (i : S2x512x512.Idx) : ℕ := (i 0).val * 8 + (i 2).val / 64
def nOf (i : S2x512x512.Idx) : Fin 8 := ⟨(i 1).val / 64, by have h : (i 1).val < 512 := (i 1).isLt; omega⟩
theorem tOf_lt (i : S2x512x512.Idx) : tOf i < 16 := by
  have h0 : (i 0).val < 2 := (i 0).isLt
  have h2 : (i 2).val < 512 := (i 2).isLt
  unfold tOf; omega

/-- A position within a block. -/
def inBlk (a b : ℕ) : S64x64.Idx := fun k => match k with
  | ⟨0, _⟩ => (⟨a % 64, Nat.mod_lt _ (by decide)⟩ : Fin 64)
  | ⟨1, _⟩ => (⟨b % 64, Nat.mod_lt _ (by decide)⟩ : Fin 64)

/-- The context of device `c`'s heads. -/
def ctx (c : Dev nD) : Vec F S2x512x512 .bf16 := fun i =>
  ctxBlk (stOf I c) (kall I c) (vall I c) (tOf i) (tOf_lt i) (nOf i) (inBlk (i 1).val (i 2).val)

/-- 64 rows of the context. -/
def ctxRow (f : Vec F S2x512x512 .bf16) (b : ℕ) (hb : b < 2) (n : ℕ) (hn : n < 8) : Vec F S1x64x512 .bf16 := fun y =>
  f ((Rect.unit (s := S2x512x512) ![b, n * 64, 0] S1x64x512.size (ctxRow_inb b hb n hn)).emb y)

/-- The index of row `a`, lane `b` in a block of projected rows. -/
def inPart (a : Fin 64) (b : Fin 768) : S1x1x64x768.Idx := fun k => match k with
  | ⟨0, _⟩ => (0 : Fin 1)
  | ⟨1, _⟩ => (0 : Fin 1)
  | ⟨2, _⟩ => a
  | ⟨3, _⟩ => b

/-- The partial results device `c` sends: slot `n` for device `n`. -/
def ps (c : Dev nD) : Vec F S8x2x64x768 .bf16 := fun i =>
  proj (k0_pay82 (I.wo c)) (ctxRow (ctx I c) (i 1).val (i 1).isLt (i 0).val (i 0).isLt) (inPart (i 2) (i 3))

/-- The partial results device `c` receives: slot `j` from device `j`. -/
def rsr (c : Dev nD) : Vec F S8x2x64x768 .bf16 := fun i => ps I (i 0) (ix4 (A := 2) (B := 64) (C := 768) c (tl4 i))

/-- Slot `j`, as read. -/
def partOf (f : Vec F S8x2x64x768 .bf16) (j : Fin 8) : Vec F S1x2x64x768 .bf16 := fun y =>
  f ((Rect.unit (s := S8x2x64x768) ![j.val, 0, 0, 0] S1x2x64x768.size (slotP_inb j)).emb y)

/-- The slots from `j` on, as read. -/
def partsOf (f : Vec F S8x2x64x768 .bf16) : (c : ℕ) → (j : ℕ) → j + c ≤ 8 → ℕ → Vec F S1x2x64x768 .bf16
  | 0, _, _ => fun _ _ => Scalar.ofBits .bf16 0#16
  | c + 1, j, h => natCons (partOf f ⟨j, by omega⟩) (partsOf f c (j + 1) (by omega))

/-- The reduced block of device `c`. -/
def red (c : Dev nD) : Vec F S2x64x768 .bf16 := redv (partsOf (rsr I c) 8 0 (by decide))

/-- The blocks gathered: slot `j` from device `j`. -/
def agr : Vec F S8x2x64x768 .bf16 := fun i => red I (i 0) (tl4 (A := 2) (B := 64) (C := 768) i)

def jOf (i : S2x512x768.Idx) : Fin 8 := ⟨(i 1).val / 64, by have h : (i 1).val < 512 := (i 1).isLt; omega⟩
def inRed (i : S2x512x768.Idx) : S2x64x768.Idx := fun k => match k with
  | ⟨0, _⟩ => i 0
  | ⟨1, _⟩ => (⟨(i 1).val % 64, Nat.mod_lt _ (by decide)⟩ : Fin 64)
  | ⟨2, _⟩ => i 2

/-- The result. -/
def out : Vec F S2x512x768 .f32 := fun i => k0_pay1774 (partOf (agr I) (jOf i)) (inRed i)

end Cert.KernelIdeal.Vals
-- ==== Proof.Proto.lean ====
/-
The protocol of the exchange between the eight devices.

Every device has one barrier cell and eight arrays of eight transfer cells.  Each cell runs one round.  A device's entry
signal to `c` hands `c` the slots its transfers will fill there; a receive cell hands over the slot filled; a send cell
hands back what was sent.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Proto

open Cert.KernelIdeal.Gen Cert.KernelIdeal.Fold Cert.KernelIdeal.Geo Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev mKs : Memref sig .tc .hbm S8x2x512x512 .i8 := Memref.whole main_arg3
abbrev mVs : Memref sig .tc .hbm S8x2x512x512 .i8 := Memref.whole main_arg4
abbrev mKa : Memref sig .tc .vmem S8x2x512x512 .i8 := Memref.whole cc0_scratch0
abbrev mVa : Memref sig .tc .vmem S8x2x512x512 .i8 := Memref.whole cc0_scratch1
abbrev mPs : Memref sig .tc .vmem S8x2x64x768 .bf16 := Memref.whole cc0_scratch2
abbrev mRr : Memref sig .tc .vmem S8x2x64x768 .bf16 := Memref.whole cc0_scratch3
abbrev mAs : Memref sig .tc .vmem S2x64x768 .bf16 := Memref.whole cc0_scratch4
abbrev mAr : Memref sig .tc .vmem S8x2x64x768 .bf16 := Memref.whole cc0_scratch5
abbrev mCx : Memref sig .tc .vmem S2x512x512 .bf16 := Memref.whole cc0_scratch6

/-- Slot `j` of a buffer on device `c`. -/
def slPts {sp : Space} {e : EltTy} {A B C : ℕ} (m : Memref sig .tc sp ⟨4, ![8, A, B, C]⟩ e) (c : Dev nD) (j : Fin 8)
    (f : Buf (Elt F) (m.view.loc (c : Thread nD τ))) : sProp 𝕄 :=
  m.view.loc (c : Thread nD τ) ↦[slotSet m j]{fullShare} f

instance slPts_storable {sp : Space} {e : EltTy} {A B C : ℕ} (m : Memref sig .tc sp ⟨4, ![8, A, B, C]⟩ e) (c : Dev nD) (j : Fin 8) (f) :
    BI.Storable (upEmb : UEmb _ 𝕄) (slPts (F := F) m c j f) := by unfold slPts; infer_instance

/-- One of eight parts of the reduced block's buffer. -/
def asPts (c : Dev nD) (p : Fin 8) (f : Buf (Elt F) (mAs.view.loc (c : Thread nD τ))) : sProp 𝕄 :=
  mAs.view.loc (c : Thread nD τ) ↦[mAs.view.set]{ShareLeaves.leaf 3 fullShare p} f

instance asPts_storable (c : Dev nD) (p : Fin 8) (f) :
    BI.Storable (upEmb : UEmb _ 𝕄) (asPts (F := F) c p f) := by unfold asPts; infer_instance

/-! ## The cells -/

abbrev barS : Sem sig := barA.sem

/-- The eight arrays of transfer semaphores: codes sent (two), received (two), partial results sent, received, reduced
    blocks sent, received. -/
abbrev arr : Fin 8 → DmaSems sig S8 := fun
  | 0 => cc0_scratch7 | 1 => cc0_scratch8 | 2 => cc0_scratch9 | 3 => cc0_scratch10
  | 4 => cc0_scratch11 | 5 => cc0_scratch12 | 6 => cc0_scratch13 | 7 => cc0_scratch14

/-- Semaphore `j` of array `k`. -/
abbrev sm (k j : Fin 8) : DmaSem sig := semAt (arr k) ![j.val] (sem_inb j)

abbrev CI : Type := Option (Fin 8 × Fin 8)

abbrev csem : CI → SemLoc sig
  | none => .reg barS
  | some (k, j) => .dma (sm k j)

theorem sm_val : ∀ k j : Fin 8, (sm k j).val = 4 + 8 * k.val + j.val := by decide

theorem csem_injective : Function.Injective csem := by
  rintro (_ | ⟨k, j⟩) (_ | ⟨k', j'⟩) h
  · rfl
  · cases h
  · cases h
  · have h' : (sm k j).val = (sm k' j').val := by
      have : sm k j = sm k' j' := by injection h
      rw [this]
    rw [sm_val, sm_val] at h'
    have h1 : k = k' := Fin.ext (by omega)
    have h2 : j = j' := Fin.ext (by omega)
    rw [h1, h2]

abbrev cell (c : Dev nD) (i : CI) : GSem nD τ sig := ((c : Thread nD τ), csem i)

/-- Which of the cells a semaphore is. -/
def ciOf (s : SemLoc sig) : Option CI := if h : ∃ i, csem i = s then some h.choose else none

theorem ciOf_csem (i : CI) : ciOf (csem i) = some i := by
  have h : ∃ i', csem i' = csem i := ⟨i, rfl⟩
  unfold ciOf
  rw [dif_pos h, csem_injective h.choose_spec]

theorem ciOf_eq {s : SemLoc sig} {i : CI} (h : ciOf s = some i) : csem i = s := by
  unfold ciOf at h
  split at h
  · rename_i h'
    rw [← Option.some.inj h]; exact h'.choose_spec
  · cases h

abbrev Nc : ℕ := (slot mKa 0).view.dmaCredit
abbrev Np : ℕ := (slot mRr 0).view.dmaCredit
theorem Nc_pos : 0 < Nc := View.dmaCredit_pos _ (by decide)
theorem Np_pos : 0 < Np := View.dmaCredit_pos _ (by decide)
theorem cr_ka (j : Fin 8) : (slot mKa j).view.dmaCredit = Nc := rfl
theorem cr_va (j : Fin 8) : (slot mVa j).view.dmaCredit = Nc := rfl
theorem cr_ks (j : Fin 8) : (slot mKs j).view.dmaCredit = Nc := rfl
theorem cr_vs (j : Fin 8) : (slot mVs j).view.dmaCredit = Nc := rfl
theorem cr_ps (j : Fin 8) : (slot mPs j).view.dmaCredit = Np := rfl
theorem cr_rr (j : Fin 8) : (slot mRr j).view.dmaCredit = Np := rfl
theorem cr_ar (j : Fin 8) : (slot mAr j).view.dmaCredit = Np := rfl
theorem cr_as : mAs.view.dmaCredit = Np := rfl

/-! ## The schedule -/

variable (I : Inp F)

/-- What device `d`'s entry signal hands device `c`: its slots `c`. -/
def barPay (c d : Dev nD) : sProp 𝕄 :=
  iprop((∃ f, slPts mKa d c f) ∗ (∃ f, slPts mVa d c f) ∗ (∃ f, slPts mRr d c f) ∗ (∃ f, slPts mAr d c f))

/-- What a transfer cell hands its owner. -/
def trPay (c : Dev nD) (k j : Fin 8) : sProp 𝕄 := match k with
  | ⟨0, _⟩ => slPts mKs c j (I.ks c)
  | ⟨1, _⟩ => slPts mVs c j (I.vs c)
  | ⟨2, _⟩ => iprop(slPts mKa c j (kall I c) ∗ if j = c then slPts mKs c j (I.ks c) else emp)
  | ⟨3, _⟩ => iprop(slPts mVa c j (vall I c) ∗ if j = c then slPts mVs c j (I.vs c) else emp)
  | ⟨4, _⟩ => slPts mPs c j (ps I c)
  | ⟨5, _⟩ => slPts mRr c j (rsr I c)
  | ⟨6, _⟩ => asPts c j (red I c)
  | ⟨7, _⟩ => slPts mAr c j (agr I)

/-- The amount of a duty of a cell. -/
def amtCI : CI → ℕ
  | none => 1
  | some (k, _) => if k.val < 4 then Nc else Np

/-- The duties of a cell of device `c`: the other devices' signals; one transfer, except to itself by the codes' exchange. -/
def dutyCI (c : Dev nD) : CI → Finset (Fin 8)
  | none => Finset.univ.erase c
  | some (k, j) => if (k = 0 ∨ k = 1) ∧ j = c then ∅ else {0}

def payCI (c : Dev nD) (d : Fin 8) : CI → sProp 𝕄
  | none => barPay c d
  | some (k, j) => trPay I c k j

/-- The level of a cell in the order of waits. -/
def lvCI : CI → ℕ
  | none => 1
  | some (k, _) => match k with
    | ⟨2, _⟩ => 2 | ⟨3, _⟩ => 2 | ⟨5, _⟩ => 3 | ⟨7, _⟩ => 4 | _ => 0

theorem amtCI_pos (i : CI) : 0 < amtCI i := by
  rcases i with _ | ⟨k, j⟩
  · exact Nat.one_pos
  · unfold amtCI; dsimp only; split
    · exact Nc_pos
    · exact Np_pos

def Rd : Rounds.Schedule (GSem nD τ sig) (Fin 8) 𝕄 where
  duties g r := if r = 0 ∧ g.1.2 = .tc then (match ciOf g.2 with | none => ∅ | some i => dutyCI g.1.1 i) else ∅
  unitless _ := False
  amount g _ _ := match ciOf g.2 with | none => 1 | some i => amtCI i
  payload g _ d := match ciOf g.2 with | none => iprop(emp) | some i => payCI I g.1.1 d i
  amount_pos g _ _ _ := by
    split
    · exact Nat.one_pos
    · exact amtCI_pos _

instance trPay_storable (c : Dev nD) (k j : Fin 8) : BI.Storable (upEmb : UEmb _ 𝕄) (trPay I c k j) := by
  unfold trPay; split <;> (try split) <;> infer_instance

instance barPay_storable (c d : Dev nD) : BI.Storable (upEmb : UEmb _ 𝕄) (barPay (F := F) c d) := by
  unfold barPay; infer_instance

instance Rd_payload_storable (g : GSem nD τ sig) (r : ℕ) (d : Fin 8) : BI.Storable (upEmb : UEmb _ 𝕄) ((Rd I).payload g r d) := by
  show BI.Storable upEmb (match ciOf g.2 with | none => iprop(emp) | some i => payCI I g.1.1 d i)
  split
  · infer_instance
  · rename_i i _
    rcases i with _ | ⟨k, j⟩ <;> unfold payCI <;> infer_instance

theorem duties_cell (c : Dev nD) (i : CI) : (Rd I).duties (cell c i) 0 = dutyCI c i := by
  dsimp only [Rd]; rw [if_pos ⟨rfl, rfl⟩, ciOf_csem]
theorem duties_later (g : GSem nD τ sig) : ∀ r, 1 ≤ r → (Rd I).duties g r = ∅ :=
  fun r hr => by dsimp only [Rd]; rw [if_neg fun h => by omega]
theorem amount_cell (c : Dev nD) (i : CI) (r) (d) : (Rd I).amount (cell c i) r d = amtCI i := by
  dsimp only [Rd]; rw [ciOf_csem]
theorem payload_cell (c : Dev nD) (i : CI) (r) (d) : (Rd I).payload (cell c i) r d = payCI I c d i := by
  dsimp only [Rd]; rw [ciOf_csem]

theorem expect_bar (c : Dev nD) : (Rd I).expect (cell c none) 0 = 7 := by
  unfold Schedule.expect Schedule.amountOf
  rw [duties_cell, Finset.sum_congr rfl fun d _ => amount_cell I c none 0 d, Finset.sum_const]
  show (Finset.univ.erase c).card • 1 = 7
  rw [Finset.card_erase_of_mem (Finset.mem_univ _)]
  rfl

/-- A transfer cell that is used: not the codes' send cell to oneself. -/
def Used (c : Dev nD) (k j : Fin 8) : Prop := ¬ ((k = 0 ∨ k = 1) ∧ j = c)

theorem duties_tr {c : Dev nD} {k j : Fin 8} (h : Used c k j) : (Rd I).duties (cell c (some (k, j))) 0 = {0} := by
  rw [duties_cell]; exact if_neg h

theorem expect_tr {c : Dev nD} {k j : Fin 8} (h : Used c k j) : (Rd I).expect (cell c (some (k, j))) 0 = amtCI (some (k, j)) := by
  unfold Schedule.expect Schedule.amountOf
  rw [duties_tr I h, Finset.sum_singleton, amount_cell]

theorem rest_tr {c : Dev nD} {k j : Fin 8} (h : Used c k j) :
    bigSep ((Rd I).duties (cell c (some (k, j))) 0 \ ∅) (fun d => (Rd I).payload (cell c (some (k, j))) 0 d) = trPay I c k j := by
  rw [Finset.sdiff_empty, duties_tr I h, bigSep_singleton, payload_cell]; rfl

theorem rest_bar (c : Dev nD) :
    bigSep ((Rd I).duties (cell c none) 0 \ ∅) (fun d => (Rd I).payload (cell c none) 0 d) = bigSep (Finset.univ.erase c) (fun d => barPay c d) := by
  rw [Finset.sdiff_empty, duties_cell]
  exact bigSep_congr fun d _ => payload_cell I c none 0 d

/-! ## What is owed -/

/-- A list of amounts owed. -/
def oweL (l : List (Dev nD × CI)) : CellTallies nD τ sig Unit := (l.map fun x => tallyAt (cell x.1 x.2) () (amtCI x.2)).sum

theorem oweL_nil : oweL [] = 0 := rfl
theorem oweL_cons (x : Dev nD × CI) (l : List (Dev nD × CI)) : oweL (x :: l) = oweL l + tallyAt (cell x.1 x.2) () (amtCI x.2) := by
  unfold oweL; rw [List.map_cons, List.sum_cons, add_comm]

theorem cell_inj {c c' : Dev nD} {i i' : CI} (h : cell c i = cell c' i') : c = c' ∧ i = i' :=
  ⟨congrArg (fun g : GSem nD τ sig => g.1.1) h, csem_injective (congrArg Prod.snd h)⟩

theorem oweL_count (l : List (Dev nD × CI)) (c : Dev nD) (i : CI) : oweL l (cell c i) () = l.count (c, i) * amtCI i := by
  induction l with
  | nil => rw [oweL_nil]; simp
  | cons x l ih =>
    rw [oweL_cons, Pi.add_apply, Finsupp.add_apply, ih, tallyAt_apply, List.count_cons]
    by_cases h : x = (c, i)
    · subst h
      rw [if_pos ⟨rfl, rfl⟩, if_pos (by simp), Nat.add_mul, Nat.one_mul]
    · rw [if_neg (fun h' => h (Prod.ext (cell_inj h'.1).1.symm (cell_inj h'.1).2.symm)), if_neg (by simpa using h)]
      rw [Nat.add_zero, Nat.add_zero]

theorem oweL_pos {l : List (Dev nD × CI)} {g : GSem nD τ sig} {u : Unit} (h : 0 < oweL l g u) : ∃ x ∈ l, g = cell x.1 x.2 := by
  induction l with
  | nil => rw [oweL_nil] at h; exact absurd h (Nat.lt_irrefl 0)
  | cons x l ih =>
    rw [oweL_cons, Pi.add_apply, Finsupp.add_apply, tallyAt_apply] at h
    by_cases hg : g = cell x.1 x.2
    · exact ⟨x, List.mem_cons_self, hg⟩
    · rw [if_neg (fun h' => hg h'.1)] at h
      obtain ⟨y, hy, e⟩ := ih h
      exact ⟨y, List.mem_cons_of_mem _ hy, e⟩

def L (g : GSem nD τ sig) : Finset Unit := if g.1.2 = .tc then {()} else ∅
def lv (g : GSem nD τ sig) (_ : Unit) : ℕ := match ciOf g.2 with | none => 0 | some i => lvCI i

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (i : CI) : lv (cell c i) () = lvCI i := by dsimp only [lv]; rw [ciOf_csem]

/-- A wait is in order when everything owed is of a higher level. -/
theorem mayWait (c : Dev nD) (s : SemLoc sig) (l : List (Dev nD × CI)) (h : ∀ x ∈ l, lv ((c : Thread nD τ), s) () < lvCI x.2) :
    (levAts L lv : sProp 𝕄) ⊢ MayWait (c : Thread nD τ) s () (oweL l) :=
  MayOwe.of_cut (L := L) (lev := lv) (lv ((c : Thread nD τ), s) ())
    (fun p hp => by rw [Finset.mem_singleton.mp hp, L_tc]; exact Finset.mem_singleton_self _)
    (fun g u hg => by
      obtain ⟨x, _, rfl⟩ := oweL_pos hg
      rw [L_tc]; exact Finset.mem_singleton_self _)
    (fun p hp => by rw [Finset.mem_singleton.mp hp])
    (fun g u hg => by
      obtain ⟨x, hx, rfl⟩ := oweL_pos hg
      rw [lv_cell]; exact h x hx)

/-! ## The peers -/

/-- The device `1 + r` after `c`. -/
def peer (c : Dev nD) (r : Fin 7) : Dev nD := ⟨(c.val + 1 + r.val) % 8, Nat.mod_lt _ (by decide)⟩
/-- The device `d` after `c`. -/
def rot (c : Dev nD) (d : Fin 8) : Dev nD := ⟨(c.val + d.val) % 8, Nat.mod_lt _ (by decide)⟩

def barL (c : Dev nD) : List (Dev nD × CI) := ([0, 1, 2, 3, 4, 5, 6] : List (Fin 7)).map fun r => (peer c r, none)
def kvL (c : Dev nD) : List (Fin 7) → List (Dev nD × CI)
  | [] => []
  | r :: l => (peer c r, some (2, c)) :: (peer c r, some (3, c)) :: kvL c l
def rsL (c : Dev nD) (l : List (Fin 8)) : List (Dev nD × CI) := l.map fun q => (q, some (5, c))
def agL (c : Dev nD) (l : List (Fin 8)) : List (Dev nD × CI) := l.map fun d => (rot c d, some (7, c))

def l1 (c : Dev nD) : List (Dev nD × CI) := rsL c [0, 3, 6, 1, 4, 7, 2, 5] ++ agL c [0, 1, 2, 3, 4, 5, 6, 7]
def l0 (c : Dev nD) : List (Dev nD × CI) := kvL c [0, 1, 2, 3, 4, 5, 6] ++ l1 c
def O₀ (c : Dev nD) : CellTallies nD τ sig Unit := oweL (barL c ++ l0 c)

theorem off4_eq : ∀ (c : Dev nD) (r : Fin 7), k0_off4 c (BitVec.ofNat 32 (1 + r.val)) = ![(peer c r).val, 0, 0, 0] := by decide
theorem off1_eq7 : ∀ (c : Dev nD) (r : Fin 7), k0_off1 c (BitVec.ofNat 32 (r.succ).val) = ![(peer c r).val] := by decide
theorem off1_eq8 : ∀ (c : Dev nD) (d : Fin 8), k0_off1 c (BitVec.ofNat 32 d.val) = ![(rot c d).val] := by decide

end Cert.KernelIdeal.Proto
-- ==== Proof.Steps.lean ====
/-
One rule per communication step of the folded body: a slot sent, copied, waited for.
-/
module

public import proofs.«01_k».proof.Proof.Proto

@[expose] public section

noncomputable section

namespace Cert.KernelIdeal.Steps

open Cert.KernelIdeal.Gen Cert.KernelIdeal.Fold Cert.KernelIdeal.Geo Cert.KernelIdeal.Vals Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a program on device `c`'s core. -/
abbrev WP (c : Dev nD) {β : Type} (p : PG F β) (Q : β → sProp 𝕄) : sProp 𝕄 :=
  wp frame (wpE (defs₀ (F := F)) 𝒱₀ (c : Thread nD τ) none) Set.univ p Q

variable (I : Inp F) (K : Dev nD × CI → ℕ)

/-! ## The shared records -/

/-- Every cell's invariant, and that every cell has reached its round. -/
def recs : sProp 𝕄 :=
  iprop((bigSep Finset.univ fun x : Dev nD × CI => cellInv ER (Rd I) (K x) (cell x.1 x.2))
    ∗ bigSep Finset.univ fun x : Dev nD × CI => reached ER (cell x.1 x.2) 0)

instance recs_persistent : BI.Persistent (recs I K) := by unfold recs; infer_instance

theorem recs_inv (c : Dev nD) (i : CI) : recs I K ⊢ cellInv ER (Rd I) (K (c, i)) (cell c i) := by
  unfold recs
  iintro ⟨H, -⟩
  have h : (bigSep Finset.univ fun x : Dev nD × CI => (cellInv ER (Rd I) (K x) (cell x.1 x.2) : sProp 𝕄))
    ⊢ cellInv ER (Rd I) (K (c, i)) (cell c i) := bigSep_elim (Finset.mem_univ (c, i))
  iapply h; iexact H

theorem recs_reached (c : Dev nD) (i : CI) : recs I K ⊢ reached ER (cell c i) 0 := by
  unfold recs
  iintro ⟨-, H⟩
  have h : (bigSep Finset.univ fun x : Dev nD × CI => (reached ER (cell x.1 x.2) 0 : sProp 𝕄)) ⊢ reached ER (cell c i) 0 :=
    bigSep_elim (Finset.mem_univ (c, i))
  iapply h; iexact H

/-! ## Short names -/

/-- What device `c` owes, whatever it waits for. -/
def ow (c : Dev nD) (l : List (Dev nD × CI)) : sProp 𝕄 := iprop(∃ W, owes (c : Thread nD τ) (oweL l) W)
/-- The credit for a transfer cell's round. -/
def cr (c : Dev nD) (k j : Fin 8) : sProp 𝕄 := cred (tallyAt (cell c (some (k, j))) () (amtCI (some (k, j))))
/-- At the start of a transfer cell's round; -/
def atp (c : Dev nD) (k j : Fin 8) : sProp 𝕄 := atPos ER (cell c (some (k, j))) 0 ∅ 0
/-- the cell closed, its counter at zero; -/
def zv (c : Dev nD) (k j : Fin 8) : sProp 𝕄 := semVal (cell c (some (k, j))) 0
/-- the right to make its transfer. -/
def tk (c : Dev nD) (k j : Fin 8) : sProp 𝕄 := dutyTok ER (cell c (some (k, j))) 0 0

/-- The separating product along a list. -/
def bl {ι : Type} (Φ : ι → sProp 𝕄) : List ι → sProp 𝕄
  | [] => iprop(emp)
  | x :: l => iprop(Φ x ∗ bl Φ l)

theorem bl_toFinset {ι : Type} [DecidableEq ι] (Φ : ι → sProp 𝕄) (l : List ι) (h : l.Nodup) : bigSep l.toFinset Φ = bl Φ l := by
  induction l with
  | nil => exact bigSep_empty
  | cons x l ih =>
    rw [List.toFinset_cons, bigSep_insert (by simpa using (List.nodup_cons.1 h).1), ih (List.nodup_cons.1 h).2]
    rfl

theorem bl_eq {ι : Type} [DecidableEq ι] (Φ : ι → sProp 𝕄) (s : Finset ι) (l : List ι) (h : l.Nodup) (hs : l.toFinset = s) : bigSep s Φ = bl Φ l := by
  rw [← hs, bl_toFinset Φ l h]

theorem bl_map {ι κ : Type} (Φ : κ → sProp 𝕄) (f : ι → κ) (l : List ι) : bl Φ (l.map f) = bl (fun x => Φ (f x)) l := by
  induction l with
  | nil => rfl
  | cons x l ih => show iprop(_ ∗ _) = iprop(_ ∗ _); rw [ih]

theorem bl_sep {ι : Type} (Φ Ψ : ι → sProp 𝕄) (l : List ι) : bl (fun x => iprop(Φ x ∗ Ψ x)) l ⊢ iprop(bl Φ l ∗ bl Ψ l) := by
  induction l with
  | nil => unfold bl; iintro -; isplitl <;> iempintro
  | cons x l ih =>
    unfold bl
    iintro ⟨⟨H1, H2⟩, H⟩
    ihave H := ih $$ H
    icases H with ⟨H3, H4⟩
    isplitl [H1 H3]
    · isplitl [H1] <;> iassumption
    · isplitl [H2] <;> iassumption

/-! ## Steps -/

/-- A transfer to device `p` that pays the send cell `(a, p)` here and the receive cell `(b, c)` there. -/
theorem wp_send {sp : Space} {s : Shape} {e : EltTy} (src : Memref sig .tc sp s e) (dst : Memref sig .tc .vmem s e) (c p : Dev nD) (a j b : Fin 8)
    (q : PosShare TreeShare) (fs : Buf (Elt F) (src.view.loc (c : Thread nD τ))) (fd : Buf (Elt F) (dst.view.loc (p : Thread nD τ)))
    (l : List (Dev nD × CI)) (ha : Used c a j) (hb : Used p b c)
    (hN : dst.view.dmaCredit = amtCI (some (b, c))) (hab : amtCI (some (a, j)) = amtCI (some (b, c)))
    (hpay₁ : (src.view.loc (c : Thread nD τ) ↦[src.view.set]{q} fs) ⊢ trPay I c a j)
    (hpay₂ : (dst.view.loc (p : Thread nD τ) ↦[dst.view.set]{fullShare} (dst.view.write (Elt F) fd (src.view.read (Elt F) fs) Finset.univ)) ⊢ trPay I p b c)
    {hsc} {hsrc} {hdst} {hsem} {β : Type} {Q : β → sProp 𝕄} {k : PUnit → PG F β} :
    iprop(recs I K ∗ (src.view.loc (c : Thread nD τ) ↦[src.view.set]{q} fs) ∗ (dst.view.loc (p : Thread nD τ) ↦[dst.view.set]{fullShare} fd)
        ∗ ow c ((p, some (b, c)) :: l) ∗ tk c a j ∗ tk p b c)
      ⊢ iprop(((cr c a j ∗ ow c l) -∗ WP c (k ⟨⟩) Q)
        -∗ WP c (.op (.enqueueDma src (.remote (Dev.tc p : Thread nD τ) dst (.dma (sm a j)) hsc) (.dma (sm b c)) hsrc hdst hsem) k) Q) := by
  unfold ow tk cr
  iintro ⟨#HR, Hs, Hd, ⟨%W, HO⟩, Ht, Ht'⟩ Hk
  iapply (Rounds.wp_send_pointsTo 𝒱₀ ER (Rd I) (c : Thread nD τ) none (κ₁ := K (c, some (a, j))) (κ₂ := K (p, some (b, c)))
    (r₁ := 0) (r₂ := 0) (d₁ := 0) (d₂ := 0) (fd := fd) (fs := fs) (q := q)
    (by rw [duties_tr I ha]; exact Finset.mem_singleton_self _) (by rw [duties_tr I hb]; exact Finset.mem_singleton_self _)
    () () (amtCI (some (b, c))) (show dst.view.amount (csem (some (b, c))) = _ from hN) ((amount_cell I c _ 0 0).trans hab) (amount_cell I p (some (b, c)) 0 0) (oweL l) (oweL_cons (p, some (b, c)) l) (W := W)
    (by rw [payload_cell]; exact hpay₁) (by rw [payload_cell I p (some (b, c))]; exact hpay₂)) $$ [Hs Hd HO Ht Ht']
  · isplitr; · iapply (recs_inv I K c (some (a, j))); iexact HR
    isplitr; · iapply (recs_inv I K p (some (b, c))); iexact HR
    isplitl [Hs]; · iexact Hs
    isplitl [Hd]; · iexact Hd
    isplitl [HO]; · iexact HO
    isplitl [Ht]; · iexact Ht
    isplitr; · iapply (recs_reached I K c (some (a, j))); iexact HR
    isplitl [Ht']; · iexact Ht'
    iapply (recs_reached I K p (some (b, c))); iexact HR
  iintro ⟨Hc, HO⟩
  iapply Hk
  isplitl [Hc]
  · rw [hab]; iexact Hc
  · iexists W; iexact HO

/-- A copy into a buffer of the device's own, that pays the receive cell `(b, c)`. -/
theorem wp_copy {sp : Space} {s : Shape} {e : EltTy} (src : Memref sig .tc sp s e) (dst : Memref sig .tc .vmem s e) (c : Dev nD) (b : Fin 8)
    (fs : Buf (Elt F) (src.view.loc (c : Thread nD τ))) (fd : Buf (Elt F) (dst.view.loc (c : Thread nD τ)))
    (hb : Used c b c) (hN : dst.view.dmaCredit = amtCI (some (b, c)))
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ trPay I c b c)
    {hsrc} {hdst} {hsem} {β : Type} {Q : β → sProp 𝕄} {k : PUnit → PG F β} :
    iprop(recs I K ∗ (src.view.loc (c : Thread nD τ) ↦[src.view.set]{fullShare} fs) ∗ (dst.view.loc (c : Thread nD τ) ↦[dst.view.set]{fullShare} fd)
        ∗ tk c b c)
      ⊢ iprop((cr c b c -∗ WP c (k ⟨⟩) Q)
        -∗ WP c (.op (.enqueueDma src (.here dst) (.dma (sm b c)) hsrc hdst hsem) k) Q) := by
  unfold tk cr
  iintro ⟨#HR, Hs, Hd, Ht⟩ Hk
  iapply (Rounds.wp_copy_pointsTo 𝒱₀ ER (Rd I) (c : Thread nD τ) none (κ := K (c, some (b, c)))
    (r := 0) (d := 0) (fd := fd) (fs := fs) (q := fullShare)
    (by rw [duties_tr I hb]; exact Finset.mem_singleton_self _)
    () (amtCI (some (b, c))) (show dst.view.amount (csem (some (b, c))) = _ from hN) (amount_cell I c (some (b, c)) 0 0) (by rw [payload_cell I c (some (b, c))]; exact hpay)) $$ [Hs Hd Ht]
  · isplitr; · iapply (recs_inv I K c (some (b, c))); iexact HR
    isplitl [Hs]; · iexact Hs
    isplitl [Hd]; · iexact Hd
    isplitl [Ht]; · iexact Ht
    iapply (recs_reached I K c (some (b, c))); iexact HR
  iexact Hk

/-- The wait for a transfer cell: its payload, and the cell closed. -/
theorem wp_wait {sp sp' : Space} {s s' : Shape} {e e' : EltTy} (src : Memref sig .tc sp s e) (dst : Memref sig .tc sp' s' e') (c : Dev nD) (a j : Fin 8)
    (l : List (Dev nD × CI)) (ha : Used c a j) (hN : dst.view.dmaCredit = amtCI (some (a, j)))
    (hl : ∀ x ∈ l, lvCI (some (a, j)) < lvCI x.2)
    {hsrc} {hdst} {β : Type} {Q : β → sProp 𝕄} {k : PUnit → PG F β} :
    iprop(recs I K ∗ levAts L lv ∗ cr c a j ∗ atp c a j ∗ ow c l)
      ⊢ iprop(((zv c a j ∗ trPay I c a j ∗ ow c l) -∗ WP c (k ⟨⟩) Q)
        -∗ WP c (.op (.waitDma2 (sm a j) src dst hsrc hdst) k) Q) := by
  unfold ow cr atp zv
  iintro ⟨#HR, #Hlev, Hc, Hat, ⟨%W, HO⟩⟩ Hk
  iapply (Rounds.wp_wait_rest_token 𝒱₀ ER (Rd I) (c : Thread nD τ) none (κ := K (c, some (a, j)))
      (wpE_waitDma2_eq 𝒱₀ (c : Thread nD τ) none Set.univ) (Set.mem_univ _) () (O := oweL l) (W := W) (R := 0) (m := 0) (T := ∅)
      (by rw [Nat.zero_add, expect_tr I ha, hN])) $$ [Hc HO Hat]
  · isplitr; · iapply (recs_inv I K c (some (a, j))); iexact HR
    isplitl [Hc]; · rw [hN]; iexact Hc
    isplitl [HO]; · iexact HO
    isplitr
    · iapply (mayWait c (csem (some (a, j))) l fun x hx => by rw [lv_cell]; exact hl x hx); iexact Hlev
    iexact Hat
  iintro ⟨HO, Hat, -, Hpay⟩
  imod (Rounds.cell_close ER (Rd I) (Set.mem_univ (K (c, some (a, j)))) (fun h => h) (R := 0 + 1) (duties_later I (cell c (some (a, j))))) $$ [Hat] with Hz
  · isplitr; · iapply (recs_inv I K c (some (a, j))); iexact HR
    iexact Hat
  iapply Hk
  isplitl [Hz]; · iexact Hz
  isplitl [Hpay]
  · iapply (Entails.of_eq (rest_tr I ha)); iexact Hpay
  iexists _; iexact HO

/-! ## The slots' contents -/

section Slots
variable {sp sp' : Space} {e : EltTy} {A B C : ℕ}

/-- A slot at its own elements is the slot. -/
theorem slPts_eq (m : Memref sig .tc sp ⟨4, ![8, A, B, C]⟩ e) (c : Dev nD) (j : Fin 8) (f : Buf (Elt F) (m.view.loc (c : Thread nD τ))) :
    ((slot m j).view.loc (c : Thread nD τ) ↦[(slot m j).view.set]{fullShare} f : sProp 𝕄) = slPts m c j f := by
  unfold slPts
  exact congrArg (fun S => (m.view.loc (c : Thread nD τ) ↦[S]{fullShare} f : sProp 𝕄)) (slot_set j)

theorem slPts_congr (m : Memref sig .tc sp ⟨4, ![8, A, B, C]⟩ e) (c : Dev nD) (j : Fin 8) (f g : Buf (Elt F) (m.view.loc (c : Thread nD τ)))
    (h : ∀ x, m.view.read (Elt F) f (ix4 j x) = m.view.read (Elt F) g (ix4 j x)) : slPts m c j f = slPts m c j g := by
  unfold slPts; exact pointsTo_congr (slot_congr j f g h)

/-- A slot written. -/
theorem slPts_write (m : Memref sig .tc sp ⟨4, ![8, A, B, C]⟩ e) (c : Dev nD) (j : Fin 8) (fd G : Buf (Elt F) (m.view.loc (c : Thread nD τ)))
    (w : (⟨3, ![A, B, C]⟩ : Shape).Idx → Elt F e) (h : ∀ x, w x = m.view.read (Elt F) G (ix4 j x)) :
    ((slot m j).view.loc (c : Thread nD τ) ↦[(slot m j).view.set]{fullShare} ((slot m j).view.write (Elt F) fd w Finset.univ) : sProp 𝕄)
      = slPts m c j G := by
  refine (slPts_eq m c j _).trans ?_
  unfold slPts; exact pointsTo_congr (slot_write j fd G w h)

/-- A whole buffer is its eight slots. -/
theorem slPts_split (m : Memref sig .tc sp ⟨4, ![8, A, B, C]⟩ e) (hm : m.view.set = Finset.univ) (c : Dev nD) (f : Buf (Elt F) (m.view.loc (c : Thread nD τ))) :
    (m.view.loc (c : Thread nD τ) ↦{fullShare} f : sProp 𝕄) = bigSep Finset.univ fun j => slPts m c j f := by
  have := pointsTo_biUnion (Ix := Unit) (Name := ℕ) (U := UU) (Lvl := ℕ) (ℓ := m.view.loc (c : Thread nD τ)) (q := fullShare) (f := f) Finset.univ (slotSet m) (fun b _ b' _ h => slotSet_disjoint h)
  rw [slotSet_cover hm] at this
  exact this

end Slots

end Cert.KernelIdeal.Steps
-- ==== Proof.Exch.lean ====
/-
The exchange of the codes: every device sends each other device its slot, and waits for the slots of the others.
-/
module

public import proofs.«01_k».proof.Proof.Steps

@[expose] public section

noncomputable section

namespace Cert.KernelIdeal.Exch

open Cert.KernelIdeal.Gen Cert.KernelIdeal.Fold Cert.KernelIdeal.Geo Cert.KernelIdeal.Vals Cert.KernelIdeal.Proto Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

theorem peer_ne (c : Dev nD) (r : Fin 7) : peer c r ≠ c := by revert c r; decide

/-! ## The codes -/

/-- The slot of codes for device `p` sent into its slot `c`. -/
theorem wp_sendC (ms : Memref sig .tc .hbm S8x2x512x512 .i8) (hs : ms.IsWhole) (md : Memref sig .tc .vmem S8x2x512x512 .i8) (hd : md.IsWhole)
    (a b : Fin 8) (c p n : Dev nD) (r : Fin 7) (hn : n = p) (hp : peer c r = p)
    (fs : Buf (Elt F) (ms.view.loc (c : Thread nD τ))) (G : Buf (Elt F) (md.view.loc (p : Thread nD τ)))
    (l : List (Dev nD × CI)) (ha : Used c a p) (hb : Used p b c) (hN : (slot md c).view.dmaCredit = amtCI (some (b, c)))
    (hab : amtCI (some (a, p)) = amtCI (some (b, c)))
    (h1 : slPts ms c p fs ⊢ trPay I c a p) (h2 : slPts md p c G ⊢ trPay I p b c)
    (hG : ∀ x, ms.view.read (Elt F) fs (ix4 (A := 2) (B := 512) (C := 512) p x) = md.view.read (Elt F) G (ix4 (A := 2) (B := 512) (C := 512) c x))
    {β : Type} {Q : β → sProp 𝕄} {Kt : PG F β} :
    iprop(recs I K ∗ slPts ms c p fs ∗ (∃ f, slPts md p c f) ∗ ow c ((p, some (b, c)) :: l) ∗ tk c a p ∗ tk p b c)
      ⊢ iprop(((cr c a p ∗ ow c l) -∗ WP c Kt Q) -∗ WP c (sendC ms hs md hd (arr a) (arr b) c r n Kt) Q) := by
  subst hn
  subst hp
  have core : ∀ (o4 o3 : Fin 4 → ℕ) (o1 o2 : Fin 1 → ℕ) h4 h3 h1' h2' hsrc hdst hsem, o4 = ![(peer c r).val, 0, 0, 0] → o3 = ![c.val, 0, 0, 0]
      → o1 = ![(peer c r).val] → o2 = ![c.val] →
      iprop(recs I K ∗ slPts ms c (peer c r) fs ∗ (∃ f, slPts md (peer c r) c f) ∗ ow c ((peer c r, some (b, c)) :: l) ∗ tk c a (peer c r) ∗ tk (peer c r) b c)
      ⊢ iprop(((cr c a (peer c r) ∗ ow c l) -∗ WP c Kt Q)
        -∗ WP c (.op (.enqueueDma (slotC ms o4 h4) (.remote (Dev.tc (peer c r)) (slotC md o3 h3) (.dma (semAt (arr a) o1 h1'))) (.dma (semAt (arr b) o2 h2')) hsrc hdst hsem)
            fun _ => Kt) Q) := by
    intro o4 o3 o1 o2 h4 h3 h1' h2' hsrc hdst hsem e4 e3 e1 e2
    subst e4; subst e3; subst e1; subst e2
    show _ ⊢ iprop(_ -∗ WP c (.op (.enqueueDma (slot ms (peer c r)) (.remote (Dev.tc (peer c r)) (slot md c) (.dma (sm a (peer c r))) _) (.dma (sm b c)) hsrc hdst hsem)
            fun _ => Kt) Q)
    iintro ⟨#HR, Hs, ⟨%fd, Hd⟩, HO, Ht, Ht'⟩ Hk
    ihave Hs := (Entails.of_eq (slPts_eq ms c (peer c r) fs).symm) $$ Hs
    ihave Hd := (Entails.of_eq (slPts_eq md (peer c r) c fd).symm) $$ Hd
    iapply (Steps.wp_send I K (slot ms (peer c r)) (slot md c) c (peer c r) a (peer c r) b fullShare fs fd l ha hb hN hab
      ((Entails.of_eq (slPts_eq ms c (peer c r) fs)).trans h1)
      ((Entails.of_eq (slPts_write md (peer c r) c fd G _ fun x => (slot_read _ _ _).trans (hG x))).trans h2)) $$ [Hs Hd HO Ht Ht']
    · isplitr; · iexact HR
      isplitl [Hs]; · iexact Hs
      isplitl [Hd]; · iexact Hd
      isplitl [HO]; · iexact HO
      isplitl [Ht] <;> iassumption
    iexact Hk
  exact core _ _ _ _ _ _ _ _ _ _ _ (off4_eq c r) (k0_off3_eq c) (off1_eq7 c r) (k0_off2_eq c)

/-- The own slot of codes copied. -/
theorem wp_copyC (ms : Memref sig .tc .hbm S8x2x512x512 .i8) (hs : ms.IsWhole) (md : Memref sig .tc .vmem S8x2x512x512 .i8) (hd : md.IsWhole)
    (b : Fin 8) (c : Dev nD) (fs : Buf (Elt F) (ms.view.loc (c : Thread nD τ))) (G : Buf (Elt F) (md.view.loc (c : Thread nD τ)))
    (hb : Used c b c) (hN : (slot md c).view.dmaCredit = amtCI (some (b, c)))
    (h2 : iprop(slPts md c c G ∗ slPts ms c c fs) ⊢ trPay I c b c)
    (hG : ∀ x, ms.view.read (Elt F) fs (ix4 (A := 2) (B := 512) (C := 512) c x) = md.view.read (Elt F) G (ix4 (A := 2) (B := 512) (C := 512) c x))
    {β : Type} {Q : β → sProp 𝕄} {Kt : PG F β} :
    iprop(recs I K ∗ slPts ms c c fs ∗ (∃ f, slPts md c c f) ∗ tk c b c)
      ⊢ iprop((cr c b c -∗ WP c Kt Q) -∗ WP c (copyC ms hs md hd (arr b) c Kt) Q) := by
  have core : ∀ (o3 : Fin 4 → ℕ) (o2 : Fin 1 → ℕ) h3 h2' hsrc hdst hsem, o3 = ![c.val, 0, 0, 0] → o2 = ![c.val] →
      iprop(recs I K ∗ slPts ms c c fs ∗ (∃ f, slPts md c c f) ∗ tk c b c)
      ⊢ iprop((cr c b c -∗ WP c Kt Q)
        -∗ WP c (.op (.enqueueDma (slotC ms o3 h3) (.here (slotC md o3 h3)) (.dma (semAt (arr b) o2 h2')) hsrc hdst hsem) fun _ => Kt) Q) := by
    intro o3 o2 h3 h2' hsrc hdst hsem e3 e2
    subst e3; subst e2
    show _ ⊢ iprop(_ -∗ WP c (.op (.enqueueDma (slot ms c) (.here (slot md c)) (.dma (sm b c)) hsrc hdst hsem) fun _ => Kt) Q)
    iintro ⟨#HR, Hs, ⟨%fd, Hd⟩, Ht⟩ Hk
    ihave Hs := (Entails.of_eq (slPts_eq ms c c fs).symm) $$ Hs
    ihave Hd := (Entails.of_eq (slPts_eq md c c fd).symm) $$ Hd
    iapply (Steps.wp_copy I K (slot ms c) (slot md c) c b fs fd hb hN
      ((BI.sep_mono (Entails.of_eq (slPts_write md c c fd G _ fun x => (slot_read _ _ _).trans (hG x))) (Entails.of_eq (slPts_eq ms c c fs))).trans h2)) $$ [Hs Hd Ht]
    · isplitr; · iexact HR
      isplitl [Hs]; · iexact Hs
      isplitl [Hd]; · iexact Hd
      iexact Ht
    iexact Hk
  exact core _ _ _ _ _ _ _ (k0_off3_eq c) (k0_off2_eq c)

theorem wp_waitC (md : Memref sig .tc .vmem S8x2x512x512 .i8) (hd : md.IsWhole) (b : Fin 8) (c : Dev nD) (j : Fin 8)
    (l : List (Dev nD × CI)) (hb : Used c b j) (hN : (slot md j).view.dmaCredit = amtCI (some (b, j))) (hl : ∀ x ∈ l, lvCI (some (b, j)) < lvCI x.2)
    {β : Type} {Q : β → sProp 𝕄} {Kt : PG F β} :
    iprop(recs I K ∗ levAts L lv ∗ cr c b j ∗ atp c b j ∗ ow c l)
      ⊢ iprop(((zv c b j ∗ trPay I c b j ∗ ow c l) -∗ WP c Kt Q) -∗ WP c (waitC md hd (arr b) j Kt) Q) :=
  wp_wait I K (slot md j) (slot md j) c b j l hb hN hl (k := fun _ => Kt)

theorem wp_sentC (ms : Memref sig .tc .hbm S8x2x512x512 .i8) (hs : ms.IsWhole) (md : Memref sig .tc .vmem S8x2x512x512 .i8) (hd : md.IsWhole)
    (a : Fin 8) (c p : Dev nD) (r : Fin 7) (hp : peer c r = p)
    (l : List (Dev nD × CI)) (ha : Used c a p) (hN : (slot ms p).view.dmaCredit = amtCI (some (a, p))) (hl : ∀ x ∈ l, lvCI (some (a, p)) < lvCI x.2)
    {β : Type} {Q : β → sProp 𝕄} {Kt : PG F β} :
    iprop(recs I K ∗ levAts L lv ∗ cr c a p ∗ atp c a p ∗ ow c l)
      ⊢ iprop(((zv c a p ∗ trPay I c a p ∗ ow c l) -∗ WP c Kt Q) -∗ WP c (sentC ms hs md hd (arr a) c r Kt) Q) := by
  subst hp
  have core : ∀ (o4 o3 : Fin 4 → ℕ) (o1 : Fin 1 → ℕ) h4 h3 h1' hsrc hdst, o4 = ![(peer c r).val, 0, 0, 0] → o1 = ![(peer c r).val] →
      iprop(recs I K ∗ levAts L lv ∗ cr c a (peer c r) ∗ atp c a (peer c r) ∗ ow c l)
      ⊢ iprop(((zv c a (peer c r) ∗ trPay I c a (peer c r) ∗ ow c l) -∗ WP c Kt Q)
        -∗ WP c (.op (.waitDma2 (semAt (arr a) o1 h1') (slotC md o3 h3) (slotC ms o4 h4) hsrc hdst) fun _ => Kt) Q) := by
    intro o4 o3 o1 h4 h3 h1' hsrc hdst e4 e1
    subst e4; subst e1
    exact wp_wait I K (slotC md o3 h3) (slot ms (peer c r)) c a (peer c r) l ha hN hl (k := fun _ => Kt)
  exact core _ _ _ _ _ _ _ _ (off4_eq c r) (off1_eq7 c r)

/-! ### All of them -/

theorem used_send (c : Dev nD) (k : Fin 8) (r : Fin 7) : Used c k (peer c r) := fun h => peer_ne c r h.2
theorem used_ge (c : Dev nD) (k j : Fin 8) (h : 2 ≤ k.val) : Used c k j := by
  rintro ⟨rfl | rfl, -⟩ <;> exact absurd h (by decide)

theorem trPay2_ne (p c : Dev nD) (h : c ≠ p) : trPay I p 2 c = slPts mKa p c (kall I p) := by
  show iprop(_ ∗ if c = p then _ else _) = _
  rw [if_neg h]; exact Idealize.ShloMosaic.sep_emp_eq' _
theorem trPay3_ne (p c : Dev nD) (h : c ≠ p) : trPay I p 3 c = slPts mVa p c (vall I p) := by
  show iprop(_ ∗ if c = p then _ else _) = _
  rw [if_neg h]; exact Idealize.ShloMosaic.sep_emp_eq' _
theorem trPay2_eq (c : Dev nD) : trPay I c 2 c = iprop(slPts mKa c c (kall I c) ∗ slPts mKs c c (I.ks c)) := by
  show iprop(_ ∗ if c = c then _ else _) = _
  rw [if_pos rfl]
theorem trPay3_eq (c : Dev nD) : trPay I c 3 c = iprop(slPts mVa c c (vall I c) ∗ slPts mVs c c (I.vs c)) := by
  show iprop(_ ∗ if c = c then _ else _) = _
  rw [if_pos rfl]

/-- What the codes' exchange with device `p` takes. -/
def kvR (c p : Dev nD) : sProp 𝕄 :=
  iprop((slPts mKs c p (I.ks c) ∗ (∃ f, slPts mKa p c f) ∗ tk c 0 p ∗ tk p 2 c)
    ∗ (slPts mVs c p (I.vs c) ∗ (∃ f, slPts mVa p c f) ∗ tk c 1 p ∗ tk p 3 c))

/-- The codes sent to the peers of a list. -/
def sendsC (d0 : Dev nD) {β : Type} : List (Fin 7 × Dev nD × Dev nD) → PG F β → PG F β
  | [], Kt => Kt
  | x :: l, Kt => sendC mKs (Memref.isWhole_whole _) mKa (Memref.isWhole_whole _) (arr 0) (arr 2) d0 x.1 x.2.1 <|
      sendC mVs (Memref.isWhole_whole _) mVa (Memref.isWhole_whole _) (arr 1) (arr 3) d0 x.1 x.2.2 <| sendsC d0 l Kt

theorem wp_sendsC (c : Dev nD) (l : List (Fin 7 × Dev nD × Dev nD)) (hl : ∀ x ∈ l, x.2.1 = peer c x.1 ∧ x.2.2 = peer c x.1) (l' : List (Dev nD × CI))
    {β : Type} {Q : β → sProp 𝕄} {Kt : PG F β} :
    iprop(recs I K ∗ bl (fun x => kvR I c (peer c x.1)) l ∗ ow c (kvL c (l.map (·.1)) ++ l'))
      ⊢ iprop(((bl (fun x => iprop(cr c 0 (peer c x.1) ∗ cr c 1 (peer c x.1))) l ∗ ow c l') -∗ WP c Kt Q) -∗ WP c (sendsC c l Kt) Q) := by
  induction l with
  | nil =>
    unfold bl sendsC
    iintro ⟨#HR, -, HO⟩ Hk
    iapply Hk
    isplitr; · iempintro
    iexact HO
  | cons x l ih =>
    have hx := hl x List.mem_cons_self
    unfold bl sendsC kvR
    iintro ⟨#HR, ⟨⟨⟨Hs, Hd, Ht, Ht'⟩, Hs2, Hd2, Ht2, Ht2'⟩, Hl⟩, HO⟩ Hk
    iapply (wp_sendC I K mKs _ mKa _ 0 2 c (peer c x.1) x.2.1 x.1 hx.1 rfl (I.ks c) (kall I (peer c x.1))
      ((peer c x.1, some (3, c)) :: (kvL c (l.map (·.1)) ++ l')) (used_send c 0 x.1) (used_ge _ _ _ (by decide)) rfl rfl
      (BI.Entails.refl _) (Entails.of_eq (trPay2_ne I _ _ (peer_ne c x.1).symm).symm) (fun _ => rfl)) $$ [Hs Hd Ht Ht' HO]
    · isplitr; · iexact HR
      isplitl [Hs]; · iexact Hs
      isplitl [Hd]; · iexact Hd
      isplitl [HO]; · iexact HO
      isplitl [Ht] <;> iassumption
    iintro ⟨Hc1, HO⟩
    iapply (wp_sendC I K mVs _ mVa _ 1 3 c (peer c x.1) x.2.2 x.1 hx.2 rfl (I.vs c) (vall I (peer c x.1))
      (kvL c (l.map (·.1)) ++ l') (used_send c 1 x.1) (used_ge _ _ _ (by decide)) rfl rfl
      (BI.Entails.refl _) (Entails.of_eq (trPay3_ne I _ _ (peer_ne c x.1).symm).symm) (fun _ => rfl)) $$ [Hs2 Hd2 Ht2 Ht2' HO]
    · isplitr; · iexact HR
      isplitl [Hs2]; · iexact Hs2
      isplitl [Hd2]; · iexact Hd2
      isplitl [HO]; · iexact HO
      isplitl [Ht2] <;> iassumption
    iintro ⟨Hc2, HO⟩
    iapply (ih fun y hy => hl y (List.mem_cons_of_mem _ hy)) $$ [Hl HO]
    · isplitr; · iexact HR
      isplitl [Hl]
      · unfold kvR; iexact Hl
      iexact HO
    iintro ⟨Hl, HO⟩
    iapply Hk
    isplitr [HO]
    · isplitl [Hc1 Hc2]
      · isplitl [Hc1] <;> iassumption
      iexact Hl
    iexact HO

theorem wp_waitsC (c : Dev nD) (l : List (Fin 8)) (l' : List (Dev nD × CI)) (hl' : ∀ x ∈ l', 2 < lvCI x.2)
    {β : Type} {Q : β → sProp 𝕄} {Kt : PG F β} :
    iprop(recs I K ∗ levAts L lv ∗ bl (fun j => iprop((cr c 2 j ∗ atp c 2 j) ∗ (cr c 3 j ∗ atp c 3 j))) l ∗ ow c l')
      ⊢ iprop(((bl (fun j => iprop((zv c 2 j ∗ trPay I c 2 j) ∗ (zv c 3 j ∗ trPay I c 3 j))) l ∗ ow c l') -∗ WP c Kt Q)
        -∗ WP c (waitsC mKa (Memref.isWhole_whole _) mVa (Memref.isWhole_whole _) (arr 2) (arr 3) l Kt) Q) := by
  induction l with
  | nil =>
    unfold bl waitsC
    iintro ⟨#HR, #Hlev, -, HO⟩ Hk
    iapply Hk
    isplitr; · iempintro
    iexact HO
  | cons j l ih =>
    unfold bl waitsC
    iintro ⟨#HR, #Hlev, ⟨⟨⟨Hc, Ha⟩, Hc2, Ha2⟩, Hl⟩, HO⟩ Hk
    iapply (wp_waitC I K mKa _ 2 c j l' (used_ge _ _ _ (by decide)) rfl hl') $$ [Hc Ha HO]
    · isplitr; · iexact HR
      isplitr; · iexact Hlev
      isplitl [Hc]; · iexact Hc
      isplitl [Ha] <;> iassumption
    iintro ⟨Hz, Hp, HO⟩
    iapply (wp_waitC I K mVa _ 3 c j l' (used_ge _ _ _ (by decide)) rfl hl') $$ [Hc2 Ha2 HO]
    · isplitr; · iexact HR
      isplitr; · iexact Hlev
      isplitl [Hc2]; · iexact Hc2
      isplitl [Ha2] <;> iassumption
    iintro ⟨Hz2, Hp2, HO⟩
    iapply ih $$ [Hl HO]
    · isplitr; · iexact HR
      isplitr; · iexact Hlev
      isplitl [Hl] <;> iassumption
    iintro ⟨Hl, HO⟩
    iapply Hk
    isplitr [HO]
    · isplitr [Hl]
      · isplitl [Hz Hp]
        · isplitl [Hz] <;> iassumption
        · isplitl [Hz2] <;> iassumption
      iexact Hl
    iexact HO

theorem wp_sentsC (c : Dev nD) (l : List (Fin 7))
    {β : Type} {Q : β → sProp 𝕄} {Kt : PG F β} :
    iprop(recs I K ∗ levAts L lv ∗ bl (fun r => iprop((cr c 0 (peer c r) ∗ atp c 0 (peer c r)) ∗ (cr c 1 (peer c r) ∗ atp c 1 (peer c r)))) l ∗ ow c [])
      ⊢ iprop(((bl (fun r => iprop((zv c 0 (peer c r) ∗ trPay I c 0 (peer c r)) ∗ (zv c 1 (peer c r) ∗ trPay I c 1 (peer c r)))) l ∗ ow c []) -∗ WP c Kt Q)
        -∗ WP c (sentsC mKs (Memref.isWhole_whole _) mVs (Memref.isWhole_whole _) mKa (Memref.isWhole_whole _) mVa (Memref.isWhole_whole _) (arr 0) (arr 1) c l Kt) Q) := by
  induction l with
  | nil =>
    unfold bl sentsC
    iintro ⟨#HR, #Hlev, -, HO⟩ Hk
    iapply Hk
    isplitr; · iempintro
    iexact HO
  | cons r l ih =>
    unfold bl sentsC
    iintro ⟨#HR, #Hlev, ⟨⟨⟨Hc, Ha⟩, Hc2, Ha2⟩, Hl⟩, HO⟩ Hk
    iapply (wp_sentC I K mKs _ mKa _ 0 c (peer c r) r rfl [] (used_send c 0 r) rfl (fun _ h => absurd h List.not_mem_nil)) $$ [Hc Ha HO]
    · isplitr; · iexact HR
      isplitr; · iexact Hlev
      isplitl [Hc]; · iexact Hc
      isplitl [Ha] <;> iassumption
    iintro ⟨Hz, Hp, HO⟩
    iapply (wp_sentC I K mVs _ mVa _ 1 c (peer c r) r rfl [] (used_send c 1 r) rfl (fun _ h => absurd h List.not_mem_nil)) $$ [Hc2 Ha2 HO]
    · isplitr; · iexact HR
      isplitr; · iexact Hlev
      isplitl [Hc2]; · iexact Hc2
      isplitl [Ha2] <;> iassumption
    iintro ⟨Hz2, Hp2, HO⟩
    iapply ih $$ [Hl HO]
    · isplitr; · iexact HR
      isplitr; · iexact Hlev
      isplitl [Hl] <;> iassumption
    iintro ⟨Hl, HO⟩
    iapply Hk
    isplitr [HO]
    · isplitr [Hl]
      · isplitl [Hz Hp]
        · isplitl [Hz] <;> iassumption
        · isplitl [Hz2] <;> iassumption
      iexact Hl
    iexact HO

end Cert.KernelIdeal.Exch
-- ==== Proof.Shake.lean ====
/-
The handshake: every device signals each other device that its slots may be written, and waits for their signals.
-/
module

public import proofs.«01_k».proof.Proof.Exch

@[expose] public section

noncomputable section

namespace Cert.KernelIdeal.Shake

open Cert.KernelIdeal.Gen Cert.KernelIdeal.Fold Cert.KernelIdeal.Geo Cert.KernelIdeal.Vals Cert.KernelIdeal.Proto Cert.KernelIdeal.Steps Cert.KernelIdeal.Exch
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

/-- The right to signal device `p`'s barrier. -/
def bt (c p : Dev nD) : sProp 𝕄 := dutyTok ER (cell p none) 0 c
/-- The credit for the own barrier's round; at its start; the barrier closed. -/
def bc (c : Dev nD) : sProp 𝕄 := cred (tallyAt (cell c none) () 7)
def ba (c : Dev nD) : sProp 𝕄 := atPos ER (cell c none) 0 ∅ 0
def bz (c : Dev nD) : sProp 𝕄 := semVal (cell c none) 0

/-- Signals to the devices of a list. -/
def sigs {β : Type} : List (Fin 7 × Dev nD) → PG F β → PG F β
  | [], Kt => Kt
  | x :: l, Kt => .op (.semSignal (x.2, .tc) barS (1#32).toInt) fun _ => sigs l Kt

theorem wp_sigs (c : Dev nD) (l : List (Fin 7 × Dev nD)) (hl : ∀ x ∈ l, x.2 = peer c x.1) (l' : List (Dev nD × CI))
    {β : Type} {Q : β → sProp 𝕄} {Kt : PG F β} :
    iprop(recs I K ∗ bl (fun x => iprop(bt c (peer c x.1) ∗ barPay (F := F) (peer c x.1) c)) l ∗ ow c ((l.map fun x => (peer c x.1, none)) ++ l'))
      ⊢ iprop((ow c l' -∗ WP c Kt Q) -∗ WP c (sigs l Kt) Q) := by
  induction l with
  | nil =>
    unfold bl sigs
    iintro ⟨-, -, HO⟩ Hk
    iapply Hk; iexact HO
  | cons x l ih =>
    have hx := hl x List.mem_cons_self
    unfold bl sigs bt
    rw [hx]
    iintro ⟨#HR, ⟨⟨Ht, Hp⟩, Hl⟩, HO⟩ Hk
    have hne : c ∈ (Rd I).duties (cell (peer c x.1) none) 0 := by
      rw [duties_cell]; exact Finset.mem_erase.2 ⟨(peer_ne c x.1).symm, Finset.mem_univ _⟩
    unfold ow
    icases HO with ⟨%W, HO⟩
    iapply (Rounds.wp_signal 𝒱₀ ER (Rd I) (c : Thread nD τ) none (dst := (peer c x.1 : Thread nD τ)) (κ := K (peer c x.1, none)) (d := c)
      hne (amount_cell I (peer c x.1) none 0 c) () (oweL ((l.map fun x => (peer c x.1, none)) ++ l')) (oweL_cons (peer c x.1, none) _)) $$ [HO Ht Hp]
    · isplitr; · iapply (recs_inv I K (peer c x.1) none); iexact HR
      isplitl [HO]; · iexact HO
      isplitl [Ht]; · iexact Ht
      isplitl [Hp]
      · iapply (Entails.of_eq ((payload_cell I (peer c x.1) none 0 c).trans (show _ = barPay (peer c x.1) c from rfl)).symm); iexact Hp
      iapply (recs_reached I K (peer c x.1) none); iexact HR
    iintro HO
    iapply (ih fun y hy => hl y (List.mem_cons_of_mem _ hy)) $$ [Hl HO]
    · isplitr; · iexact HR
      isplitl [Hl]; · unfold bt; iexact Hl
      unfold ow; iexists _; iexact HO
    iexact Hk

theorem handshake_eq (c : Dev nD) {β : Type} (Kt : PG F β) : handshake c Kt
    = sigs [(0, ⟨k0_dev1 c, k0_dev1_lt c⟩), (1, ⟨k0_dev2 c, k0_dev2_lt c⟩), (2, ⟨k0_dev3 c, k0_dev3_lt c⟩), (3, ⟨k0_dev4 c, k0_dev4_lt c⟩),
        (4, ⟨k0_dev5 c, k0_dev5_lt c⟩), (5, ⟨k0_dev6 c, k0_dev6_lt c⟩), (6, ⟨k0_dev7 c, k0_dev7_lt c⟩)] (.op (.semWait barS (7#32).toInt) fun _ => Kt) := rfl

theorem peers_eq (c : Dev nD) : (([0, 1, 2, 3, 4, 5, 6] : List (Fin 7)).map (peer c)).toFinset = Finset.univ.erase c := by revert c; decide
theorem peers_nodup (c : Dev nD) : (([0, 1, 2, 3, 4, 5, 6] : List (Fin 7)).map (peer c)).Nodup := by revert c; decide

/-- A product over the other devices, by the distance. -/
theorem bigSep_peers (c : Dev nD) (Φ : Dev nD → sProp 𝕄) : bigSep (Finset.univ.erase c) Φ = bl (fun r => Φ (peer c r)) [0, 1, 2, 3, 4, 5, 6] := by
  rw [bl_eq Φ _ _ (peers_nodup c) (peers_eq c), bl_map]

theorem lv_kvL (c : Dev nD) (l : List (Fin 7)) : ∀ x ∈ kvL c l, 1 < lvCI x.2 := by
  induction l with
  | nil => exact fun x hx => absurd hx List.not_mem_nil
  | cons r l ih =>
    intro x hx
    rcases List.mem_cons.1 hx with rfl | hx
    · exact (by decide : 1 < 2)
    rcases List.mem_cons.1 hx with rfl | hx
    · exact (by decide : 1 < 2)
    exact ih x hx

theorem lv_rsL (c : Dev nD) (l : List (Fin 8)) : ∀ x ∈ rsL c l, 2 < lvCI x.2 := by
  intro x hx
  obtain ⟨q, -, rfl⟩ := List.mem_map.1 hx
  exact (by decide : 2 < 3)

theorem lv_agL (c : Dev nD) (l : List (Fin 8)) : ∀ x ∈ agL c l, 3 < lvCI x.2 := by
  intro x hx
  obtain ⟨q, -, rfl⟩ := List.mem_map.1 hx
  exact (by decide : 3 < 4)

theorem lv_l1 (c : Dev nD) : ∀ x ∈ l1 c, 2 < lvCI x.2 := by
  intro x hx
  rcases List.mem_append.1 hx with h | h
  · exact lv_rsL c _ x h
  · exact lt_trans (by decide) (lv_agL c _ x h)

theorem lv_l0 (c : Dev nD) : ∀ x ∈ l0 c, 1 < lvCI x.2 := by
  intro x hx
  rcases List.mem_append.1 hx with h | h
  · exact lv_kvL c _ x h
  · exact lt_trans (by decide) (lv_l1 c x h)

theorem wp_handshake (c : Dev nD) {β : Type} {Q : β → sProp 𝕄} {Kt : PG F β} :
    iprop(recs I K ∗ levAts L lv ∗ bl (fun r => iprop(bt c (peer c r) ∗ barPay (F := F) (peer c r) c)) [0, 1, 2, 3, 4, 5, 6] ∗ bc c ∗ ba c ∗ ow c (barL c ++ l0 c))
      ⊢ iprop(((bl (fun r => barPay (F := F) c (peer c r)) [0, 1, 2, 3, 4, 5, 6] ∗ bz c ∗ ow c (l0 c)) -∗ WP c Kt Q) -∗ WP c (handshake c Kt) Q) := by
  rw [handshake_eq]
  iintro ⟨#HR, #Hlev, Hb, Hc, Ha, HO⟩ Hk
  iapply (wp_sigs I K c [(0, ⟨k0_dev1 c, k0_dev1_lt c⟩), (1, ⟨k0_dev2 c, k0_dev2_lt c⟩), (2, ⟨k0_dev3 c, k0_dev3_lt c⟩), (3, ⟨k0_dev4 c, k0_dev4_lt c⟩),
        (4, ⟨k0_dev5 c, k0_dev5_lt c⟩), (5, ⟨k0_dev6 c, k0_dev6_lt c⟩), (6, ⟨k0_dev7 c, k0_dev7_lt c⟩)] (by revert c; decide) (l0 c)) $$ [Hb HO]
  · isplitr; · iexact HR
    isplitl [Hb]; · iexact Hb
    iexact HO
  iintro HO
  unfold ow bc ba bz
  icases HO with ⟨%W, HO⟩
  iapply (Rounds.wp_wait_rest_token 𝒱₀ ER (Rd I) (c : Thread nD τ) none (κ := K (c, none))
      (wpE_semWait_eq 𝒱₀ (c : Thread nD τ) none Set.univ) (Set.mem_univ _) () (O := oweL (l0 c)) (W := W) (R := 0) (m := 0) (T := ∅)
      (by rw [expect_bar]; decide)) $$ [Hc HO Ha]
  · isplitr; · iapply (recs_inv I K c none); iexact HR
    isplitl [Hc]; · iexact Hc
    isplitl [HO]; · iexact HO
    isplitr
    · iapply (mayWait c (csem none) (l0 c) fun x hx => by rw [lv_cell]; exact lv_l0 c x hx); iexact Hlev
    iexact Ha
  iintro ⟨HO, Ha, -, Hpay⟩
  imod (Rounds.cell_close ER (Rd I) (Set.mem_univ (K (c, none))) (fun h => h) (R := 0 + 1) (duties_later I (cell c none))) $$ [Ha] with Hz
  · isplitr; · iapply (recs_inv I K c none); iexact HR
    iexact Ha
  iapply Hk
  isplitl [Hpay]
  · iapply (Entails.of_eq ((rest_bar I c).trans (bigSep_peers c _))); iexact Hpay
  isplitl [Hz]; · iexact Hz
  iexists _; iexact HO

end Cert.KernelIdeal.Shake
-- ==== Proof.Access.lean ====
/-
Loads and stores through rectangles of a buffer.
-/
module

public import proofs.«01_k».proof.Proof.Steps

@[expose] public section

noncomputable section

namespace Cert.KernelIdeal.Access

open Cert.KernelIdeal.Gen Cert.KernelIdeal.Fold Cert.KernelIdeal.Geo Cert.KernelIdeal.Vals Cert.KernelIdeal.Proto Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {s : Shape} {e : EltTy} (m : Memref sig .tc .vmem s e) (c : Dev nD) (S : Finset m.view.ty.Idx)
  (f : Buf (Elt F) (m.view.loc (c : Thread nD τ))) (r : Rect s)

/-- A load through a rectangle reads the elements there. -/
theorem wp_loadR (hS : ∀ x, m.view.emb (r.emb x) ∈ S) {hl : m.view.LoadsAt r.toLoadRect} {β : Type} {Q : β → sProp 𝕄}
    {Kt : (r.shape.Idx → Elt F e) → PG F β} :
    (m.view.loc (c : Thread nD τ) ↦[S]{fullShare} f)
      ⊢ iprop(((m.view.loc (c : Thread nD τ) ↦[S]{fullShare} f) -∗ WP c (Kt fun y => m.view.read (Elt F) f (r.emb y)) Q)
        -∗ WP c (.op (.load m r.toLoadRect hl) Kt) Q) := by
  have h : ((m.access r).set : Finset m.view.ty.Idx) ⊆ S := by
    intro i hi
    obtain ⟨x, -, rfl⟩ := Finset.mem_map.1 hi
    exact hS x
  exact wp_load_rect 𝒱₀ (c : Thread nD τ) none Set.univ (m := m) (r := r) (k := Kt) (f := f) h

/-- A store through a rectangle puts the vector there and leaves the rest. -/
theorem wp_storeR (hS : ∀ x, m.view.emb (r.emb x) ∈ S) {w : r.shape.Idx → Elt F e} {hx} {hm} {β : Type} {Q : β → sProp 𝕄}
    {Kt : PUnit → PG F β} :
    (m.view.loc (c : Thread nD τ) ↦[S]{fullShare} f)
      ⊢ iprop(((∃ g, ⌜(∀ x, m.view.read (Elt F) g (r.emb x) = w x) ∧ ∀ i, (∀ x, r.emb x ≠ i) → m.view.read (Elt F) g i = m.view.read (Elt F) f i⌝
            ∗ (m.view.loc (c : Thread nD τ) ↦[S]{fullShare} g)) -∗ WP c (Kt ⟨⟩) Q)
        -∗ WP c (.op (.store m r w Finset.univ hx hm) Kt) Q) := by
  have h : ((m.access r).setOn Finset.univ : Finset m.view.ty.Idx) ⊆ S := by
    intro i hi
    obtain ⟨x, -, rfl⟩ := Finset.mem_map.1 hi
    exact hS x
  iintro H Hk
  iapply (wp_store 𝒱₀ (c : Thread nD τ) none Set.univ (m := m) (r := r) (Mk := Finset.univ) (k := Kt) (f := f) h) $$ [H]
  · iexact H
  iintro H
  iapply Hk
  iexists _
  isplitr [H]
  · ipureintro
    refine ⟨fun x => ?_, fun i hi => ?_⟩
    · show (m.access r).read (Elt F) _ x = w x
      exact congrFun (View.read_write_univ (v := m.access r) f w) x
    · have : (m.access r).write (Elt F) f w Finset.univ (m.view.emb i) = f (m.view.emb i) := by
        refine View.write_of_not_mem _ _ _ fun hi' => ?_
        obtain ⟨x, -, hx⟩ := Finset.mem_map.1 hi'
        exact hi x (m.view.emb.injective hx)
      unfold View.read
      exact congrArg _ this
  iexact H

end Cert.KernelIdeal.Access
-- ==== Proof.Compute.lean ====
/-
What one device computes: the loads of the codes and the stores of the context.
-/
module

public import proofs.«01_k».proof.Proof.Access
public import Idealize.ShloMosaic.Lib.Pipeline.Value

@[expose] public section

noncomputable section

namespace Cert.KernelIdeal.Compute

open Cert.KernelIdeal.Gen Cert.KernelIdeal.Fold Cert.KernelIdeal.Geo Cert.KernelIdeal.Vals Cert.KernelIdeal.Proto Cert.KernelIdeal.Steps Cert.KernelIdeal.Access
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F)

/-! ## Loads of codes -/

theorem row_mem (m : Memref sig .tc .vmem S8x2x512x512 .i8) (t : ℕ) (ht : t < 16) (x : S1x1x512x64.Idx) :
    m.view.emb ((Rect.unit (s := S8x2x512x512) ![0, t / 8, 0, t % 8 * 64] S1x1x512x64.size (row_inb t ht)).emb x) ∈ slotSet m 0 := by
  refine mem_slotSet.2 ⟨tl4 (A := 2) (B := 512) (C := 512) ((Rect.unit (s := S8x2x512x512) ![0, t / 8, 0, t % 8 * 64] S1x1x512x64.size (row_inb t ht)).emb x),
    congrArg m.view.emb ?_⟩
  refine Eq.trans ?_ (ix4_tl4 _)
  congr 1
  refine Fin.ext ?_
  show 0 = 0 + 1 * (x 0).val
  have h : (x 0).val < 1 := (x 0).isLt
  omega

theorem wp_loadRows (c : Dev nD) (fk fv : Vec F S8x2x512x512 .i8) {β : Type} {Q : β → sProp 𝕄} :
    ∀ (n t : ℕ) (h : t + n ≤ 16) (Kt : (ℕ → Vec F S1x1x512x64 .i8 × Vec F S1x1x512x64 .i8) → PG F β),
    iprop(slPts mKa c 0 fk ∗ slPts mVa c 0 fv)
      ⊢ iprop(((slPts mKa c 0 fk ∗ slPts mVa c 0 fv) -∗ WP c (Kt (rowsOf fk fv n t h)) Q) -∗ WP c (loadRows mKa mVa n t h Kt) Q)
  | 0, t, h, Kt => by
    unfold loadRows rowsOf
    iintro H Hk
    iapply Hk; iexact H
  | n + 1, t, h, Kt => by
    unfold loadRows loadRow
    iintro ⟨H, H'⟩ Hk
    iapply (wp_loadR mKa c (slotSet mKa 0) fk _ (row_mem mKa t (by omega))) $$ [H]
    · unfold slPts; iexact H
    iintro H
    iapply (wp_loadR mVa c (slotSet mVa 0) fv _ (row_mem mVa t (by omega))) $$ [H']
    · unfold slPts; iexact H'
    iintro H'
    iapply (wp_loadRows c fk fv n (t + 1) _ _) $$ [H H']
    · unfold slPts; isplitl [H] <;> iassumption
    iintro H
    iapply Hk; iexact H

/-- A whole buffer of codes. -/
abbrev whPts {sp : Space} {s : Shape} {e : EltTy} (m : Memref sig .tc sp s e) (c : Dev nD) (f : Buf (Elt F) (m.view.loc (c : Thread nD τ))) : sProp 𝕄 :=
  m.view.loc (c : Thread nD τ) ↦[Finset.univ]{fullShare} f

theorem wp_loadBlks (m : Memref sig .tc .vmem S8x2x512x512 .i8) (c : Dev nD) (f : Buf (Elt F) (m.view.loc (c : Thread nD τ))) (t : ℕ) (ht : t < 16) {β : Type} {Q : β → sProp 𝕄} :
    ∀ (k n : ℕ) (h : n + 3 * k < 67) (Kt : (ℕ → Vec F S1x1x64x64 .i8) → PG F β),
    whPts m c f ⊢ iprop((whPts m c f -∗ WP c (Kt (blksOf (m.view.read (Elt F) f) t ht k n h)) Q) -∗ WP c (loadBlks m t ht k n h Kt) Q)
  | 0, n, h, Kt => by
    unfold loadBlks blksOf
    iintro H Hk
    iapply Hk; iexact H
  | k + 1, n, h, Kt => by
    unfold loadBlks loadBlk
    iintro H Hk
    iapply (wp_loadR m c Finset.univ f _ (fun _ => Finset.mem_univ _)) $$ [H]
    · iexact H
    iintro H
    iapply (wp_loadBlks m c f t ht k (n + 3) _ _) $$ [H]
    · iexact H
    iintro H
    iapply Hk; iexact H

/-! ## The context -/

/-- The context buffer, holding the context in the blocks `D`. -/
def cxP (c : Dev nD) (D : ℕ → Fin 8 → Prop) : sProp 𝕄 :=
  iprop(∃ f : Vec F S2x512x512 .bf16, ⌜∀ i, D (tOf i) (nOf i) → f i = ctx I c i⌝ ∗ whPts mCx c f)

theorem cxP_mono (c : Dev nD) {D D' : ℕ → Fin 8 → Prop} (h : ∀ t n, D' t n → D t n) : cxP I c D ⊢ cxP I c D' := by
  unfold cxP
  iintro ⟨%f, %hf, H⟩
  iexists f
  isplitr [H]
  · ipureintro; exact fun i hi => hf i (h _ _ hi)
  iexact H

theorem ctx_eq (c : Dev nD) (i : S2x512x512.Idx) (t : ℕ) (ht : t < 16) (n : Fin 8) (h : tOf i = t) (h' : nOf i = n) :
    ctx I c i = ctxBlk (stOf I c) (kall I c) (vall I c) t ht n (inBlk (i 1).val (i 2).val) := by
  subst h; subst h'; rfl

/-- The place of an element of a block in its vector with a leading axis. -/
def up (y : S64x64.Idx) : S1x64x64.Idx := fun k => match k with
  | ⟨0, _⟩ => (0 : Fin 1)
  | ⟨1, _⟩ => y 0
  | ⟨2, _⟩ => y 1

theorem cast_up (w : Vec F S64x64 .bf16) (y : S64x64.Idx) : shapeCast S1x64x64 w shapeCasts_S64x64_S1x64x64 (up y) = w y := by
  refine (shapeCast_addUnit_apply ![64, 64] w _ (up y)).trans (congrArg w (funext fun a => ?_))
  match a with
  | ⟨0, _⟩ => rfl
  | ⟨1, _⟩ => rfl

theorem ctx_mem (t : ℕ) (ht : t < 16) (n : Fin 8) (i : S2x512x512.Idx) (h : tOf i = t) (h' : nOf i = n) :
    (Rect.unit (s := S2x512x512) ![t / 8, n.val * 64, t % 8 * 64] S1x64x64.size (ctx_inb t ht n.val n.isLt)).emb (up (inBlk (i 1).val (i 2).val)) = i := by
  have h0 : (i 0).val < 2 := (i 0).isLt
  have h1 : (i 1).val < 512 := (i 1).isLt
  have h2 : (i 2).val < 512 := (i 2).isLt
  subst h; subst h'
  funext a
  refine Fin.ext ?_
  match a with
  | ⟨0, _⟩ => show tOf i / 8 + 1 * 0 = (i 0).val; unfold tOf; omega
  | ⟨1, _⟩ => show (i 1).val / 64 * 64 + 1 * ((i 1).val % 64) = (i 1).val; omega
  | ⟨2, _⟩ => show tOf i % 8 * 64 + 1 * ((i 2).val % 64) = (i 2).val; unfold tOf; omega

theorem ctx_off (t : ℕ) (ht : t < 16) (n : Fin 8) (x : S1x64x64.Idx) :
    tOf ((Rect.unit (s := S2x512x512) ![t / 8, n.val * 64, t % 8 * 64] S1x64x64.size (ctx_inb t ht n.val n.isLt)).emb x) = t
      ∧ nOf ((Rect.unit (s := S2x512x512) ![t / 8, n.val * 64, t % 8 * 64] S1x64x64.size (ctx_inb t ht n.val n.isLt)).emb x) = n := by
  have h0 : (x 0).val < 1 := (x 0).isLt
  have h1 : (x 1).val < 64 := (x 1).isLt
  have h2 : (x 2).val < 64 := (x 2).isLt
  constructor
  · show (t / 8 + 1 * (x 0).val) * 8 + (t % 8 * 64 + 1 * (x 2).val) / 64 = t
    omega
  · refine Fin.ext ?_
    show (n.val * 64 + 1 * (x 1).val) / 64 = n.val
    omega

theorem wp_stCtx (c : Dev nD) (D : ℕ → Fin 8 → Prop) (t : ℕ) (ht : t < 16) (n : Fin 8) (n' : ℕ) (hn' : n' < 8) (hn : n' = n.val) (w : FVec F S64x64 .bf16)
    (hw : w = ctxBlk (stOf I c) (kall I c) (vall I c) t ht n) {β : Type} {Q : β → sProp 𝕄} {Kt : PG F β} :
    cxP I c D ⊢ iprop((cxP I c (fun t' m => D t' m ∨ t' = t ∧ m = n) -∗ WP c Kt Q)
      -∗ WP c (stCtx mCx (Memref.isWhole_whole _) t ht n' hn' w Kt) Q) := by
  subst hn
  unfold cxP stCtx
  iintro ⟨%f, %hf, H⟩ Hk
  iapply (wp_loadR mCx c Finset.univ f _ (fun _ => Finset.mem_univ _)) $$ [H]
  · iexact H
  iintro H
  iapply (wp_storeR mCx c Finset.univ f _ (fun _ => Finset.mem_univ _)) $$ [H]
  · iexact H
  iintro ⟨%g, %hg, H⟩
  iapply Hk
  iexists g
  isplitr [H]
  · ipureintro
    intro i hi
    by_cases hti : tOf i = t ∧ nOf i = n
    · refine (congrArg g (ctx_mem t ht n i hti.1 hti.2)).symm.trans ?_
      refine (hg.1 (up (inBlk (i 1).val (i 2).val))).trans ?_
      rw [cast_up, hw]
      exact (ctx_eq I c i t ht n hti.1 hti.2).symm
    · refine (hg.2 i fun x hx => hti ?_).trans (hf i (hi.resolve_right hti))
      rw [← hx]; exact ctx_off t ht n x
  iexact H

/-! ## The steps -/

/-- The buffers of codes after the exchange. -/
abbrev codes (c : Dev nD) : sProp 𝕄 := iprop(whPts mKa c (kall I c) ∗ whPts mVa c (vall I c))

theorem wp_stepA (c : Dev nD) (D : ℕ → Fin 8 → Prop) (r : ℕ) (hr : r < 2) (t : ℕ) (ht : t < 16) {β : Type} {Q : β → sProp 𝕄} {Kt : PG F β} :
    iprop(codes I c ∗ cxP I c D)
      ⊢ iprop(((codes I c ∗ cxP I c (fun t' m => D t' m ∨ t' = t ∧ m.val % 3 = r)) -∗ WP c Kt Q)
        -∗ WP c (stepA mKa mVa mCx (Memref.isWhole_whole _) (stOf I c) r hr t ht Kt) Q) := by
  unfold stepA
  have hb : ∀ (n : Fin 8) (i : Fin 3), n.val = r + 3 * i.val →
      ctxBlk (stOf I c) (kall I c) (vall I c) t ht n = blkA (stOf I c) (kall I c) (vall I c) t ht r hr n.val n.isLt i := by
    intro n i h
    obtain rfl | rfl : r = 0 ∨ r = 1 := by omega
    all_goals fin_cases i <;> (fin_cases n <;> first | rfl | (exfalso; revert h; decide))
  iintro ⟨⟨Hk, Hv⟩, Hc⟩ Hw
  iapply (wp_loadBlks mKa c (kall I c) t ht 19 (9 - r) _ _) $$ [Hk]
  · iexact Hk
  iintro Hk
  iapply (wp_loadBlks mVa c (vall I c) t ht 19 (9 - r) _ _) $$ [Hv]
  · iexact Hv
  iintro Hv
  iapply (wp_stCtx I c D t ht ⟨r, by omega⟩ r (by omega) rfl _ (hb ⟨r, by omega⟩ 0 rfl).symm) $$ [Hc]
  · iexact Hc
  iintro Hc
  iapply (wp_stCtx I c _ t ht ⟨r + 3, by omega⟩ (r + 3) (by omega) rfl _ (hb ⟨r + 3, by omega⟩ 1 rfl).symm) $$ [Hc]
  · iexact Hc
  iintro Hc
  iapply (wp_stCtx I c _ t ht ⟨r + 6, by omega⟩ (r + 6) (by omega) rfl _ (hb ⟨r + 6, by omega⟩ 2 rfl).symm) $$ [Hc]
  · iexact Hc
  iintro Hc
  iapply Hw
  isplitr [Hc]
  · isplitl [Hk] <;> iassumption
  iapply (cxP_mono I c (D' := fun t' m => D t' m ∨ t' = t ∧ m.val % 3 = r) ?_); swap; · iexact Hc
  rintro t' ⟨m, hm⟩ (h | ⟨rfl, h⟩)
  · exact .inl (.inl (.inl h))
  · have h : m % 3 = r := h
    have : m = r ∨ m = r + 3 ∨ m = r + 6 := by omega
    rcases this with rfl | rfl | rfl
    · exact .inl (.inl (.inr ⟨rfl, rfl⟩))
    · exact .inl (.inr ⟨rfl, rfl⟩)
    · exact .inr ⟨rfl, rfl⟩

theorem wp_stepB (c : Dev nD) (D : ℕ → Fin 8 → Prop) (t : ℕ) (ht : t < 16) {β : Type} {Q : β → sProp 𝕄} {Kt : PG F β} :
    iprop(codes I c ∗ cxP I c D)
      ⊢ iprop(((codes I c ∗ cxP I c (fun t' m => D t' m ∨ t' = t ∧ m.val % 3 = 2)) -∗ WP c Kt Q)
        -∗ WP c (stepB mKa mVa mCx (Memref.isWhole_whole _) (stOf I c) t ht Kt) Q) := by
  unfold stepB
  iintro ⟨⟨Hk, Hv⟩, Hc⟩ Hw
  iapply (wp_loadBlks mKa c (kall I c) t ht 18 10 _ _) $$ [Hk]
  · iexact Hk
  iintro Hk
  iapply (wp_loadBlks mVa c (vall I c) t ht 18 10 _ _) $$ [Hv]
  · iexact Hv
  iintro Hv
  iapply (wp_stCtx I c D t ht 2 2 (by omega) rfl _ rfl) $$ [Hc]
  · iexact Hc
  iintro Hc
  iapply (wp_stCtx I c _ t ht 5 5 (by omega) rfl _ rfl) $$ [Hc]
  · iexact Hc
  iintro Hc
  iapply Hw
  isplitr [Hc]
  · isplitl [Hk] <;> iassumption
  iapply (cxP_mono I c (D' := fun t' m => D t' m ∨ t' = t ∧ m.val % 3 = 2) ?_); swap; · iexact Hc
  rintro t' ⟨m, hm⟩ (h | ⟨rfl, h⟩)
  · exact .inl (.inl h)
  · have h : m % 3 = 2 := h
    have : m = 2 ∨ m = 5 := by omega
    rcases this with rfl | rfl
    · exact .inl (.inr ⟨rfl, rfl⟩)
    · exact .inr ⟨rfl, rfl⟩

theorem wp_stepsA (c : Dev nD) (r : ℕ) (hr : r < 2) {β : Type} {Q : β → sProp 𝕄} {Kt : PG F β} :
    ∀ (k t : ℕ) (h : t + k ≤ 16) (D : ℕ → Fin 8 → Prop),
    iprop(codes I c ∗ cxP I c D)
      ⊢ iprop(((codes I c ∗ cxP I c (fun t' m => D t' m ∨ (t ≤ t' ∧ t' < t + k) ∧ m.val % 3 = r)) -∗ WP c Kt Q)
        -∗ WP c (stepsA mKa mVa mCx (Memref.isWhole_whole _) (stOf I c) r hr k t h Kt) Q)
  | 0, t, h, D => by
    unfold stepsA
    iintro ⟨H, Hc⟩ Hk
    iapply Hk
    isplitl [H]; · iexact H
    iapply (cxP_mono I c ?_); swap; · iexact Hc
    rintro t' m (h | h)
    · exact h
    · omega
  | k + 1, t, h, D => by
    unfold stepsA
    iintro H Hk
    iapply (wp_stepA I c D r hr t _) $$ [H]
    · iexact H
    iintro H
    iapply (wp_stepsA c r hr k (t + 1) _ _) $$ [H]
    · iexact H
    iintro ⟨H, Hc⟩
    iapply Hk
    isplitl [H]; · iexact H
    iapply (cxP_mono I c ?_); swap; · iexact Hc
    rintro t' m (h | ⟨h, h'⟩)
    · exact .inl (.inl h)
    · by_cases ht : t' = t
      · exact .inl (.inr ⟨ht, h'⟩)
      · exact .inr ⟨by omega, h'⟩

theorem wp_stepsB (c : Dev nD) {β : Type} {Q : β → sProp 𝕄} {Kt : PG F β} :
    ∀ (k t : ℕ) (h : t + k ≤ 16) (D : ℕ → Fin 8 → Prop),
    iprop(codes I c ∗ cxP I c D)
      ⊢ iprop(((codes I c ∗ cxP I c (fun t' m => D t' m ∨ (t ≤ t' ∧ t' < t + k) ∧ m.val % 3 = 2)) -∗ WP c Kt Q)
        -∗ WP c (stepsB mKa mVa mCx (Memref.isWhole_whole _) (stOf I c) k t h Kt) Q)
  | 0, t, h, D => by
    unfold stepsB
    iintro ⟨H, Hc⟩ Hk
    iapply Hk
    isplitl [H]; · iexact H
    iapply (cxP_mono I c ?_); swap; · iexact Hc
    rintro t' m (h | h)
    · exact h
    · omega
  | k + 1, t, h, D => by
    unfold stepsB
    iintro H Hk
    iapply (wp_stepB I c D t _) $$ [H]
    · iexact H
    iintro H
    iapply (wp_stepsB c k (t + 1) _ _) $$ [H]
    · iexact H
    iintro ⟨H, Hc⟩
    iapply Hk
    isplitl [H]; · iexact H
    iapply (cxP_mono I c ?_); swap; · iexact Hc
    rintro t' m (h | ⟨h, h'⟩)
    · exact .inl (.inl h)
    · by_cases ht : t' = t
      · exact .inl (.inr ⟨ht, h'⟩)
      · exact .inr ⟨by omega, h'⟩

end Cert.KernelIdeal.Compute
-- ==== Proof.Reduce.lean ====
/-
The exchanges of the partial results and of the reduced blocks.
-/
module

public import proofs.«01_k».proof.Proof.Exch

@[expose] public section

noncomputable section

namespace Cert.KernelIdeal.Reduce

open Cert.KernelIdeal.Gen Cert.KernelIdeal.Fold Cert.KernelIdeal.Geo Cert.KernelIdeal.Vals Cert.KernelIdeal.Proto Cert.KernelIdeal.Steps Cert.KernelIdeal.Exch
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

/-! ## The partial results -/

theorem off5_eq (c : Dev nD) : k0_off5 c = ![c.val, 0, 0, 0] := k0_off5_eq c

/-- The partial results for device `p` sent to it. -/
theorem wp_sendP (c p n : Dev nD) (hn : n = p) (l : List (Dev nD × CI)) {β : Type} {Q : β → sProp 𝕄} {Kt : PG F β} :
    iprop(recs I K ∗ slPts mPs c p (ps I c) ∗ (∃ f, slPts mRr p c f) ∗ ow c ((p, some (5, c)) :: l) ∗ tk c 4 p ∗ tk p 5 c)
      ⊢ iprop(((cr c 4 p ∗ ow c l) -∗ WP c Kt Q)
        -∗ WP c (sendP mPs mRr (Memref.isWhole_whole _) (Memref.isWhole_whole _) (arr 4) (arr 5) c p n Kt) Q) := by
  subst hn
  have core : ∀ (o5 : Fin 4 → ℕ) (o2 : Fin 1 → ℕ) h5 h2' hsrc hdst hsem, o5 = ![c.val, 0, 0, 0] → o2 = ![c.val] →
      iprop(recs I K ∗ slPts mPs c n (ps I c) ∗ (∃ f, slPts mRr n c f) ∗ ow c ((n, some (5, c)) :: l) ∗ tk c 4 n ∗ tk n 5 c)
      ⊢ iprop(((cr c 4 n ∗ ow c l) -∗ WP c Kt Q)
        -∗ WP c (.op (.enqueueDma (slotP mPs ![n.val, 0, 0, 0] (slotP_inb n)) (.remote (Dev.tc n) (slotP mRr o5 h5) (.dma (semAt (arr 4) ![n.val] (sem_inb n)))) (.dma (semAt (arr 5) o2 h2')) hsrc hdst hsem)
            fun _ => Kt) Q) := by
    intro o5 o2 h5 h2' hsrc hdst hsem e5 e2
    subst e5; subst e2
    show _ ⊢ iprop(_ -∗ WP c (.op (.enqueueDma (slot mPs n) (.remote (Dev.tc n) (slot mRr c) (.dma (sm 4 n)) _) (.dma (sm 5 c)) hsrc hdst hsem)
            fun _ => Kt) Q)
    iintro ⟨#HR, Hs, ⟨%fd, Hd⟩, HO, Ht, Ht'⟩ Hk
    ihave Hs := (Entails.of_eq (slPts_eq mPs c n (ps I c)).symm) $$ Hs
    ihave Hd := (Entails.of_eq (slPts_eq mRr n c fd).symm) $$ Hd
    iapply (Steps.wp_send I K (slot mPs n) (slot mRr c) c n 4 n 5 fullShare (ps I c) fd l (used_ge _ _ _ (by decide)) (used_ge _ _ _ (by decide)) rfl rfl
      (Entails.of_eq (slPts_eq mPs c n (ps I c)))
      (Entails.of_eq (slPts_write mRr n c fd (rsr I n) _ fun x => (slot_read _ _ _).trans rfl))) $$ [Hs Hd HO Ht Ht']
    · isplitr; · iexact HR
      isplitl [Hs]; · iexact Hs
      isplitl [Hd]; · iexact Hd
      isplitl [HO]; · iexact HO
      isplitl [Ht] <;> iassumption
    iexact Hk
  exact core _ _ _ _ _ _ _ (k0_off5_eq c) (k0_off2_eq c)

theorem wp_waitsP (c : Dev nD) (l : List (Fin 8)) (l' : List (Dev nD × CI)) (hl' : ∀ x ∈ l', lvCI (some (5, 0)) < lvCI x.2)
    {β : Type} {Q : β → sProp 𝕄} {Kt : PG F β} :
    iprop(recs I K ∗ levAts L lv ∗ bl (fun j => iprop(cr c 5 j ∗ atp c 5 j)) l ∗ ow c l')
      ⊢ iprop(((bl (fun j => iprop(zv c 5 j ∗ slPts mRr c j (rsr I c))) l ∗ ow c l') -∗ WP c Kt Q)
        -∗ WP c (waitsP mPs (Memref.isWhole_whole _) mRr (Memref.isWhole_whole _) (arr 5) l Kt) Q) := by
  induction l with
  | nil =>
    unfold bl waitsP
    iintro ⟨#HR, #Hlev, -, HO⟩ Hk
    iapply Hk
    isplitr; · iempintro
    iexact HO
  | cons j l ih =>
    unfold bl waitsP waitP
    iintro ⟨#HR, #Hlev, ⟨⟨Hc, Ha⟩, Hl⟩, HO⟩ Hk
    iapply (wp_wait I K (slot mPs j) (slot mRr j) c 5 j l' (used_ge _ _ _ (by decide)) rfl hl'
      (k := fun _ => waitsP mPs (Memref.isWhole_whole _) mRr (Memref.isWhole_whole _) (arr 5) l Kt)) $$ [Hc Ha HO]
    · isplitr; · iexact HR
      isplitr; · iexact Hlev
      isplitl [Hc]; · iexact Hc
      isplitl [Ha] <;> iassumption
    iintro ⟨Hz, Hp, HO⟩
    iapply ih $$ [Hl HO]
    · isplitr; · iexact HR
      isplitr; · iexact Hlev
      isplitl [Hl] <;> iassumption
    iintro ⟨Hl, HO⟩
    iapply Hk
    isplitr [HO]
    · isplitr [Hl]
      · isplitl [Hz]; · iexact Hz
        iapply (Entails.of_eq (show trPay I c 5 j = slPts mRr c j (rsr I c) from rfl)); iexact Hp
      iexact Hl
    iexact HO

theorem wp_sentsP (c : Dev nD) (l : List (Fin 8)) {β : Type} {Q : β → sProp 𝕄} {Kt : PG F β} :
    iprop(recs I K ∗ levAts L lv ∗ bl (fun j => iprop(cr c 4 j ∗ atp c 4 j)) l ∗ ow c [])
      ⊢ iprop(((bl (fun j => iprop(zv c 4 j ∗ slPts mPs c j (ps I c))) l ∗ ow c []) -∗ WP c Kt Q)
        -∗ WP c (sentsP mPs (Memref.isWhole_whole _) mRr (Memref.isWhole_whole _) (arr 4) c l Kt) Q) := by
  induction l with
  | nil =>
    unfold bl sentsP
    iintro ⟨#HR, #Hlev, -, HO⟩ Hk
    iapply Hk
    isplitr; · iempintro
    iexact HO
  | cons j l ih =>
    unfold bl sentsP sentP
    iintro ⟨#HR, #Hlev, ⟨⟨Hc, Ha⟩, Hl⟩, HO⟩ Hk
    iapply (wp_wait I K (slotP mRr (k0_off5 c) (k0_off5_inb c)) (slot mPs j) c 4 j [] (used_ge _ _ _ (by decide)) rfl (fun _ h => absurd h List.not_mem_nil)
      (k := fun _ => sentsP mPs (Memref.isWhole_whole _) mRr (Memref.isWhole_whole _) (arr 4) c l Kt)) $$ [Hc Ha HO]
    · isplitr; · iexact HR
      isplitr; · iexact Hlev
      isplitl [Hc]; · iexact Hc
      isplitl [Ha] <;> iassumption
    iintro ⟨Hz, Hp, HO⟩
    iapply ih $$ [Hl HO]
    · isplitr; · iexact HR
      isplitr; · iexact Hlev
      isplitl [Hl] <;> iassumption
    iintro ⟨Hl, HO⟩
    iapply Hk
    isplitr [HO]
    · isplitr [Hl]
      · isplitl [Hz]; · iexact Hz
        iapply (Entails.of_eq (show trPay I c 4 j = slPts mPs c j (ps I c) from rfl)); iexact Hp
      iexact Hl
    iexact HO

/-! ## The reduced blocks -/

/-- The reduced block sent to the device `d` further on. -/
theorem wp_sendG (c n : Dev nD) (d : Fin 8) (hn : n = rot c d) (l : List (Dev nD × CI)) {β : Type} {Q : β → sProp 𝕄} {Kt : PG F β} :
    iprop(recs I K ∗ asPts c (rot c d) (red I c) ∗ (∃ f, slPts mAr (rot c d) c f) ∗ ow c ((rot c d, some (7, c)) :: l) ∗ tk c 6 (rot c d) ∗ tk (rot c d) 7 c)
      ⊢ iprop(((cr c 6 (rot c d) ∗ ow c l) -∗ WP c Kt Q)
        -∗ WP c (sendG mAs (Memref.isWhole_whole _) mAr (Memref.isWhole_whole _) (arr 6) (arr 7) c d n Kt) Q) := by
  subst hn
  have core : ∀ (o5 : Fin 4 → ℕ) (o1 o2 : Fin 1 → ℕ) h5 h1' h2' hsrc hdst hsem, o5 = ![c.val, 0, 0, 0] → o1 = ![(rot c d).val] → o2 = ![c.val] →
      iprop(recs I K ∗ asPts c (rot c d) (red I c) ∗ (∃ f, slPts mAr (rot c d) c f) ∗ ow c ((rot c d, some (7, c)) :: l) ∗ tk c 6 (rot c d) ∗ tk (rot c d) 7 c)
      ⊢ iprop(((cr c 6 (rot c d) ∗ ow c l) -∗ WP c Kt Q)
        -∗ WP c (.op (.enqueueDma mAs (.remote (Dev.tc (rot c d)) (slotP mAr o5 h5) (.dma (semAt (arr 6) o1 h1'))) (.dma (semAt (arr 7) o2 h2')) hsrc hdst hsem)
            fun _ => Kt) Q) := by
    intro o5 o1 o2 h5 h1' h2' hsrc hdst hsem e5 e1 e2
    subst e5; subst e1; subst e2
    show _ ⊢ iprop(_ -∗ WP c (.op (.enqueueDma mAs (.remote (Dev.tc (rot c d)) (slot mAr c) (.dma (sm 6 (rot c d))) _) (.dma (sm 7 c)) hsrc hdst hsem)
            fun _ => Kt) Q)
    iintro ⟨#HR, Hs, ⟨%fd, Hd⟩, HO, Ht, Ht'⟩ Hk
    ihave Hd := (Entails.of_eq (slPts_eq mAr (rot c d) c fd).symm) $$ Hd
    iapply (Steps.wp_send I K mAs (slot mAr c) c (rot c d) 6 (rot c d) 7 (ShareLeaves.leaf 3 fullShare (rot c d)) (red I c) fd l
      (used_ge _ _ _ (by decide)) (used_ge _ _ _ (by decide)) rfl rfl (BI.Entails.refl _)
      (Entails.of_eq (slPts_write mAr (rot c d) c fd (agr I) _ fun x => rfl))) $$ [Hs Hd HO Ht Ht']
    · isplitr; · iexact HR
      isplitl [Hs]; · unfold asPts; iexact Hs
      isplitl [Hd]; · iexact Hd
      isplitl [HO]; · iexact HO
      isplitl [Ht] <;> iassumption
    iexact Hk
  exact core _ _ _ _ _ _ _ _ _ (k0_off5_eq c) (off1_eq8 c d) (k0_off2_eq c)

/-- The reduced block sent to the devices of a list. -/
def sendsG (d0 : Dev nD) {β : Type} : List (Fin 8 × Dev nD) → PG F β → PG F β
  | [], Kt => Kt
  | x :: l, Kt => sendG mAs (Memref.isWhole_whole _) mAr (Memref.isWhole_whole _) (arr 6) (arr 7) d0 x.1 x.2 <| sendsG d0 l Kt

theorem wp_sendsG (c : Dev nD) (l : List (Fin 8 × Dev nD)) (hl : ∀ x ∈ l, x.2 = rot c x.1) (l' : List (Dev nD × CI))
    {β : Type} {Q : β → sProp 𝕄} {Kt : PG F β} :
    iprop(recs I K ∗ bl (fun x => iprop(asPts c (rot c x.1) (red I c) ∗ (∃ f, slPts mAr (rot c x.1) c f) ∗ tk c 6 (rot c x.1) ∗ tk (rot c x.1) 7 c)) l
        ∗ ow c (agL c (l.map (·.1)) ++ l'))
      ⊢ iprop(((bl (fun x => cr c 6 (rot c x.1)) l ∗ ow c l') -∗ WP c Kt Q) -∗ WP c (sendsG c l Kt) Q) := by
  induction l with
  | nil =>
    unfold bl sendsG
    iintro ⟨#HR, -, HO⟩ Hk
    iapply Hk
    isplitr; · iempintro
    iexact HO
  | cons x l ih =>
    have hx := hl x List.mem_cons_self
    unfold bl sendsG
    iintro ⟨#HR, ⟨⟨Hs, Hd, Ht, Ht'⟩, Hl⟩, HO⟩ Hk
    iapply (wp_sendG I K c x.2 x.1 hx (agL c (l.map (·.1)) ++ l')) $$ [Hs Hd Ht Ht' HO]
    · isplitr; · iexact HR
      isplitl [Hs]; · iexact Hs
      isplitl [Hd]; · iexact Hd
      isplitl [HO]; · iexact HO
      isplitl [Ht] <;> iassumption
    iintro ⟨Hc1, HO⟩
    iapply (ih fun y hy => hl y (List.mem_cons_of_mem _ hy)) $$ [Hl HO]
    · isplitr; · iexact HR
      isplitl [Hl] <;> iassumption
    iintro ⟨Hl, HO⟩
    iapply Hk
    isplitr [HO]
    · isplitl [Hc1] <;> iassumption
    iexact HO

theorem wp_waitsG (c : Dev nD) (l : List (Fin 8)) {β : Type} {Q : β → sProp 𝕄} {Kt : PG F β} :
    iprop(recs I K ∗ levAts L lv ∗ bl (fun j => iprop(cr c 7 j ∗ atp c 7 j)) l ∗ ow c [])
      ⊢ iprop(((bl (fun j => iprop(zv c 7 j ∗ slPts mAr c j (agr I))) l ∗ ow c []) -∗ WP c Kt Q)
        -∗ WP c (waitsG mAs (Memref.isWhole_whole _) mAr (Memref.isWhole_whole _) (arr 7) l Kt) Q) := by
  induction l with
  | nil =>
    unfold bl waitsG
    iintro ⟨#HR, #Hlev, -, HO⟩ Hk
    iapply Hk
    isplitr; · iempintro
    iexact HO
  | cons j l ih =>
    unfold bl waitsG waitG
    iintro ⟨#HR, #Hlev, ⟨⟨Hc, Ha⟩, Hl⟩, HO⟩ Hk
    iapply (wp_wait I K mAs (slot mAr j) c 7 j [] (used_ge _ _ _ (by decide)) rfl (fun _ h => absurd h List.not_mem_nil)
      (k := fun _ => waitsG mAs (Memref.isWhole_whole _) mAr (Memref.isWhole_whole _) (arr 7) l Kt)) $$ [Hc Ha HO]
    · isplitr; · iexact HR
      isplitr; · iexact Hlev
      isplitl [Hc]; · iexact Hc
      isplitl [Ha] <;> iassumption
    iintro ⟨Hz, Hp, HO⟩
    iapply ih $$ [Hl HO]
    · isplitr; · iexact HR
      isplitr; · iexact Hlev
      isplitl [Hl] <;> iassumption
    iintro ⟨Hl, HO⟩
    iapply Hk
    isplitr [HO]
    · isplitr [Hl]
      · isplitl [Hz]; · iexact Hz
        iapply (Entails.of_eq (show trPay I c 7 j = slPts mAr c j (agr I) from rfl)); iexact Hp
      iexact Hl
    iexact HO

theorem wp_sentG (c : Dev nD) (d : Fin 8) {β : Type} {Q : β → sProp 𝕄} {Kt : PG F β} :
    iprop(recs I K ∗ levAts L lv ∗ cr c 6 (rot c d) ∗ atp c 6 (rot c d) ∗ ow c [])
      ⊢ iprop(((zv c 6 (rot c d) ∗ trPay I c 6 (rot c d) ∗ ow c []) -∗ WP c Kt Q)
        -∗ WP c (sentG mAs (Memref.isWhole_whole _) mAr (Memref.isWhole_whole _) (arr 6) c d Kt) Q) := by
  have core : ∀ (o5 : Fin 4 → ℕ) (o1 : Fin 1 → ℕ) h5 h1' hsrc hdst, o1 = ![(rot c d).val] →
      iprop(recs I K ∗ levAts L lv ∗ cr c 6 (rot c d) ∗ atp c 6 (rot c d) ∗ ow c [])
      ⊢ iprop(((zv c 6 (rot c d) ∗ trPay I c 6 (rot c d) ∗ ow c []) -∗ WP c Kt Q)
        -∗ WP c (.op (.waitDma2 (semAt (arr 6) o1 h1') (slotP mAr o5 h5) mAs hsrc hdst) fun _ => Kt) Q) := by
    intro o5 o1 h5 h1' hsrc hdst e1
    subst e1
    exact wp_wait I K (slotP mAr o5 h5) mAs c 6 (rot c d) [] (used_ge _ _ _ (by decide)) rfl (fun _ h => absurd h List.not_mem_nil) (k := fun _ => Kt)
  exact core _ _ _ _ _ _ (off1_eq8 c d)

theorem wp_sentsG (c : Dev nD) (l : List (Fin 8)) {β : Type} {Q : β → sProp 𝕄} {Kt : PG F β} :
    iprop(recs I K ∗ levAts L lv ∗ bl (fun d => iprop(cr c 6 (rot c d) ∗ atp c 6 (rot c d))) l ∗ ow c [])
      ⊢ iprop(((bl (fun d => iprop(zv c 6 (rot c d) ∗ asPts c (rot c d) (red I c))) l ∗ ow c []) -∗ WP c Kt Q)
        -∗ WP c (sentsG mAs (Memref.isWhole_whole _) mAr (Memref.isWhole_whole _) (arr 6) c l Kt) Q) := by
  induction l with
  | nil =>
    unfold bl sentsG
    iintro ⟨#HR, #Hlev, -, HO⟩ Hk
    iapply Hk
    isplitr; · iempintro
    iexact HO
  | cons d l ih =>
    unfold bl sentsG
    iintro ⟨#HR, #Hlev, ⟨⟨Hc, Ha⟩, Hl⟩, HO⟩ Hk
    iapply (wp_sentG I K c d) $$ [Hc Ha HO]
    · isplitr; · iexact HR
      isplitr; · iexact Hlev
      isplitl [Hc]; · iexact Hc
      isplitl [Ha] <;> iassumption
    iintro ⟨Hz, Hp, HO⟩
    iapply ih $$ [Hl HO]
    · isplitr; · iexact HR
      isplitr; · iexact Hlev
      isplitl [Hl] <;> iassumption
    iintro ⟨Hl, HO⟩
    iapply Hk
    isplitr [HO]
    · isplitr [Hl]
      · isplitl [Hz]; · iexact Hz
        iapply (Entails.of_eq (show trPay I c 6 (rot c d) = asPts c (rot c d) (red I c) from rfl)); iexact Hp
      iexact Hl
    iexact HO

end Cert.KernelIdeal.Reduce
-- ==== Proof.Project.lean ====
/-
The projection of the context, the reduction of the partial results, and the result.
-/
module

public import proofs.«01_k».proof.Proof.Compute
public import proofs.«01_k».proof.Proof.Reduce

@[expose] public section

noncomputable section

namespace Cert.KernelIdeal.Project

open Cert.KernelIdeal.Gen Cert.KernelIdeal.Fold Cert.KernelIdeal.Geo Cert.KernelIdeal.Vals Cert.KernelIdeal.Proto Cert.KernelIdeal.Steps Cert.KernelIdeal.Access Cert.KernelIdeal.Compute Cert.KernelIdeal.Reduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

/-! ## The projection -/

/-- Slot `n` of the partial results, its first `b` batches done. -/
def psP (c : Dev nD) (n : Fin 8) (b : ℕ) : sProp 𝕄 :=
  iprop(∃ f : Vec F S8x2x64x768 .bf16, ⌜∀ x : S2x64x768.Idx, (x 0).val < b → f (ix4 (A := 2) (B := 64) (C := 768) n x) = ps I c (ix4 (A := 2) (B := 64) (C := 768) n x)⌝
    ∗ slPts mPs c n f)

theorem psP_zero (c : Dev nD) (n : Fin 8) : (iprop(∃ f, slPts mPs c n f) : sProp 𝕄) ⊢ psP I c n 0 := by
  unfold psP
  iintro ⟨%f, H⟩
  iexists f
  isplitr [H]
  · ipureintro; exact fun x h => absurd h (Nat.not_lt_zero _)
  iexact H

theorem psP_two (c : Dev nD) (n : Fin 8) : psP I c n 2 ⊢ slPts mPs c n (ps I c) := by
  unfold psP
  iintro ⟨%f, %hf, H⟩
  iapply (Entails.of_eq (slPts_congr mPs c n f (ps I c) fun x => hf x (x 0).isLt)); iexact H

abbrev rowR (b : ℕ) (hb : b < 2) (n : Fin 8) : Rect S2x512x512 := Rect.unit (s := S2x512x512) ![b, n.val * 64, 0] S1x64x512.size (ctxRow_inb b hb n.val n.isLt)
abbrev partR (b : ℕ) (hb : b < 2) (n : Fin 8) : Rect S8x2x64x768 := Rect.unit (s := S8x2x64x768) ![n.val, b, 0, 0] S1x1x64x768.size (part_inb b hb n.val n.isLt)

theorem row_nOf (b : ℕ) (hb : b < 2) (n : Fin 8) (y : S1x64x512.Idx) : nOf ((rowR b hb n).emb y) = n := by
  have h1 : (y 1).val < 64 := (y 1).isLt
  refine Fin.ext ?_
  show (n.val * 64 + 1 * (y 1).val) / 64 = n.val
  omega

theorem part_emb (b : ℕ) (hb : b < 2) (n : Fin 8) (y : S1x1x64x768.Idx) :
    ∃ x : S2x64x768.Idx, ix4 (A := 2) (B := 64) (C := 768) n x = (partR b hb n).emb y ∧ (x 0).val = b := by
  have h0 : (y 0).val < 1 := (y 0).isLt
  have h1 : (y 1).val < 1 := (y 1).isLt
  refine ⟨tl4 (A := 2) (B := 64) (C := 768) ((partR b hb n).emb y), ?_, ?_⟩
  · refine Eq.trans ?_ (ix4_tl4 _)
    congr 1
    refine Fin.ext ?_
    show n.val = n.val + 1 * (y 0).val
    omega
  · show b + 1 * (y 1).val = b
    omega

theorem part_at (n : Fin 8) (x : S2x64x768.Idx) : (partR (x 0).val (x 0).isLt n).emb (inPart (x 1) (x 2)) = ix4 (A := 2) (B := 64) (C := 768) n x := by
  funext a
  refine Fin.ext ?_
  match a with
  | ⟨0, _⟩ => show n.val + 1 * 0 = n.val; omega
  | ⟨1, _⟩ => show (x 0).val + 1 * 0 = (x 0).val; omega
  | ⟨2, _⟩ => show 0 + 1 * (x 1).val = (x 1).val; omega
  | ⟨3, _⟩ => show 0 + 1 * (x 2).val = (x 2).val; omega

theorem wp_stPart (c : Dev nD) (D : ℕ → Fin 8 → Prop) (n : Fin 8) (hD : ∀ t, t < 16 → D t n) (b : ℕ) (hb : b < 2)
    {β : Type} {Q : β → sProp 𝕄} {Kt : PG F β} :
    iprop(cxP I c D ∗ psP I c n b) ⊢ iprop(((cxP I c D ∗ psP I c n (b + 1)) -∗ WP c Kt Q)
      -∗ WP c (stPart mCx mPs (Memref.isWhole_whole _) (k0_pay82 (I.wo c)) b hb n.val n.isLt Kt) Q) := by
  unfold cxP psP stPart
  iintro ⟨⟨%f, %hf, Hc⟩, ⟨%g, %hg, H⟩⟩ Hk
  have hS : ∀ x, mPs.view.emb ((partR b hb n).emb x) ∈ slotSet mPs n := fun x => by
    obtain ⟨z, hz, -⟩ := part_emb b hb n x
    exact mem_slotSet.2 ⟨z, congrArg mPs.view.emb hz⟩
  iapply (wp_loadR mCx c Finset.univ f (rowR b hb n) (fun _ => Finset.mem_univ _)) $$ [Hc]
  · iexact Hc
  iintro Hc
  iapply (wp_loadR mPs c (slotSet mPs n) g (partR b hb n) hS) $$ [H]
  · unfold slPts; iexact H
  iintro H
  iapply (wp_storeR mPs c (slotSet mPs n) g (partR b hb n) hS) $$ [H]
  · iexact H
  iintro ⟨%g', %hg', H⟩
  iapply Hk
  isplitl [Hc]
  · iexists f
    isplitr [Hc]
    · ipureintro; exact hf
    iexact Hc
  iexists g'
  isplitr [H]
  · ipureintro
    intro x hx
    have hrow : (fun y => mCx.view.read (Elt F) f ((rowR b hb n).emb y)) = ctxRow (ctx I c) b hb n.val n.isLt := by
      funext y
      exact hf ((rowR b hb n).emb y) (by rw [row_nOf]; exact hD _ (tOf_lt _))
    by_cases hxb : (x 0).val = b
    · subst hxb
      refine (congrArg g' (part_at n x)).symm.trans ?_
      refine (hg'.1 (inPart (x 1) (x 2))).trans ?_
      exact congrFun (congrArg (proj (k0_pay82 (I.wo c))) hrow) _
    · refine (hg'.2 _ fun y hy => hxb ?_).trans (hg x (by omega))
      obtain ⟨z, hz, hz'⟩ := part_emb b hb n y
      have := congrArg tl4 (hz.trans hy)
      exact (congrArg (fun w : S2x64x768.Idx => (w 0).val) this).symm.trans hz'
  unfold slPts; iexact H

theorem wp_stSend (c p : Dev nD) (D : ℕ → Fin 8 → Prop) (n : Fin 8) (hp : p = n) (hD : ∀ t, t < 16 → D t n) (l : List (Dev nD × CI))
    {β : Type} {Q : β → sProp 𝕄} {Kt : PG F β} :
    iprop(recs I K ∗ cxP I c D ∗ ((∃ f, slPts mPs c n f) ∗ (∃ f, slPts mRr n c f) ∗ tk c 4 n ∗ tk n 5 c) ∗ ow c ((n, some (5, c)) :: l))
      ⊢ iprop(((cxP I c D ∗ cr c 4 n ∗ ow c l) -∗ WP c Kt Q)
      -∗ WP c (stSend mCx mPs mRr (Memref.isWhole_whole _) (Memref.isWhole_whole _) (arr 4) (arr 5) c (k0_pay82 (I.wo c)) n p Kt) Q) := by
  unfold stSend
  iintro ⟨#HR, Hc, ⟨Hs, Hd, Ht, Ht'⟩, HO⟩ Hk
  ihave Hs := (psP_zero I c n) $$ Hs
  iapply (wp_stPart I c D n hD 0 _) $$ [Hc Hs]
  · isplitl [Hc] <;> iassumption
  iintro ⟨Hc, Hs⟩
  iapply (wp_stPart I c D n hD 1 _) $$ [Hc Hs]
  · isplitl [Hc] <;> iassumption
  iintro ⟨Hc, Hs⟩
  ihave Hs := (psP_two I c n) $$ Hs
  iapply (wp_sendP I K c n p hp l) $$ [Hs Hd HO Ht Ht']
  · isplitr; · iexact HR
    isplitl [Hs]; · iexact Hs
    isplitl [Hd]; · iexact Hd
    isplitl [HO]; · iexact HO
    isplitl [Ht] <;> iassumption
  iintro ⟨Hr, HO⟩
  iapply Hk
  isplitl [Hc]; · iexact Hc
  isplitl [Hr] <;> iassumption

/-! ## The reduction -/

theorem wp_loadParts (c : Dev nD) (f : Vec F S8x2x64x768 .bf16) {β : Type} {Q : β → sProp 𝕄} :
    ∀ (k j : ℕ) (h : j + k ≤ 8) (Kt : (ℕ → Vec F S1x2x64x768 .bf16) → PG F β),
    whPts mRr c f ⊢ iprop((whPts mRr c f -∗ WP c (Kt (partsOf f k j h)) Q) -∗ WP c (loadParts mRr k j h Kt) Q)
  | 0, j, h, Kt => by
    unfold loadParts partsOf
    iintro H Hk
    iapply Hk; iexact H
  | k + 1, j, h, Kt => by
    unfold loadParts
    iintro H Hk
    iapply (wp_loadR mRr c Finset.univ f _ (fun _ => Finset.mem_univ _)) $$ [H]
    · iexact H
    iintro H
    iapply (wp_loadParts c f k (j + 1) _ _) $$ [H]
    · iexact H
    iintro H
    iapply Hk; iexact H

theorem wp_stRed (c : Dev nD) (w : FVec F S2x64x768 .bf16) {β : Type} {Q : β → sProp 𝕄} {Kt : PG F β} :
    (iprop(∃ f, whPts mAs c f) : sProp 𝕄) ⊢ iprop((whPts mAs c w -∗ WP c Kt Q) -∗ WP c (stRed mAs (Memref.isWhole_whole _) w Kt) Q) := by
  unfold stRed
  iintro ⟨%f, H⟩ Hk
  iapply (wp_loadR mAs c Finset.univ f _ (fun _ => Finset.mem_univ _)) $$ [H]
  · iexact H
  iintro H
  iapply (wp_storeR mAs c Finset.univ f _ (fun _ => Finset.mem_univ _)) $$ [H]
  · iexact H
  iintro ⟨%g, %hg, H⟩
  have e : g = w := by
    funext i
    have hi : (Rect.unit (s := S2x64x768) ![0, 0, 0] S2x64x768.size inb_S2x64x768_S2x64x768_0_0_0).emb i = i := by
      funext a
      refine Fin.ext ?_
      match a with
      | ⟨0, _⟩ => show 0 + 1 * (i 0).val = (i 0).val; omega
      | ⟨1, _⟩ => show 0 + 1 * (i 1).val = (i 1).val; omega
      | ⟨2, _⟩ => show 0 + 1 * (i 2).val = (i 2).val; omega
    exact (congrArg g hi).symm.trans (hg.1 i)
  iapply Hk
  iapply (Entails.of_eq (congrArg (whPts mAs c) e)); iexact H

/-! ## The result -/

abbrev mO : Memref sig .tc .vmem S2x512x768 .f32 := Memref.whole cc0_stg3_0

/-- The result's buffer, the blocks of the devices of `S` done. -/
def outP (c : Dev nD) (S : Fin 8 → Prop) : sProp 𝕄 :=
  iprop(∃ f : Vec F S2x512x768 .f32, ⌜∀ i, S (jOf i) → f i = out I i⌝ ∗ whPts mO c f)

abbrev outR (j : Fin 8) : Rect S2x512x768 := Rect.unit (s := S2x512x768) ![0, j.val * 64, 0] S2x64x768.size (out_inb j)

theorem out_at (i : S2x512x768.Idx) : (outR (jOf i)).emb (inRed i) = i := by
  have h1 : (i 1).val < 512 := (i 1).isLt
  funext a
  refine Fin.ext ?_
  match a with
  | ⟨0, _⟩ => show 0 + 1 * (i 0).val = (i 0).val; omega
  | ⟨1, _⟩ => show (i 1).val / 64 * 64 + 1 * ((i 1).val % 64) = (i 1).val; omega
  | ⟨2, _⟩ => show 0 + 1 * (i 2).val = (i 2).val; omega

theorem out_jOf (j : Fin 8) (y : S2x64x768.Idx) : jOf ((outR j).emb y) = j := by
  have h1 : (y 1).val < 64 := (y 1).isLt
  refine Fin.ext ?_
  show (j.val * 64 + 1 * (y 1).val) / 64 = j.val
  omega

theorem wp_stOuts (c : Dev nD) {β : Type} {Q : β → sProp 𝕄} {Kt : PG F β} :
    ∀ (l : List (Fin 8)) (S : Fin 8 → Prop),
    iprop(whPts mAr c (agr I) ∗ outP I c S)
      ⊢ iprop(((whPts mAr c (agr I) ∗ outP I c (fun j => S j ∨ j ∈ l)) -∗ WP c Kt Q) -∗ WP c (stOuts mO mAr l Kt) Q)
  | [], S => by
    unfold stOuts
    iintro ⟨H, Ho⟩ Hk
    iapply Hk
    isplitl [H]; · iexact H
    unfold outP
    icases Ho with ⟨%f, %hf, Ho⟩
    iexists f
    isplitr [Ho]
    · ipureintro; exact fun i hi => hf i (hi.resolve_right List.not_mem_nil)
    iexact Ho
  | j :: l, S => by
    unfold stOuts stOut
    iintro ⟨H, Ho⟩ Hk
    unfold outP
    icases Ho with ⟨%f, %hf, Ho⟩
    iapply (wp_loadR mAr c Finset.univ (agr I) _ (fun _ => Finset.mem_univ _)) $$ [H]
    · iexact H
    iintro H
    iapply (wp_loadR mO c Finset.univ f (outR j) (fun _ => Finset.mem_univ _)) $$ [Ho]
    · iexact Ho
    iintro Ho
    iapply (wp_storeR mO c Finset.univ f (outR j) (fun _ => Finset.mem_univ _)) $$ [Ho]
    · iexact Ho
    iintro ⟨%g, %hg, Ho⟩
    have hg' : ∀ i, (S (jOf i) ∨ jOf i = j) → g i = out I i := by
      intro i hi
      by_cases hj : jOf i = j
      · subst hj
        exact (congrArg g (out_at i)).symm.trans (hg.1 (inRed i))
      · refine (hg.2 i fun y hy => hj ?_).trans (hf i (hi.resolve_right hj))
        rw [← hy]; exact out_jOf j y
    iapply (wp_stOuts c l (fun i => S i ∨ i = j)) $$ [H Ho]
    · isplitl [H]; · iexact H
      unfold outP
      iexists g
      isplitr [Ho]
      · ipureintro; exact hg'
      iexact Ho
    iintro ⟨H, Ho⟩
    iapply Hk
    isplitl [H]; · iexact H
    unfold outP
    icases Ho with ⟨%f, %hf, Ho⟩
    iexists f
    isplitr [Ho]
    · ipureintro
      intro i hi
      refine hf i ?_
      rcases hi with h | h
      · exact .inl (.inl h)
      · rcases List.mem_cons.1 h with h | h
        · exact .inl (.inr h)
        · exact .inr h
    iexact Ho

end Cert.KernelIdeal.Project
-- ==== Proof.Head.lean ====
/-
Products over the devices, and the first part of the body: the handshake and the exchange of the codes.
-/
module

public import proofs.«01_k».proof.Proof.Shake
public import proofs.«01_k».proof.Proof.Project

@[expose] public section

noncomputable section

namespace Cert.KernelIdeal.Head

open Cert.KernelIdeal.Gen Cert.KernelIdeal.Fold Cert.KernelIdeal.Geo Cert.KernelIdeal.Vals Cert.KernelIdeal.Proto Cert.KernelIdeal.Steps Cert.KernelIdeal.Exch Cert.KernelIdeal.Access Cert.KernelIdeal.Compute Cert.KernelIdeal.Reduce Cert.KernelIdeal.Project Cert.KernelIdeal.Shake
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

/-! ## Products over the devices -/

abbrev P7 : List (Fin 7) := [0, 1, 2, 3, 4, 5, 6]
abbrev L8 : List (Fin 8) := [0, 1, 2, 3, 4, 5, 6, 7]
abbrev S8 : List (Fin 8) := [0, 3, 6, 1, 4, 7, 2, 5]

theorem bl_join {ι : Type} (Φ Ψ : ι → sProp 𝕄) (l : List ι) : iprop(bl Φ l ∗ bl Ψ l) ⊢ bl (fun x => iprop(Φ x ∗ Ψ x)) l := by
  induction l with
  | nil => unfold bl; iintro -; iempintro
  | cons x l ih =>
    unfold bl
    iintro ⟨⟨H1, H3⟩, H2, H4⟩
    isplitl [H1 H2]
    · isplitl [H1] <;> iassumption
    iapply ih
    isplitl [H3] <;> iassumption

theorem bl_mono {ι : Type} {Φ Ψ : ι → sProp 𝕄} (h : ∀ x, Φ x ⊢ Ψ x) (l : List ι) : bl Φ l ⊢ bl Ψ l := by
  induction l with
  | nil => exact BI.Entails.refl _
  | cons x l ih =>
    unfold bl
    iintro ⟨H, Hl⟩
    isplitl [H]
    · iapply (h x); iexact H
    iapply ih; iexact Hl

theorem bl_emp {ι : Type} (Φ : ι → sProp 𝕄) (l : List ι) (h : ∀ x ∈ l, Φ x ⊢ emp) : bl Φ l ⊢ emp := by
  induction l with
  | nil => exact BI.Entails.refl _
  | cons x l ih =>
    unfold bl
    iintro ⟨H, Hl⟩
    ihave H := (h x List.mem_cons_self) $$ H
    ihave Hl := (ih fun y hy => h y (List.mem_cons_of_mem _ hy)) $$ Hl
    iempintro

theorem univ_peers (c : Dev nD) (Φ : Dev nD → sProp 𝕄) : bigSep Finset.univ Φ = iprop(Φ c ∗ bl (fun r => Φ (peer c r)) P7) := by
  rw [bigSep_erase (Finset.mem_univ c), bigSep_peers]; rfl
theorem univ_L8 (Φ : Fin 8 → sProp 𝕄) : bigSep Finset.univ Φ = bl Φ L8 := bl_eq Φ _ _ (by decide) (by decide)
theorem univ_S8 (Φ : Fin 8 → sProp 𝕄) : bigSep Finset.univ Φ = bl Φ S8 := bl_eq Φ _ _ (by decide) (by decide)
theorem univ_rot (c : Dev nD) (Φ : Dev nD → sProp 𝕄) : bigSep Finset.univ Φ = bl (fun d => Φ (rot c d)) L8 := by
  rw [bl_eq Φ _ (L8.map (rot c)) (by revert c; decide) (by revert c; decide), bl_map]
theorem peers_L8 (c : Dev nD) (Φ : Dev nD → sProp 𝕄) : iprop(Φ c ∗ bl (fun r => Φ (peer c r)) P7) = bl Φ L8 := by
  rw [← univ_peers, univ_L8]

section Slots
variable {sp : Space} {e : EltTy} {A B C : ℕ} (m : Memref sig .tc sp ⟨4, ![8, A, B, C]⟩ e) (hm : m.view.set = Finset.univ) (c : Dev nD)
include hm

theorem wh_slots (f : Buf (Elt F) (m.view.loc (c : Thread nD τ))) : whPts m c f = bl (fun j => slPts m c j f) L8 :=
  (slPts_split m hm c f).trans (univ_L8 _)

theorem wh_slots_peers (f : Buf (Elt F) (m.view.loc (c : Thread nD τ))) : whPts m c f = iprop(slPts m c c f ∗ bl (fun r => slPts m c (peer c r) f) P7) :=
  (slPts_split m hm c f).trans (univ_peers c _)

theorem ex_slots : (iprop(∃ f, whPts m c f) : sProp 𝕄) ⊢ bl (fun j => iprop(∃ f, slPts m c j f)) L8 := by
  iintro ⟨%f, H⟩
  ihave H := (Entails.of_eq (wh_slots m hm c f)) $$ H
  have h : bl (fun j => slPts m c j f) L8 ⊢ bl (fun j => iprop(∃ f, slPts m c j f)) L8 := bl_mono (fun j => by
    iintro H; iexists f; iexact H) L8
  iapply h; iexact H

theorem ex_slots_peers : (iprop(∃ f, whPts m c f) : sProp 𝕄)
    ⊢ iprop((∃ f, slPts m c c f) ∗ bl (fun r => iprop(∃ f, slPts m c (peer c r) f)) P7) :=
  (ex_slots m hm c).trans (Entails.of_eq (peers_L8 c _).symm)
end Slots

/-! ## Whole windows -/

theorem emb_zero {s : Shape} (off : Fin s.rank → ℕ) (h : ∀ a, off a = 0) (inb : ∀ a, off a + s.size a ≤ s.size a) (y : s.Idx) :
    (Rect.unit (s := s) off s.size inb).emb y = y := by
  funext a
  refine Fin.ext ?_
  show off a + 1 * (y a).val = (y a).val
  rw [h]; omega

theorem wp_loadW {s : Shape} {e : EltTy} (m : Memref sig .tc .vmem s e) (c : Dev nD) (f : Buf (Elt F) (m.view.loc (c : Thread nD τ)))
    (off : Fin s.rank → ℕ) (h : ∀ a, off a = 0) (inb : ∀ a, off a + s.size a ≤ s.size a) {hl} {β : Type} {Q : β → sProp 𝕄}
    {Kt : (s.Idx → Elt F e) → PG F β} :
    whPts m c f ⊢ iprop((whPts m c f -∗ WP c (Kt (m.view.read (Elt F) f)) Q)
      -∗ WP c (.op (.load m (Rect.unit (s := s) off s.size inb).toLoadRect hl) Kt) Q) := by
  have e : (fun y => m.view.read (Elt F) f ((Rect.unit (s := s) off s.size inb).emb y)) = m.view.read (Elt F) f :=
    funext fun y => congrArg _ (emb_zero off h inb y)
  iintro H Hk
  iapply (wp_loadR m c Finset.univ f (Rect.unit (s := s) off s.size inb) (fun _ => Finset.mem_univ _) (Kt := Kt)) $$ [H]
  · iexact H
  rw [e]
  iexact Hk

abbrev mX : Memref sig .tc .vmem S2x512x768 .bf16 := Memref.whole cc0_stg0_0
abbrev mWq : Memref sig .tc .vmem S768x512 .bf16 := Memref.whole cc0_stg1_0
abbrev mWo : Memref sig .tc .vmem S512x768 .bf16 := Memref.whole cc0_stg2_0

/-! ## The first part -/

/-- The codes' exchange: rights to send, credits for the receive cells, and the cells at their start. -/
def kvTok (c : Dev nD) : sProp 𝕄 :=
  iprop(bl (fun r => iprop((tk c 0 (peer c r) ∗ tk (peer c r) 2 c) ∗ (tk c 1 (peer c r) ∗ tk (peer c r) 3 c))) P7 ∗ (tk c 2 c ∗ tk c 3 c)
    ∗ bl (fun r => iprop(cr c 2 (peer c r) ∗ cr c 3 (peer c r))) P7 ∗ bl (fun j => iprop(atp c 2 j ∗ atp c 3 j)) L8)

/-- The windows of the arguments. -/
def wins (c : Dev nD) : sProp 𝕄 := iprop(whPts mX c (I.x c) ∗ whPts mWq c (I.wq c) ∗ whPts mWo c (I.wo c))

/-- What the first part takes. -/
def headPre (c : Dev nD) : sProp 𝕄 :=
  iprop((bl (fun r => bt c (peer c r)) P7 ∗ bc c ∗ ba c) ∗ kvTok c
    ∗ ((∃ f, whPts mKa c f) ∗ (∃ f, whPts mVa c f) ∗ (∃ f, whPts mRr c f) ∗ (∃ f, whPts mAr c f))
    ∗ (whPts mKs c (I.ks c) ∗ whPts mVs c (I.vs c)) ∗ wins I c ∗ ow c (barL c ++ l0 c))

/-- What the first part leaves. -/
def headPost (c : Dev nD) : sProp 𝕄 :=
  iprop(bz c ∗ codes I c ∗ bl (fun j => iprop(zv c 2 j ∗ zv c 3 j)) L8 ∗ bl (fun r => iprop(cr c 0 (peer c r) ∗ cr c 1 (peer c r))) P7
    ∗ (slPts mKs c c (I.ks c) ∗ slPts mVs c c (I.vs c))
    ∗ (bl (fun j => iprop(∃ f, slPts mRr j c f)) L8 ∗ bl (fun j => iprop(∃ f, slPts mAr j c f)) L8) ∗ wins I c ∗ ow c (l1 c))

theorem bl_one {ι : Type} (Φ : ι → sProp 𝕄) (x : ι) : bl Φ [x] ⊢ Φ x := by
  unfold bl
  iintro ⟨H, -⟩
  iexact H

theorem trPay2 (c : Dev nD) (j : Fin 8) : trPay I c 2 j = iprop(slPts mKa c j (kall I c) ∗ if j = c then slPts mKs c j (I.ks c) else emp) := rfl
theorem trPay3 (c : Dev nD) (j : Fin 8) : trPay I c 3 j = iprop(slPts mVa c j (vall I c) ∗ if j = c then slPts mVs c j (I.vs c) else emp) := rfl

/-- One part of a sum of conditions: the codes' slot is left by the own copy alone. -/
theorem own_of_cond (c : Dev nD) (P : Dev nD → sProp 𝕄) : bl (fun j : Dev nD => if j = c then P j else iprop(emp)) L8 ⊢ P c := by
  rw [← peers_L8 c, if_pos rfl]
  iintro ⟨H, H'⟩
  have h : bl (fun r => if peer c r = c then P (peer c r) else iprop(emp)) P7 ⊢ emp := bl_emp _ _ fun r _ => by rw [if_neg (peer_ne c r)]
  ihave H' := h $$ H'
  iexact H

/-- The exchange, as a list of sends and the two copies. -/
def exL (c : Dev nD) : List (Fin 7 × Dev nD × Dev nD) :=
  [(0, ⟨k0_dev8 c, k0_dev8_lt c⟩, ⟨k0_dev9 c, k0_dev9_lt c⟩), (1, ⟨k0_dev10 c, k0_dev10_lt c⟩, ⟨k0_dev11 c, k0_dev11_lt c⟩),
    (2, ⟨k0_dev12 c, k0_dev12_lt c⟩, ⟨k0_dev13 c, k0_dev13_lt c⟩), (3, ⟨k0_dev14 c, k0_dev14_lt c⟩, ⟨k0_dev15 c, k0_dev15_lt c⟩),
    (4, ⟨k0_dev16 c, k0_dev16_lt c⟩, ⟨k0_dev17 c, k0_dev17_lt c⟩), (5, ⟨k0_dev18 c, k0_dev18_lt c⟩, ⟨k0_dev19 c, k0_dev19_lt c⟩),
    (6, ⟨k0_dev20 c, k0_dev20_lt c⟩, ⟨k0_dev21 c, k0_dev21_lt c⟩)]

theorem exL_peer (c : Dev nD) : ∀ x ∈ exL c, x.2.1 = peer c x.1 ∧ x.2.2 = peer c x.1 := by revert c; decide

theorem exchangeC_eq (c : Dev nD) {β : Type} (Kt : PG F β) :
    exchangeC mKs (Memref.isWhole_whole _) mVs (Memref.isWhole_whole _) mKa (Memref.isWhole_whole _) mVa (Memref.isWhole_whole _) (arr 0) (arr 1) (arr 2) (arr 3) c Kt
      = sendsC c (exL c) (copyC mKs (Memref.isWhole_whole _) mKa (Memref.isWhole_whole _) (arr 2) c <|
          copyC mVs (Memref.isWhole_whole _) mVa (Memref.isWhole_whole _) (arr 3) c Kt) := rfl

theorem wp_head (c : Dev nD) {β : Type} {Q : β → sProp 𝕄} {Kt : Dev nD → FVec F S512x768 .bf16 → St F → PG F β} :
    iprop(recs I K ∗ levAts L lv ∗ headPre I c)
      ⊢ iprop((headPost I c -∗ WP c (Kt c (k0_pay82 (I.wo c)) (stOf I c)) Q)
        -∗ WP c (head mX mWq mWo mKs (Memref.isWhole_whole _) mVs (Memref.isWhole_whole _) mKa (Memref.isWhole_whole _) mVa (Memref.isWhole_whole _)
            (arr 0) (arr 1) (arr 2) (arr 3) Kt) Q) := by
  unfold headPre kvTok wins head
  iintro ⟨#HR, #Hlev, ⟨Hbt, Hbc, Hba⟩, ⟨Htk, ⟨Ht2, Ht3⟩, Hcr, Hat⟩, ⟨Hka, Hva, Hrr, Har⟩, ⟨Hks, Hvs⟩, ⟨Hx, Hwq, Hwo⟩, HO⟩ Hk
  simp only [wp_deviceId]
  -- the slots
  ihave Hka := (ex_slots_peers mKa (View.set_whole _) c) $$ Hka
  ihave Hva := (ex_slots_peers mVa (View.set_whole _) c) $$ Hva
  ihave Hrr := (ex_slots_peers mRr (View.set_whole _) c) $$ Hrr
  ihave Har := (ex_slots_peers mAr (View.set_whole _) c) $$ Har
  ihave Hks := (Entails.of_eq (wh_slots_peers mKs (View.set_whole _) c (I.ks c))) $$ Hks
  ihave Hvs := (Entails.of_eq (wh_slots_peers mVs (View.set_whole _) c (I.vs c))) $$ Hvs
  icases Hka with ⟨Hkac, Hka⟩
  icases Hva with ⟨Hvac, Hva⟩
  icases Hrr with ⟨Hrrc, Hrr⟩
  icases Har with ⟨Harc, Har⟩
  icases Hks with ⟨Hksc, Hks⟩
  icases Hvs with ⟨Hvsc, Hvs⟩
  -- the handshake
  iapply (wp_handshake I K c) $$ [Hbt Hbc Hba HO Hka Hva Hrr Har]
  · isplitr; · iexact HR
    isplitr; · iexact Hlev
    isplitl [Hbt Hka Hva Hrr Har]
    · ihave H := (bl_join _ _ P7) $$ [Hrr Har]
      · isplitl [Hrr] <;> iassumption
      ihave H := (bl_join _ _ P7) $$ [Hva H]
      · isplitl [Hva] <;> iassumption
      ihave H := (bl_join _ _ P7) $$ [Hka H]
      · isplitl [Hka] <;> iassumption
      ihave H := (bl_join _ _ P7) $$ [Hbt H]
      · isplitl [Hbt] <;> iassumption
      iexact H
    isplitl [Hbc]; · iexact Hbc
    isplitl [Hba] <;> iassumption
  iintro ⟨Hbp, Hbz, HO⟩
  unfold barPay
  ihave Hbp := (bl_sep _ _ P7) $$ Hbp
  icases Hbp with ⟨Hka, Hbp⟩
  ihave Hbp := (bl_sep _ _ P7) $$ Hbp
  icases Hbp with ⟨Hva, Hbp⟩
  ihave Hbp := (bl_sep _ _ P7) $$ Hbp
  icases Hbp with ⟨Hrr, Har⟩
  -- the sends
  rw [exchangeC_eq]
  ihave H1 := (bl_join _ _ P7) $$ [Hks Hka]
  · isplitl [Hks] <;> iassumption
  ihave H2 := (bl_join _ _ P7) $$ [Hvs Hva]
  · isplitl [Hvs] <;> iassumption
  ihave H1 := (bl_join _ _ P7) $$ [H1 H2]
  · isplitl [H1] <;> iassumption
  ihave H1 := (bl_join _ _ P7) $$ [H1 Htk]
  · isplitl [H1] <;> iassumption
  iapply (wp_sendsC I K c (exL c) (exL_peer c) (l1 c)) $$ [H1 HO]
  · isplitr; · iexact HR
    isplitl [H1]
    · have h : bl (fun r => iprop(((slPts mKs c (peer c r) (I.ks c) ∗ (∃ f, slPts mKa (peer c r) c f)) ∗ (slPts mVs c (peer c r) (I.vs c) ∗ (∃ f, slPts mVa (peer c r) c f)))
          ∗ ((tk c 0 (peer c r) ∗ tk (peer c r) 2 c) ∗ (tk c 1 (peer c r) ∗ tk (peer c r) 3 c)))) P7 ⊢ bl (fun r => kvR I c (peer c r)) P7 := bl_mono (fun r => by
        unfold kvR
        iintro ⟨⟨⟨A1, A2⟩, A3, A4⟩, ⟨B1, B2⟩, B3, B4⟩
        isplitl [A1 A2 B1 B2]
        · isplitl [A1]; · iexact A1
          isplitl [A2]; · iexact A2
          isplitl [B1] <;> iassumption
        · isplitl [A3]; · iexact A3
          isplitl [A4]; · iexact A4
          isplitl [B3] <;> iassumption) P7
      iapply h; iexact H1
    iexact HO
  iintro ⟨Hcs, HO⟩
  -- the copies
  iapply (wp_copyC I K mKs _ mKa _ 2 c (I.ks c) (kall I c) (used_ge _ _ _ (by decide)) rfl (Entails.of_eq (trPay2_eq I c).symm) (fun _ => rfl)) $$ [Hksc Hkac Ht2]
  · isplitr; · iexact HR
    isplitl [Hksc]; · iexact Hksc
    isplitl [Hkac] <;> iassumption
  iintro Hc2
  iapply (wp_copyC I K mVs _ mVa _ 3 c (I.vs c) (vall I c) (used_ge _ _ _ (by decide)) rfl (Entails.of_eq (trPay3_eq I c).symm) (fun _ => rfl)) $$ [Hvsc Hvac Ht3]
  · isplitr; · iexact HR
    isplitl [Hvsc]; · iexact Hvsc
    isplitl [Hvac] <;> iassumption
  iintro Hc3
  -- the windows
  iapply (wp_loadW mX c (I.x c) ![0, 0, 0] (by decide) _) $$ [Hx]
  · iexact Hx
  iintro Hx
  iapply (wp_loadW mWq c (I.wq c) ![0, 0] (by decide) _) $$ [Hwq]
  · iexact Hwq
  iintro Hwq
  -- the waits
  ihave Hcr := (bl_sep _ _ P7) $$ Hcr
  icases Hcr with ⟨Hcr2, Hcr3⟩
  ihave Hat := (bl_sep _ _ L8) $$ Hat
  icases Hat with ⟨Hat2, Hat3⟩
  ihave Hcr2 := (Entails.of_eq (peers_L8 c (fun j => cr c 2 j))) $$ [Hc2 Hcr2]
  · isplitl [Hc2] <;> iassumption
  ihave Hcr3 := (Entails.of_eq (peers_L8 c (fun j => cr c 3 j))) $$ [Hc3 Hcr3]
  · isplitl [Hc3] <;> iassumption
  ihave H2 := (bl_join _ _ L8) $$ [Hcr2 Hat2]
  · isplitl [Hcr2] <;> iassumption
  ihave H3 := (bl_join _ _ L8) $$ [Hcr3 Hat3]
  · isplitl [Hcr3] <;> iassumption
  ihave H := (bl_join _ _ L8) $$ [H2 H3]
  · isplitl [H2] <;> iassumption
  have cut : ∀ Φ : Fin 8 → sProp 𝕄, bl Φ L8 = iprop(Φ 0 ∗ bl Φ [1, 2, 3, 4, 5, 6, 7]) := fun _ => rfl
  ihave H := (Entails.of_eq (cut _)) $$ H
  icases H with ⟨H0, H⟩
  iapply (wp_waitsC I K c [0] (l1 c) (lv_l1 c)) $$ [H0 HO]
  · isplitr; · iexact HR
    isplitr; · iexact Hlev
    isplitl [H0]
    · unfold bl; isplitl [H0]; · iexact H0
      unfold bl; iempintro
    iexact HO
  iintro ⟨H0, HO⟩
  ihave H0 := (bl_one _ _) $$ H0
  icases H0 with ⟨⟨Hz2, Hp2⟩, Hz3, Hp3⟩
  ihave Hp2 := (Entails.of_eq (trPay2 I c 0)) $$ Hp2
  ihave Hp3 := (Entails.of_eq (trPay3 I c 0)) $$ Hp3
  icases Hp2 with ⟨Hp2, Hp2'⟩
  icases Hp3 with ⟨Hp3, Hp3'⟩
  iapply (wp_loadRows c (kall I c) (vall I c) 16 0 _ _) $$ [Hp2 Hp3]
  · isplitl [Hp2] <;> iassumption
  iintro ⟨Hp2, Hp3⟩
  iapply (wp_waitsC I K c [1, 2, 3, 4, 5, 6, 7] (l1 c) (lv_l1 c)) $$ [H HO]
  · isplitr; · iexact HR
    isplitr; · iexact Hlev
    isplitl [H] <;> iassumption
  iintro ⟨H, HO⟩
  iapply (wp_loadW mWo c (I.wo c) ![0, 0] (by decide) _) $$ [Hwo]
  · iexact Hwo
  iintro Hwo
  rw [show mX.view.read (Elt F) (I.x c) = I.x c from rfl, show mWq.view.read (Elt F) (I.wq c) = I.wq c from rfl,
    show mWo.view.read (Elt F) (I.wo c) = I.wo c from rfl]
  -- the parts together
  ihave H := (Entails.of_eq (cut (fun j => iprop((zv c 2 j ∗ trPay I c 2 j) ∗ (zv c 3 j ∗ trPay I c 3 j)))).symm) $$ [Hz2 Hp2 Hp2' Hz3 Hp3 Hp3' H]
  · isplitr [H]
    · isplitl [Hz2 Hp2 Hp2']
      · isplitl [Hz2]; · iexact Hz2
        iapply (Entails.of_eq (trPay2 I c 0).symm)
        isplitl [Hp2] <;> iassumption
      · isplitl [Hz3]; · iexact Hz3
        iapply (Entails.of_eq (trPay3 I c 0).symm)
        isplitl [Hp3] <;> iassumption
    iexact H
  ihave H := (bl_sep _ _ L8) $$ H
  icases H with ⟨H2, H3⟩
  ihave H2 := (bl_sep _ _ L8) $$ H2
  icases H2 with ⟨Hz2, H2⟩
  ihave H3 := (bl_sep _ _ L8) $$ H3
  icases H3 with ⟨Hz3, H3⟩
  ihave H2 := (bl_sep (fun j => slPts mKa c j (kall I c)) (fun j => if j = c then slPts mKs c j (I.ks c) else iprop(emp)) L8) $$ [H2]
  · iexact H2
  icases H2 with ⟨Hka, Hks⟩
  ihave H3 := (bl_sep (fun j => slPts mVa c j (vall I c)) (fun j => if j = c then slPts mVs c j (I.vs c) else iprop(emp)) L8) $$ [H3]
  · iexact H3
  icases H3 with ⟨Hva, Hvs⟩
  ihave Hka := (Entails.of_eq (wh_slots mKa (View.set_whole _) c (kall I c)).symm) $$ Hka
  ihave Hva := (Entails.of_eq (wh_slots mVa (View.set_whole _) c (vall I c)).symm) $$ Hva
  ihave Hks := (own_of_cond c (fun j => slPts mKs c j (I.ks c))) $$ Hks
  ihave Hvs := (own_of_cond c (fun j => slPts mVs c j (I.vs c))) $$ Hvs
  iapply Hk
  unfold headPost codes wins
  isplitl [Hbz]; · iexact Hbz
  isplitl [Hka Hva]
  · isplitl [Hka] <;> iassumption
  isplitl [Hz2 Hz3]
  · iapply (bl_join _ _ L8)
    isplitl [Hz2] <;> iassumption
  isplitl [Hcs]; · iexact Hcs
  isplitl [Hks Hvs]
  · isplitl [Hks] <;> iassumption
  isplitl [Hrr Hrrc Har Harc]
  · isplitl [Hrr Hrrc]
    · iapply (Entails.of_eq (peers_L8 c (fun j => iprop(∃ f, slPts mRr j c f))))
      isplitl [Hrrc] <;> iassumption
    · iapply (Entails.of_eq (peers_L8 c (fun j => iprop(∃ f, slPts mAr j c f))))
      isplitl [Harc] <;> iassumption
  isplitr [HO]
  · isplitl [Hx]; · iexact Hx
    isplitl [Hwq] <;> iassumption
  iexact HO

end Cert.KernelIdeal.Head
-- ==== Proof.Whole.lean ====
/-
The rest of the body, and the body of one device.
-/
module

public import proofs.«01_k».proof.Proof.Head

@[expose] public section

noncomputable section

namespace Cert.KernelIdeal.Whole

open Cert.KernelIdeal.Gen Cert.KernelIdeal.Fold Cert.KernelIdeal.Geo Cert.KernelIdeal.Vals Cert.KernelIdeal.Proto Cert.KernelIdeal.Steps Cert.KernelIdeal.Exch Cert.KernelIdeal.Access Cert.KernelIdeal.Compute Cert.KernelIdeal.Reduce Cert.KernelIdeal.Project Cert.KernelIdeal.Shake Cert.KernelIdeal.Head
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

/-! ## The partial results stored and sent -/

/-- What storing and sending the partial results for device `n` takes. -/
def sR (c n : Dev nD) : sProp 𝕄 := iprop((∃ f, slPts mPs c n f) ∗ (∃ f, slPts mRr n c f) ∗ tk c 4 n ∗ tk n 5 c)

def stSends (c : Dev nD) (wo : FVec F S512x768 .bf16) {β : Type} : List (Fin 8 × Dev nD) → PG F β → PG F β
  | [], Kt => Kt
  | x :: l, Kt => stSend mCx mPs mRr (Memref.isWhole_whole _) (Memref.isWhole_whole _) (arr 4) (arr 5) c wo x.1 x.2 <| stSends c wo l Kt

theorem wp_stSends (c : Dev nD) (D : ℕ → Fin 8 → Prop) (l : List (Fin 8 × Dev nD)) (hl : ∀ x ∈ l, x.2 = x.1) (hD : ∀ x ∈ l, ∀ t, t < 16 → D t x.1)
    (l' : List (Dev nD × CI)) {β : Type} {Q : β → sProp 𝕄} {Kt : PG F β} :
    iprop(recs I K ∗ cxP I c D ∗ bl (fun x => sR c x.1) l ∗ ow c (rsL c (l.map (·.1)) ++ l'))
      ⊢ iprop(((cxP I c D ∗ bl (fun x => cr c 4 x.1) l ∗ ow c l') -∗ WP c Kt Q) -∗ WP c (stSends c (k0_pay82 (I.wo c)) l Kt) Q) := by
  induction l with
  | nil =>
    unfold bl stSends
    iintro ⟨-, Hc, -, HO⟩ Hk
    iapply Hk
    isplitl [Hc]; · iexact Hc
    isplitr; · iempintro
    iexact HO
  | cons x l ih =>
    unfold bl stSends sR
    iintro ⟨#HR, Hc, ⟨H, Hl⟩, HO⟩ Hk
    iapply (wp_stSend I K c x.2 D x.1 (hl x List.mem_cons_self) (hD x List.mem_cons_self) (rsL c (l.map (·.1)) ++ l')) $$ [Hc H HO]
    · isplitr; · iexact HR
      isplitl [Hc]; · iexact Hc
      isplitl [H]; · iexact H
      iexact HO
    iintro ⟨Hc, Hr, HO⟩
    iapply (ih (fun y hy => hl y (List.mem_cons_of_mem _ hy)) fun y hy => hD y (List.mem_cons_of_mem _ hy)) $$ [Hc Hl HO]
    · isplitr; · iexact HR
      isplitl [Hc]; · iexact Hc
      isplitl [Hl]; · unfold sR; iexact Hl
      iexact HO
    iintro ⟨Hc, Hl, HO⟩
    iapply Hk
    isplitl [Hc]; · iexact Hc
    isplitl [Hr Hl]
    · isplitl [Hr] <;> iassumption
    iexact HO

/-- A product along a list in three parts. -/
theorem bl_three {ι : Type} (Φ : ι → sProp 𝕄) (a b c d e f g h : ι) :
    bl Φ [a, b, c, d, e, f, g, h] ⊢ iprop(bl Φ [a, b, c] ∗ bl Φ [d, e, f] ∗ bl Φ [g, h]) := by
  unfold bl; unfold bl; unfold bl; unfold bl; unfold bl; unfold bl; unfold bl; unfold bl; unfold bl
  iintro ⟨Ha, Hb, Hc, Hd, He, Hf, Hg, Hh, -⟩
  isplitl [Ha Hb Hc]
  · isplitl [Ha]; · iexact Ha
    isplitl [Hb]; · iexact Hb
    isplitl [Hc]; · iexact Hc
    iempintro
  isplitl [Hd He Hf]
  · isplitl [Hd]; · iexact Hd
    isplitl [He]; · iexact He
    isplitl [Hf]; · iexact Hf
    iempintro
  isplitl [Hg]; · iexact Hg
  isplitl [Hh]; · iexact Hh
  iempintro

theorem bl_three_join {ι : Type} (Φ : ι → sProp 𝕄) (a b c d e f g h : ι) :
    iprop(bl Φ [a, b, c] ∗ bl Φ [d, e, f] ∗ bl Φ [g, h]) ⊢ bl Φ [a, b, c, d, e, f, g, h] := by
  unfold bl; unfold bl; unfold bl; unfold bl; unfold bl; unfold bl; unfold bl; unfold bl; unfold bl
  iintro ⟨⟨Ha, Hb, Hc, -⟩, ⟨Hd, He, Hf, -⟩, Hg, Hh, -⟩
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  iempintro

theorem cxP_start (c : Dev nD) : (iprop(∃ f, whPts mCx c f) : sProp 𝕄) ⊢ cxP I c (fun _ _ => False) := by
  unfold cxP
  iintro ⟨%f, H⟩
  iexists f
  isplitr [H]
  · ipureintro; exact fun _ h => h.elim
  iexact H

/-- Which windows are done when those of one residue have been added. -/
def after (D : ℕ → Fin 8 → Prop) (r : ℕ) : ℕ → Fin 8 → Prop := fun t m => D t m ∨ (0 ≤ t ∧ t < 0 + 16) ∧ m.val % 3 = r

theorem done_of (D : ℕ → Fin 8 → Prop) (r : ℕ) (l : List (Fin 8 × Dev nD)) (hl : ∀ x ∈ l, x.1.val % 3 = r) :
    ∀ x ∈ l, ∀ t, t < 16 → after D r t x.1 := fun x hx t ht => Or.inr ⟨⟨Nat.zero_le _, by omega⟩, hl x hx⟩

/-- The middle part: the context, and the partial results stored and sent. -/
theorem wp_middle (c : Dev nD) {β : Type} {Q : β → sProp 𝕄} {Kt : PG F β} :
    iprop(recs I K ∗ codes I c ∗ (∃ f, whPts mCx c f) ∗ bl (fun n => sR c n) Head.S8 ∗ ow c (l1 c))
      ⊢ iprop(((codes I c ∗ (∃ f, whPts mCx c f) ∗ bl (fun n => cr c 4 n) Head.S8 ∗ ow c (agL c L8)) -∗ WP c Kt Q)
        -∗ WP c (stepsA mKa mVa mCx (Memref.isWhole_whole _) (stOf I c) 0 (by decide) 16 0 (by decide) <|
            sends0 mPs (Memref.isWhole_whole _) mRr (Memref.isWhole_whole _) mCx (arr 4) (arr 5) c (k0_pay82 (I.wo c)) <|
            stepsA mKa mVa mCx (Memref.isWhole_whole _) (stOf I c) 1 (by decide) 16 0 (by decide) <|
            sends1 mPs (Memref.isWhole_whole _) mRr (Memref.isWhole_whole _) mCx (arr 4) (arr 5) c (k0_pay82 (I.wo c)) <|
            stepsB mKa mVa mCx (Memref.isWhole_whole _) (stOf I c) 16 0 (by decide) <|
            sends2 mPs (Memref.isWhole_whole _) mRr (Memref.isWhole_whole _) mCx (arr 4) (arr 5) c (k0_pay82 (I.wo c)) Kt) Q) := by
  have e0 : ∀ Kt : PG F β, sends0 mPs (Memref.isWhole_whole _) mRr (Memref.isWhole_whole _) mCx (arr 4) (arr 5) c (k0_pay82 (I.wo c)) Kt
    = stSends c (k0_pay82 (I.wo c)) [(0, ⟨k0_dev22, k0_dev22_lt⟩), (3, ⟨k0_dev23, k0_dev23_lt⟩), (6, ⟨k0_dev24, k0_dev24_lt⟩)] Kt := fun _ => rfl
  have e1 : ∀ Kt : PG F β, sends1 mPs (Memref.isWhole_whole _) mRr (Memref.isWhole_whole _) mCx (arr 4) (arr 5) c (k0_pay82 (I.wo c)) Kt
    = stSends c (k0_pay82 (I.wo c)) [(1, ⟨k0_dev25, k0_dev25_lt⟩), (4, ⟨k0_dev26, k0_dev26_lt⟩), (7, ⟨k0_dev27, k0_dev27_lt⟩)] Kt := fun _ => rfl
  have e2 : ∀ Kt : PG F β, sends2 mPs (Memref.isWhole_whole _) mRr (Memref.isWhole_whole _) mCx (arr 4) (arr 5) c (k0_pay82 (I.wo c)) Kt
    = stSends c (k0_pay82 (I.wo c)) [(2, ⟨k0_dev28, k0_dev28_lt⟩), (5, ⟨k0_dev29, k0_dev29_lt⟩)] Kt := fun _ => rfl
  rw [e0, e1, e2]
  iintro ⟨#HR, Hco, Hc, HS, HO⟩ Hk
  ihave Hc := (cxP_start I c) $$ Hc
  ihave HS := (bl_three _ _ _ _ _ _ _ _ _) $$ HS
  icases HS with ⟨HS0, HS1, HS2⟩
  iapply (wp_stepsA I c 0 _ 16 0 _ _) $$ [Hco Hc]
  · isplitl [Hco] <;> iassumption
  iintro ⟨Hco, Hc⟩
  iapply (wp_stSends I K c (after (fun _ _ => False) 0) [(0, ⟨k0_dev22, k0_dev22_lt⟩), (3, ⟨k0_dev23, k0_dev23_lt⟩), (6, ⟨k0_dev24, k0_dev24_lt⟩)] (by decide)
    (done_of _ 0 _ (by decide))
    (rsL c [1, 4, 7, 2, 5] ++ agL c L8)) $$ [Hc HS0 HO]
  · isplitr; · iexact HR
    isplitl [Hc]; · iexact Hc
    isplitl [HS0]; · iexact HS0
    iexact HO
  iintro ⟨Hc, Hr0, HO⟩
  iapply (wp_stepsA I c 1 _ 16 0 _ _) $$ [Hco Hc]
  · isplitl [Hco] <;> iassumption
  iintro ⟨Hco, Hc⟩
  iapply (wp_stSends I K c (after (after (fun _ _ => False) 0) 1) [(1, ⟨k0_dev25, k0_dev25_lt⟩), (4, ⟨k0_dev26, k0_dev26_lt⟩), (7, ⟨k0_dev27, k0_dev27_lt⟩)] (by decide)
    (done_of _ 1 _ (by decide))
    (rsL c [2, 5] ++ agL c L8)) $$ [Hc HS1 HO]
  · isplitr; · iexact HR
    isplitl [Hc]; · iexact Hc
    isplitl [HS1]; · iexact HS1
    iexact HO
  iintro ⟨Hc, Hr1, HO⟩
  iapply (wp_stepsB I c 16 0 _ _) $$ [Hco Hc]
  · isplitl [Hco] <;> iassumption
  iintro ⟨Hco, Hc⟩
  iapply (wp_stSends I K c (after (after (after (fun _ _ => False) 0) 1) 2) [(2, ⟨k0_dev28, k0_dev28_lt⟩), (5, ⟨k0_dev29, k0_dev29_lt⟩)] (by decide)
    (done_of _ 2 _ (by decide))
    (agL c L8)) $$ [Hc HS2 HO]
  · isplitr; · iexact HR
    isplitl [Hc]; · iexact Hc
    isplitl [HS2]; · iexact HS2
    iexact HO
  iintro ⟨Hc, Hr2, HO⟩
  iapply Hk
  isplitl [Hco]; · iexact Hco
  isplitl [Hc]
  · unfold cxP
    icases Hc with ⟨%f, -, Hc⟩
    iexists f; iexact Hc
  isplitr [HO]
  · iapply (bl_three_join (fun n : Fin 8 => (cr c 4 n : sProp 𝕄)) 0 3 6 1 4 7 2 5)
    isplitl [Hr0]; · iexact Hr0
    isplitl [Hr1]; · iexact Hr1
    iexact Hr2
  iexact HO

/-! ## The rest -/

theorem as_parts (c : Dev nD) (f : Buf (Elt F) (mAs.view.loc (c : Thread nD τ))) : whPts mAs c f = bl (fun d => asPts c (rot c d) f) L8 := by
  rw [← univ_rot c fun p => asPts c p f]
  unfold asPts
  rw [show mAs.view.set = Finset.univ from View.set_whole _]
  exact ShareLeaves.pointsTo_leaves Finset.univ f 3 fullShare

/-- What the rest of the body takes; -/
def tailPre (c : Dev nD) : sProp 𝕄 :=
  iprop(bl (fun j => iprop(cr c 5 j ∗ atp c 5 j)) L8 ∗ (∃ f, whPts mAs c f)
    ∗ (bl (fun d => iprop(∃ f, slPts mAr (rot c d) c f)) L8 ∗ bl (fun d => iprop(tk c 6 (rot c d) ∗ tk (rot c d) 7 c)) L8)
    ∗ bl (fun j => iprop(cr c 7 j ∗ atp c 7 j)) L8 ∗ (∃ f, whPts mO c f)
    ∗ bl (fun r => iprop((cr c 0 (peer c r) ∗ atp c 0 (peer c r)) ∗ (cr c 1 (peer c r) ∗ atp c 1 (peer c r)))) P7
    ∗ bl (fun n => iprop(cr c 4 n ∗ atp c 4 n)) Head.S8 ∗ bl (fun d => atp c 6 (rot c d)) L8 ∗ ow c (agL c L8))

/-- and leaves. -/
def tailPost (c : Dev nD) : sProp 𝕄 :=
  iprop((bl (fun j => zv c 5 j) L8 ∗ bl (fun j => zv c 7 j) L8 ∗ (bl (fun r => zv c 0 (peer c r)) P7 ∗ bl (fun r => zv c 1 (peer c r)) P7)
      ∗ bl (fun j => zv c 4 j) L8 ∗ bl (fun j => zv c 6 j) L8)
    ∗ (bl (fun r => slPts mKs c (peer c r) (I.ks c)) P7 ∗ bl (fun r => slPts mVs c (peer c r) (I.vs c)) P7)
    ∗ ((∃ f, whPts mRr c f) ∗ (∃ f, whPts mAr c f) ∗ (∃ f, whPts mPs c f) ∗ (∃ f, whPts mAs c f))
    ∗ whPts mO c (out I) ∗ ow c [])

/-- The devices the reduced block goes to. -/
abbrev gL (c : Dev nD) : List (Fin 8 × Dev nD) :=
  [(0, ⟨k0_dev30 c, k0_dev30_lt c⟩), (1, ⟨k0_dev31 c, k0_dev31_lt c⟩), (2, ⟨k0_dev32 c, k0_dev32_lt c⟩), (3, ⟨k0_dev33 c, k0_dev33_lt c⟩),
    (4, ⟨k0_dev34 c, k0_dev34_lt c⟩), (5, ⟨k0_dev35 c, k0_dev35_lt c⟩), (6, ⟨k0_dev36 c, k0_dev36_lt c⟩), (7, ⟨k0_dev37 c, k0_dev37_lt c⟩)]

theorem gL_eq : ∀ c : Dev nD, ∀ x ∈ gL c, x.2 = rot c x.1 := by decide

theorem wp_end (c : Dev nD) (Q : PUnit → sProp 𝕄) : Q ⟨⟩ ⊢ WP c (Prog.ret ⟨⟩ : PG F PUnit) Q := by
  unfold WP
  rw [wp_ret]
  iintro H
  imodintro
  iexact H

theorem wp_tail (c : Dev nD) {Q : PUnit → sProp 𝕄} :
    iprop(recs I K ∗ levAts L lv ∗ tailPre c)
      ⊢ iprop((tailPost I c -∗ Q ⟨⟩)
        -∗ WP c (tail mKs (Memref.isWhole_whole _) mVs (Memref.isWhole_whole _) mO mKa (Memref.isWhole_whole _) mVa (Memref.isWhole_whole _)
            mPs (Memref.isWhole_whole _) mRr (Memref.isWhole_whole _) mAs (Memref.isWhole_whole _) mAr (Memref.isWhole_whole _)
            (arr 0) (arr 1) (arr 4) (arr 5) (arr 6) (arr 7) c) Q) := by
  unfold tail tailPre
  iintro ⟨#HR, #Hlev, H5, Has, ⟨Har, Htg⟩, H7, Ho, H01, H4, H6, HO⟩ Hk
  iapply (wp_waitsP I K c [0, 1, 2, 3, 4, 5, 6, 7] (agL c L8) (fun x hx => lv_agL c _ x hx)) $$ [H5 HO]
  · isplitr; · iexact HR
    isplitr; · iexact Hlev
    isplitl [H5]; · iexact H5
    iexact HO
  iintro ⟨H5, HO⟩
  ihave H5 := (bl_sep _ _ _) $$ H5
  icases H5 with ⟨Hz5, Hrr⟩
  ihave Hrr := (Entails.of_eq (wh_slots mRr (View.set_whole _) c (rsr I c)).symm) $$ Hrr
  iapply (wp_loadParts c (rsr I c) 8 0 _ _) $$ Hrr
  iintro Hrr
  iapply (wp_stRed c (red I c)) $$ Has
  iintro Has
  ihave Has := (Entails.of_eq (as_parts c (red I c))) $$ Has
  ihave Hg := (bl_join _ _ _) $$ [Har Htg]
  · isplitl [Har] <;> iassumption
  ihave Hg := (bl_join _ _ _) $$ [Has Hg]
  · isplitl [Has]; · iexact Has
    iexact Hg
  rw [show ∀ Kt : PG F PUnit, exchangeG mAs (Memref.isWhole_whole _) mAr (Memref.isWhole_whole _) (arr 6) (arr 7) c Kt = sendsG c (gL c) Kt from fun _ => rfl]
  iapply (wp_sendsG I K c (gL c) (gL_eq c) []) $$ [Hg HO]
  · isplitr; · iexact HR
    isplitl [Hg]; · iexact Hg
    iexact HO
  iintro ⟨Hr6, HO⟩
  iapply (wp_waitsG I K c [0, 1, 2, 3, 4, 5, 6, 7]) $$ [H7 HO]
  · isplitr; · iexact HR
    isplitr; · iexact Hlev
    isplitl [H7]; · iexact H7
    iexact HO
  iintro ⟨H7, HO⟩
  ihave H7 := (bl_sep _ _ _) $$ H7
  icases H7 with ⟨Hz7, Har⟩
  ihave Har := (Entails.of_eq (wh_slots mAr (View.set_whole _) c (agr I)).symm) $$ Har
  iapply (wp_stOuts I c [0, 1, 2, 3, 4, 5, 6, 7] (fun _ => False)) $$ [Har Ho]
  · isplitl [Har]; · iexact Har
    unfold outP
    icases Ho with ⟨%f, Ho⟩
    iexists f
    isplitr; · ipureintro; exact fun _ h => h.elim
    iexact Ho
  iintro ⟨Har, Ho⟩
  iapply (wp_sentsC I K c [0, 1, 2, 3, 4, 5, 6]) $$ [H01 HO]
  · isplitr; · iexact HR
    isplitr; · iexact Hlev
    isplitl [H01]; · iexact H01
    iexact HO
  iintro ⟨H01, HO⟩
  ihave H01 := (bl_sep _ _ _) $$ H01
  icases H01 with ⟨H0, H1⟩
  ihave H0 := (bl_sep _ _ _) $$ H0
  icases H0 with ⟨Hz0, Hks⟩
  ihave H1 := (bl_sep _ _ _) $$ H1
  icases H1 with ⟨Hz1, Hvs⟩
  iapply (wp_sentsP I K c [0, 3, 6, 1, 4, 7, 2, 5]) $$ [H4 HO]
  · isplitr; · iexact HR
    isplitr; · iexact Hlev
    isplitl [H4]; · iexact H4
    iexact HO
  iintro ⟨H4, HO⟩
  ihave H4 := (bl_sep _ _ _) $$ H4
  icases H4 with ⟨Hz4, Hps⟩
  have e4 : ∀ Φ : Fin 8 → sProp 𝕄, bl Φ Head.S8 = bl Φ L8 := fun Φ => by rw [← univ_S8, univ_L8]
  ihave Hz4 := (Entails.of_eq (e4 _)) $$ Hz4
  ihave Hps := (Entails.of_eq (e4 _)) $$ Hps
  ihave Hps := (Entails.of_eq (wh_slots mPs (View.set_whole _) c (ps I c)).symm) $$ Hps
  ihave Hr6 := (Entails.of_eq (show bl (fun x : Fin 8 × Dev nD => (cr c 6 (rot c x.1) : sProp 𝕄)) (gL c) = bl (fun d => cr c 6 (rot c d)) L8 from rfl)) $$ Hr6
  ihave H6 := (bl_join _ _ _) $$ [Hr6 H6]
  · isplitl [Hr6]; · iexact Hr6
    iexact H6
  iapply (wp_sentsG I K c [0, 1, 2, 3, 4, 5, 6, 7]) $$ [H6 HO]
  · isplitr; · iexact HR
    isplitr; · iexact Hlev
    isplitl [H6]; · iexact H6
    iexact HO
  iintro ⟨H6, HO⟩
  ihave H6 := (bl_sep _ _ _) $$ H6
  icases H6 with ⟨Hz6, Has⟩
  ihave Has := (Entails.of_eq (as_parts c (red I c)).symm) $$ Has
  ihave Hz6 := (Entails.of_eq ((univ_rot c fun p => (zv c 6 p : sProp 𝕄)).symm.trans (univ_L8 _))) $$ Hz6
  iapply (wp_end c _)
  iapply Hk
  unfold tailPost
  isplitl [Hz5 Hz7 Hz0 Hz1 Hz4 Hz6]
  · isplitl [Hz5]; · iexact Hz5
    isplitl [Hz7]; · iexact Hz7
    isplitl [Hz0 Hz1]
    · isplitl [Hz0] <;> iassumption
    isplitl [Hz4] <;> iassumption
  isplitl [Hks Hvs]
  · isplitl [Hks]; · iexact Hks
    iexact Hvs
  isplitl [Hrr Har Hps Has]
  · isplitl [Hrr]; · iexists _; iexact Hrr
    isplitl [Har]; · iexists _; iexact Har
    isplitl [Hps]; · iexists _; iexact Hps
    iexists _; iexact Has
  isplitl [Ho]
  · unfold outP
    icases Ho with ⟨%f, %hf, Ho⟩
    have e : f = out I := funext fun i => hf i (Or.inr ((by decide : ∀ j : Fin 8, j ∈ ([0, 1, 2, 3, 4, 5, 6, 7] : List (Fin 8))) _))
    rw [e]
    iexact Ho
  iexact HO

/-! ## The body -/

/-- The transfer cells of an array, at the start of their rounds; -/
def at8 (c : Dev nD) (k : Fin 8) : sProp 𝕄 := bl (fun j => atp c k j) L8
/-- and closed. -/
def z8 (c : Dev nD) (k : Fin 8) : sProp 𝕄 := bl (fun j => zv c k j) L8

/-- What the body of device `c` takes; -/
def bodyIn (c : Dev nD) : sProp 𝕄 :=
  iprop(headPre I c ∗ ((∃ f, whPts mPs c f) ∗ (∃ f, whPts mAs c f) ∗ (∃ f, whPts mCx c f) ∗ (∃ f, whPts mO c f))
    ∗ bl (fun n => iprop(tk c 4 n ∗ tk n 5 c)) L8 ∗ bl (fun p => iprop(tk c 6 p ∗ tk p 7 c)) L8
    ∗ (bl (fun j => cr c 5 j) L8 ∗ bl (fun j => cr c 7 j) L8)
    ∗ at8 c 0 ∗ at8 c 1 ∗ at8 c 4 ∗ at8 c 5 ∗ at8 c 6 ∗ at8 c 7)

/-- and leaves. -/
def bodyOut (c : Dev nD) : sProp 𝕄 :=
  iprop(bz c ∗ (z8 c 0 ∗ z8 c 1 ∗ bl (fun j => iprop(zv c 2 j ∗ zv c 3 j)) L8 ∗ z8 c 4 ∗ z8 c 5 ∗ z8 c 6 ∗ z8 c 7)
    ∗ ((∃ f, whPts mKa c f) ∗ (∃ f, whPts mVa c f) ∗ (∃ f, whPts mPs c f) ∗ (∃ f, whPts mRr c f) ∗ (∃ f, whPts mAs c f)
      ∗ (∃ f, whPts mAr c f) ∗ (∃ f, whPts mCx c f))
    ∗ (whPts mKs c (I.ks c) ∗ whPts mVs c (I.vs c)) ∗ wins I c ∗ whPts mO c (out I) ∗ ow c [])

/-- A device's send cell to itself is never used. -/
theorem duties_own (c : Dev nD) (k : Fin 8) (hk : k = 0 ∨ k = 1) : ∀ r, 0 ≤ r → (Rd I).duties (cell c (some (k, c))) r = ∅ := fun r _ => by
  rcases Nat.eq_zero_or_pos r with rfl | h
  · rw [duties_cell]; exact if_pos ⟨hk, rfl⟩
  · exact duties_later I _ r h

theorem close_own (c : Dev nD) (k : Fin 8) (hk : k = 0 ∨ k = 1) : iprop(recs I K ∗ atp c k c) ⊢ |={Set.univ}=> zv c k c := by
  unfold atp zv
  iintro ⟨#HR, Hat⟩
  imod (Rounds.cell_close ER (Rd I) (Set.mem_univ (K (c, some (k, c)))) (fun h => h) (R := 0) (duties_own I c k hk)) $$ [Hat] with Hz
  · isplitr; · iapply (recs_inv I K c (some (k, c))); iexact HR
    iexact Hat
  imodintro
  iexact Hz

theorem at_peers (c : Dev nD) (k : Fin 8) : at8 c k = (iprop(atp c k c ∗ bl (fun r => atp c k (peer c r)) P7) : sProp 𝕄) := (peers_L8 c _).symm
theorem z_peers (c : Dev nD) (k : Fin 8) : (iprop(zv c k c ∗ bl (fun r => zv c k (peer c r)) P7) : sProp 𝕄) = z8 c k := peers_L8 c _

/-- The body of device `c`. -/
theorem wp_body (c : Dev nD) {Q : PUnit → sProp 𝕄} :
    iprop(recs I K ∗ levAts L lv ∗ bodyIn I c)
      ⊢ iprop((bodyOut I c -∗ Q ⟨⟩)
        -∗ WP c (Fold.body mX mWq mWo mKs (Memref.isWhole_whole _) mVs (Memref.isWhole_whole _) mO mKa (Memref.isWhole_whole _) mVa (Memref.isWhole_whole _)
            mPs (Memref.isWhole_whole _) mRr (Memref.isWhole_whole _) mAs (Memref.isWhole_whole _) mAr (Memref.isWhole_whole _)
            mCx (Memref.isWhole_whole _) (arr 0) (arr 1) (arr 2) (arr 3) (arr 4) (arr 5) (arr 6) (arr 7)) Q) := by
  unfold Fold.body bodyIn
  iintro ⟨#HR, #Hlev, Hh, ⟨Hps, Has, Hcx, Ho⟩, Ht4, Ht6, ⟨Hc5, Hc7⟩, Ha0, Ha1, Ha4, Ha5, Ha6, Ha7⟩ Hk
  ihave Ha0 := (Entails.of_eq (at_peers c 0)) $$ Ha0
  icases Ha0 with ⟨Hu0, Ha0⟩
  ihave Ha1 := (Entails.of_eq (at_peers c 1)) $$ Ha1
  icases Ha1 with ⟨Hu1, Ha1⟩
  imod (close_own I K c 0 (Or.inl rfl)) $$ [Hu0] with Hu0
  · isplitr; · iexact HR
    iexact Hu0
  imod (close_own I K c 1 (Or.inr rfl)) $$ [Hu1] with Hu1
  · isplitr; · iexact HR
    iexact Hu1
  iapply (wp_head I K c) $$ [Hh]
  · isplitr; · iexact HR
    isplitr; · iexact Hlev
    iexact Hh
  unfold headPost
  iintro ⟨Hbz, Hco, Hz23, Hc01, ⟨Hks, Hvs⟩, ⟨Hrs, Har⟩, Hw, HO⟩
  have e4 : ∀ Φ : Fin 8 → sProp 𝕄, bl Φ Head.S8 = bl Φ L8 := fun Φ => by rw [← univ_S8, univ_L8]
  have er : ∀ Φ : Fin 8 → sProp 𝕄, bl (fun d => Φ (rot c d)) L8 = bl Φ L8 := fun Φ => by rw [← univ_rot, univ_L8]
  ihave Hps := (ex_slots mPs (View.set_whole _) c) $$ Hps
  ihave HS := (bl_join _ _ _) $$ [Hrs Ht4]
  · isplitl [Hrs] <;> iassumption
  ihave HS := (bl_join _ _ _) $$ [Hps HS]
  · isplitl [Hps]; · iexact Hps
    iexact HS
  ihave HS := (Entails.of_eq (e4 _).symm) $$ HS
  iapply (wp_middle I K c) $$ [Hco Hcx HS HO]
  · isplitr; · iexact HR
    isplitl [Hco]; · iexact Hco
    isplitl [Hcx]; · iexact Hcx
    isplitl [HS]; · unfold sR; iexact HS
    iexact HO
  iintro ⟨Hco, Hcx, Hr4, HO⟩
  ihave H5 := (bl_join _ _ _) $$ [Hc5 Ha5]
  · isplitl [Hc5]; · iexact Hc5
    unfold at8; iexact Ha5
  ihave H7 := (bl_join _ _ _) $$ [Hc7 Ha7]
  · isplitl [Hc7]; · iexact Hc7
    unfold at8; iexact Ha7
  unfold at8
  ihave Ha4 := (Entails.of_eq (e4 _).symm) $$ Ha4
  ihave H4 := (bl_join _ _ _) $$ [Hr4 Ha4]
  · isplitl [Hr4]; · iexact Hr4
    iexact Ha4
  ihave Hc01 := (bl_sep _ _ _) $$ Hc01
  icases Hc01 with ⟨Hc0, Hc1⟩
  ihave H0 := (bl_join _ _ _) $$ [Hc0 Ha0]
  · isplitl [Hc0] <;> iassumption
  ihave H1 := (bl_join _ _ _) $$ [Hc1 Ha1]
  · isplitl [Hc1] <;> iassumption
  ihave H01 := (bl_join _ _ _) $$ [H0 H1]
  · isplitl [H0] <;> iassumption
  ihave Ha6 := (Entails.of_eq (er _).symm) $$ Ha6
  ihave Ht6 := (Entails.of_eq (er _).symm) $$ Ht6
  ihave Har := (Entails.of_eq (er fun p => iprop(∃ f, slPts mAr p c f)).symm) $$ Har
  iapply (wp_tail I K c) $$ [H5 Has Har Ht6 H7 Ho H01 H4 Ha6 HO]
  · isplitr; · iexact HR
    isplitr; · iexact Hlev
    unfold tailPre
    isplitl [H5]; · iexact H5
    isplitl [Has]; · iexact Has
    isplitl [Har Ht6]
    · isplitl [Har]; · iexact Har
      iexact Ht6
    isplitl [H7]; · iexact H7
    isplitl [Ho]; · iexact Ho
    isplitl [H01]; · iexact H01
    isplitl [H4]; · iexact H4
    isplitl [Ha6]; · iexact Ha6
    iexact HO
  unfold tailPost
  iintro ⟨⟨Hz5, Hz7, ⟨Hz0, Hz1⟩, Hz4, Hz6⟩, ⟨Hks', Hvs'⟩, ⟨Hrr, Har, Hps, Has⟩, Ho, HO⟩
  iapply Hk
  unfold bodyOut
  isplitl [Hbz]; · iexact Hbz
  isplitl [Hz5 Hz7 Hz0 Hz1 Hz4 Hz6 Hz23 Hu0 Hu1]
  · isplitl [Hz0 Hu0]
    · iapply (Entails.of_eq (z_peers c 0))
      isplitl [Hu0] <;> iassumption
    isplitl [Hz1 Hu1]
    · iapply (Entails.of_eq (z_peers c 1))
      isplitl [Hu1] <;> iassumption
    isplitl [Hz23]; · iexact Hz23
    unfold z8
    isplitl [Hz4]; · iexact Hz4
    isplitl [Hz5]; · iexact Hz5
    isplitl [Hz6] <;> iassumption
  isplitl [Hco Hcx Hrr Har Hps Has]
  · unfold codes
    icases Hco with ⟨Hka, Hva⟩
    isplitl [Hka]; · iexists _; iexact Hka
    isplitl [Hva]; · iexists _; iexact Hva
    isplitl [Hps]; · iexact Hps
    isplitl [Hrr]; · iexact Hrr
    isplitl [Has]; · iexact Has
    isplitl [Har] <;> iassumption
  isplitl [Hks Hvs Hks' Hvs']
  · isplitl [Hks Hks']
    · iapply (Entails.of_eq (wh_slots_peers mKs (View.set_whole _) c (I.ks c)).symm)
      isplitl [Hks] <;> iassumption
    · iapply (Entails.of_eq (wh_slots_peers mVs (View.set_whole _) c (I.vs c)).symm)
      isplitl [Hvs] <;> iassumption
  isplitl [Hw]; · iexact Hw
  isplitl [Ho] <;> iassumption

end Cert.KernelIdeal.Whole
-- ==== Proof.Deal.lean ====
/-
What the launch deals: the cells allocated, the rights to pay them and the credits handed out.
-/
module

public import proofs.«01_k».proof.Proof.Whole

@[expose] public section

noncomputable section

namespace Cert.KernelIdeal.Deal

open Cert.KernelIdeal.Gen Cert.KernelIdeal.Fold Cert.KernelIdeal.Geo Cert.KernelIdeal.Vals Cert.KernelIdeal.Proto Cert.KernelIdeal.Steps Cert.KernelIdeal.Exch Cert.KernelIdeal.Access Cert.KernelIdeal.Compute Cert.KernelIdeal.Reduce Cert.KernelIdeal.Project Cert.KernelIdeal.Shake Cert.KernelIdeal.Head Cert.KernelIdeal.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × CI → ℕ)

/-! ## Products, listed -/

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A product over one array's semaphores, for every array. -/
theorem tr_all (Φ : Fin 8 × Fin 8 → sProp 𝕄) : bigSep Finset.univ Φ
    = iprop(bl (fun j => Φ (0, j)) L8 ∗ bl (fun j => Φ (1, j)) L8 ∗ bl (fun j => Φ (2, j)) L8 ∗ bl (fun j => Φ (3, j)) L8
      ∗ bl (fun j => Φ (4, j)) L8 ∗ bl (fun j => Φ (5, j)) L8 ∗ bl (fun j => Φ (6, j)) L8 ∗ bl (fun j => Φ (7, j)) L8) := by
  rw [bigSep_univ_prod, fin8]
  simp only [univ_L8]

/-- A product over all cells of a device: the barrier, and the transfers. -/
theorem ci_all (Φ : CI → sProp 𝕄) : bigSep Finset.univ Φ = iprop(Φ none ∗ bigSep Finset.univ fun x : Fin 8 × Fin 8 => Φ (some x)) := by
  have e : (Finset.univ : Finset CI).erase none = Finset.univ.map ⟨some, Option.some_injective _⟩ := by
    ext i; rcases i with _ | x <;> simp
  rw [bigSep_erase (Finset.mem_univ (none : CI)), e, bigSep_map]
  rfl

/-! ## The cells and the rights as they are made -/

theorem kcell_injective : Function.Injective (fun x : Dev nD × CI => cell x.1 x.2) := fun x y h => Prod.ext (cell_inj h).1 (cell_inj h).2

def allCells : Finset (GSem nD τ sig) := Finset.univ.map ⟨_, kcell_injective⟩

/-- A device's own cells' duties: its transfers' and its barrier's eight. -/
abbrev tokOf (x : Dev nD × ((Fin 8 × Fin 8) ⊕ Fin 8)) : GSem nD τ sig × ℕ × Fin 8 := match x.2 with
  | .inl kj => (cell x.1 (some kj), 0, 0)
  | .inr d => (cell x.1 none, 0, d)

theorem tokOf_injective : Function.Injective tokOf := by
  rintro ⟨c, x | x⟩ ⟨c', y | y⟩ h
  · obtain ⟨h1, h2⟩ := cell_inj (congrArg Prod.fst h)
    cases h1; cases h2; rfl
  · obtain ⟨h1, h2⟩ := cell_inj (congrArg Prod.fst h)
    cases h2
  · obtain ⟨h1, h2⟩ := cell_inj (congrArg Prod.fst h)
    cases h2
  · obtain ⟨h1, h2⟩ := cell_inj (congrArg Prod.fst h)
    have h3 : x = y := congrArg (fun z : GSem nD τ sig × ℕ × Fin 8 => z.2.2) h
    cases h1; cases h3; rfl

def allToks : Finset (GSem nD τ sig × ℕ × Fin 8) := Finset.univ.map ⟨tokOf, tokOf_injective⟩

def u₀ : UU :=
  (initOf (Pipeline.cells cfgs cellOf_inj) (Pipeline.launchToks cfgs cellOf_inj), initOf allCells allToks)

/-- The rights of device `c`'s own cells. -/
def toks (c : Dev nD) : sProp 𝕄 :=
  iprop((bigSep Finset.univ fun x : Fin 8 × Fin 8 => tk c x.1 x.2) ∗ bigSep Finset.univ fun d : Fin 8 => bt d c)

/-- What the launch makes for device `c`. -/
def G (c : Dev nD) : sProp 𝕄 :=
  iprop((bigSep Finset.univ fun i : CI => roundState ER (Rd I) (cell c i) 0)
    ∗ (bigSep Finset.univ fun i : CI => iprop(atPos ER (cell c i) 0 ∅ 0 ∗ reached ER (cell c i) 0)) ∗ toks c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the transfers', and four it never uses. -/
abbrev osem : (Fin 8 × Fin 8) ⊕ Fin 4 → SemLoc sig
  | .inl x => csem (some x)
  | .inr i => .dma ⟨68 + i.val, by have := i.isLt; show 68 + i.val < 72; omega⟩

theorem ownSemFacts : Pipeline.OwnSemFacts cfg0.spec osem where
  isScoped := by decide +kernel
  inj := by
    rintro (x | i) (y | j) h
    · have := csem_injective (show csem (some x) = csem (some y) from h); cases this; rfl
    · exfalso
      have h1 : (sm x.1 x.2).val = 68 + j.val := congrArg (fun s : SemLoc sig => match s with | .dma q => q.val | _ => 0) h
      rw [sm_val] at h1; omega
    · exfalso
      have h1 : 68 + i.val = (sm y.1 y.2).val := congrArg (fun s : SemLoc sig => match s with | .dma q => q.val | _ => 0) h
      rw [sm_val] at h1; omega
    · have h1 : 68 + i.val = 68 + j.val := congrArg (fun s : SemLoc sig => match s with | .dma q => q.val | _ => 0) h
      rw [show i = j from Fin.ext (by omega)]
  disj := by decide +kernel

/-- The four unused ones, at zero. -/
def ex (c : Dev nD) : sProp 𝕄 := bigSep Finset.univ fun i : Fin 4 => semVal ((c : Thread nD τ), osem (.inr i)) 0

theorem ownSems0_eq (c : Dev nD) : (Pipeline.ownSems0 (Ix := Unit) (Name := ℕ) (U := UU) (Lvl := ℕ) (Val := Elt F) (τ := τ) osem c : sProp 𝕄)
    = iprop((bigSep Finset.univ fun x : Fin 8 × Fin 8 => semVal (cell c (some x)) 0) ∗ ex c) := by
  unfold Pipeline.ownSems0 ex; rw [bigSep_univ_sum]; rfl

theorem unscopedSems0_eq (c : Dev nD) : (unscopedSems0 c : sProp 𝕄) = semVal (cell c none) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i : CI => iprop(∃ κ : ℕ, cellInv ER (Rd I) κ (cell c i)))
          ∗ (bigSep Finset.univ fun i : CI => iprop(atPos ER (cell c i) 0 ∅ 0 ∗ reached ER (cell c i) 0)) ∗ toks c ∗ ex c) := by
  unfold G
  rw [ownSems0_eq, unscopedSems0_eq]
  iintro ⟨⟨Hos, Hex⟩, Hus, Hst, Hat, Htok⟩
  ihave Hv := (Entails.of_eq (ci_all fun i => (semVal (cell c i) 0 : sProp 𝕄)).symm) $$ [Hos Hus]
  · isplitl [Hus] <;> iassumption
  imod (show iprop((bigSep Finset.univ fun i : CI => semVal (cell c i) 0) ∗ bigSep Finset.univ fun i : CI => roundState ER (Rd I) (cell c i) 0)
      ⊢ (|={Set.univ}=> bigSep Finset.univ fun i : CI => iprop(∃ κ : ℕ, cellInv ER (Rd I) κ (cell c i)) : sProp 𝕄) from by
        rw [← bigSep_sep']
        exact (bigSep_mono fun i _ => (Rounds.body_intro ER (Rd I) (cell c i)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing -/

/-- The rights device `c` has: over its own send cells and the other devices' receive cells and barriers. -/
def pay (c : Dev nD) : sProp 𝕄 :=
  iprop(bl (fun p => tk c 0 p) L8 ∗ bl (fun p => tk c 1 p) L8 ∗ bl (fun p => tk p 2 c) L8 ∗ bl (fun p => tk p 3 c) L8
    ∗ bl (fun p => tk c 4 p) L8 ∗ bl (fun p => tk p 5 c) L8 ∗ bl (fun p => tk c 6 p) L8 ∗ bl (fun p => tk p 7 c) L8
    ∗ bl (fun p => bt c p) L8)

theorem swap (Φ : Fin 8 → Fin 8 → sProp 𝕄) :
    (bigSep Finset.univ fun c : Fin 8 => bl (fun j => Φ c j) L8) = bigSep Finset.univ fun c : Fin 8 => bl (fun p => Φ p c) L8 := by
  simp only [← univ_L8]
  exact bigSep_univ_comm _

theorem toks_around : (bigSep Finset.univ fun c : Dev nD => (toks c : sProp 𝕄)) ⊢ bigSep Finset.univ fun c : Dev nD => pay c := by
  unfold toks pay
  simp only [tr_all, bigSep_sep']
  rw [swap (fun c j => (tk c 2 j : sProp 𝕄)), swap (fun c j => (tk c 3 j : sProp 𝕄)), swap (fun c j => (tk c 5 j : sProp 𝕄)),
    swap (fun c j => (tk c 7 j : sProp 𝕄)), bigSep_congr (s := Finset.univ) (fun (c : Dev nD) _ => univ_L8 (fun d => (bt d c : sProp 𝕄))),
    swap (fun c d => (bt d c : sProp 𝕄))]
  iintro ⟨⟨H0, H1, H2, H3, H4, H5, H6, H7⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption

/-- What stays with device `c`. -/
def linear (c : Dev nD) : sProp 𝕄 := iprop((bigSep Finset.univ fun i : CI => atPos ER (cell c i) 0 ∅ 0) ∗ pay c ∗ ex c)

/-- What the global step leaves device `c`. -/
def G' (c : Dev nD) : sProp 𝕄 := iprop(∃ K, recs I K ∗ linear c)

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd I) κ (cell c i)))
          ∗ (bigSep Finset.univ fun i : CI => iprop(atPos ER (cell c i) 0 ∅ 0 ∗ reached ER (cell c i) 0)) ∗ toks c ∗ ex c) : sProp 𝕄)
      ⊢ bigSep Finset.univ (G' I) := by
  rw [bigSep_sep', bigSep_sep', bigSep_sep', ← bigSep_univ_prod (fun x : Dev nD × CI => iprop(∃ κ : ℕ, cellInv ER (Rd I) κ (cell x.1 x.2))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun x : Dev nD × CI => (reached ER (cell x.1 x.2) 0 : sProp 𝕄))]
  iintro ⟨HI, ⟨Hat, #HR⟩, Htok, Hex⟩
  ihave HK := (BI.bigSep_exists_pi Finset.univ (fun (x : Dev nD × CI) (κ : ℕ) => (cellInv ER (Rd I) κ (cell x.1 x.2) : sProp 𝕄))) $$ HI
  icases HK with ⟨%K, #HI⟩
  ihave Htk := (toks_around (F := F)) $$ Htok
  iapply (with_persistent (R := recs I K) fun c _ => show iprop(recs I K ∗ linear c) ⊢ G' I c from by
    unfold G'
    iintro H
    iexists K
    iexact H)
  isplitr
  · unfold recs; isplitl; · iexact HI
    iexact HR
  · unfold linear
    rw [bigSep_sep', bigSep_sep']
    isplitl [Hat]; · iexact Hat
    isplitl [Htk]; · iexact Htk
    iexact Hex

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

/-- How many payments of a cell of device `c` are owed at launch. -/
def need (c : Dev nD) : CI → ℕ
  | none => 7
  | some (k, j) => if k = 5 ∨ k = 7 then 1 else if (k = 2 ∨ k = 3) ∧ j ≠ c then 1 else 0

theorem need_eq : ∀ (c : Dev nD) (i : CI), ∑ d : Dev nD, (barL d ++ l0 d).count (c, i) = need c i := by decide +kernel

theorem launch_cell (c : Dev nD) (i : CI) :
    tallyOn (cell c i) (launchCredit (Pipeline.owing O₀) 0 (cell c i)) = (tallyAt (cell c i) () (need c i * amtCI i) : CellTallies nD τ sig Unit) := by
  unfold tallyAt; refine congrArg _ (Finsupp.ext fun u => ?_); cases u
  rw [Pipeline.launchCredit_owing, Finsupp.single_eq_same]
  refine (Finset.sum_congr rfl fun d _ => (show (O₀ d (cell c i)) () = _ from oweL_count (barL d ++ l0 d) c i)).trans ?_
  rw [← Finset.sum_mul, need_eq]

theorem need_kv : ∀ (c : Dev nD) (r : Fin 7), need c (some (2, peer c r)) = 1 ∧ need c (some (3, peer c r)) = 1 := by decide

theorem need_part : ∀ (c : Dev nD) (j : Fin 8), need c (some (5, j)) = 1 ∧ need c (some (7, j)) = 1 := by decide

/-- A device's credits. -/
def creds (c : Dev nD) : sProp 𝕄 :=
  iprop(bc c ∗ bl (fun r => iprop(cr c 2 (peer c r) ∗ cr c 3 (peer c r))) P7 ∗ bl (fun j => cr c 5 j) L8 ∗ bl (fun j => cr c 7 j) L8)

theorem creds_intro (c : Dev nD) : (Pipeline.launchCred O₀ c : sProp 𝕄) ⊢ creds c := by
  have h1 : (Pipeline.launchCred O₀ c : sProp 𝕄) ⊢ bigSep Finset.univ fun i : CI => cred (tallyAt (cell c i) () (need c i * amtCI i)) := by
    unfold Pipeline.launchCred
    refine BI.Entails.trans (bigSep_subset (Finset.subset_univ (Finset.univ.map ⟨csem, csem_injective⟩))) ?_
    rw [bigSep_map]
    exact bigSep_mono fun i _ => Entails.of_eq (congrArg cred (launch_cell c i))
  have e1 : ∀ (k j : Fin 8), need c (some (k, j)) = 1 → (cred (tallyAt (cell c (some (k, j))) () (need c (some (k, j)) * amtCI (some (k, j)))) : sProp 𝕄) ⊢ cr c k j := fun k j h => by
    rw [h, Nat.one_mul]; exact BI.Entails.refl _
  refine h1.trans ?_
  rw [ci_all, tr_all]
  iintro ⟨Hb, -, -, H2, H3, -, H5, -, H7⟩
  unfold creds
  isplitl [Hb]; · unfold bc; iexact Hb
  isplitl [H2 H3]
  · ihave H2 := (Entails.of_eq (peers_L8 c _).symm) $$ H2
    icases H2 with ⟨-, H2⟩
    ihave H3 := (Entails.of_eq (peers_L8 c _).symm) $$ H3
    icases H3 with ⟨-, H3⟩
    ihave H := (bl_join _ _ _) $$ [H2 H3]
    · isplitl [H2]; · iexact H2
      iexact H3
    iapply (bl_mono (fun r => BI.sep_mono (e1 2 (peer c r) (need_kv c r).1) (e1 3 (peer c r) (need_kv c r).2)) P7)
    iexact H
  isplitl [H5]
  · iapply (bl_mono (fun j => e1 5 j (need_part c j).1) L8); iexact H5
  · iapply (bl_mono (fun j => e1 7 j (need_part c j).2) L8); iexact H7

end Cert.KernelIdeal.Deal
-- ==== Proof.Run.lean ====
/-
The run of the program: the launch of the eight devices' bodies, and what every final state holds.
-/
module

public import proofs.«01_k».proof.Proof.Deal
public import Idealize.ShloMosaic.Lib.Pipeline.CollectiveSegs
public import proofs.«01_k».proof.Proof.Gen.KernelIdeal.Launch
public import proofs.«01_k».proof.Proof.Gen.KernelIdeal.Points

@[expose] public section

noncomputable section

namespace Cert.KernelIdeal.Run

open Cert.KernelIdeal.Gen Cert.KernelIdeal.Fold Cert.KernelIdeal.Geo Cert.KernelIdeal.Vals Cert.KernelIdeal.Proto Cert.KernelIdeal.Steps Cert.KernelIdeal.Exch Cert.KernelIdeal.Access Cert.KernelIdeal.Compute Cert.KernelIdeal.Reduce Cert.KernelIdeal.Project Cert.KernelIdeal.Shake Cert.KernelIdeal.Head Cert.KernelIdeal.Whole Cert.KernelIdeal.Deal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The initial memory as the devices' inputs. -/
def memI : Inp F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg2))
  ks c := m ((c : Thread nD τ).loc main_arg3)
  vs c := m ((c : Thread nD τ).loc main_arg4)

/-- The code arrays, in place. -/
def kvPts (c : Dev nD) : sProp 𝕄 := iprop(whPts mKs c ((memI m).ks c) ∗ whPts mVs c ((memI m).vs c))

/-- What the body of device `c` starts from, the scratch buffers aside. -/
def start (c : Dev nD) : sProp 𝕄 := iprop(G' (memI m) c ∗ creds c ∗ levAts L lv ∗ kvPts m c)

/-- The scratch buffers. -/
def scr (c : Dev nD) : sProp 𝕄 :=
  iprop((∃ f, whPts mKa c f) ∗ (∃ f, whPts mVa c f) ∗ (∃ f, whPts mPs c f) ∗ (∃ f, whPts mRr c f) ∗ (∃ f, whPts mAs c f)
      ∗ (∃ f, whPts mAr c f) ∗ (∃ f, whPts mCx c f))

/-- The transfers' semaphores, at zero. -/
def zs (c : Dev nD) : sProp 𝕄 :=
  iprop(z8 c 0 ∗ z8 c 1 ∗ bl (fun j => iprop(zv c 2 j ∗ zv c 3 j)) L8 ∗ z8 c 4 ∗ z8 c 5 ∗ z8 c 6 ∗ z8 c 7)

def Φ₀ (c : Dev nD) : sProp 𝕄 := iprop(start m c ∗ scr c)
def Φ₁ (c : Dev nD) : sProp 𝕄 := iprop(bz c ∗ zs c ∗ ex c ∗ scr c ∗ kvPts m c)

def dats (_ : Fin 1) (c : Dev nD) : Dat τ (Elt F) Unit ℕ UU ℕ cfg0 c where
  A w := m ((cfg0.win w).arr.view.loc (c : Thread nD τ))
  after w _ := match w with
    | ⟨0, _⟩ => (memI m).x c
    | ⟨1, _⟩ => (memI m).wq c
    | ⟨2, _⟩ => (memI m).wo c
    | ⟨3, _⟩ => out (memI m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## From the dealt resources to the body's -/

theorem linear_split (c : Dev nD) :
    (linear c : sProp 𝕄) ⊢ iprop((ba c ∗ at8 c 0 ∗ at8 c 1 ∗ bl (fun j => iprop(atp c 2 j ∗ atp c 3 j)) L8 ∗ at8 c 4 ∗ at8 c 5 ∗ at8 c 6 ∗ at8 c 7)
      ∗ (bl (fun r => iprop((tk c 0 (peer c r) ∗ tk (peer c r) 2 c) ∗ (tk c 1 (peer c r) ∗ tk (peer c r) 3 c))) P7 ∗ (tk c 2 c ∗ tk c 3 c))
      ∗ bl (fun n => iprop(tk c 4 n ∗ tk n 5 c)) L8 ∗ bl (fun p => iprop(tk c 6 p ∗ tk p 7 c)) L8 ∗ bl (fun r => bt c (peer c r)) P7 ∗ ex c) := by
  unfold linear Deal.pay
  rw [ci_all, tr_all]
  iintro ⟨⟨Hb, A0, A1, A2, A3, A4, A5, A6, A7⟩, ⟨T0, T1, T2, T3, T4, T5, T6, T7, HB⟩, Hex⟩
  isplitl [Hb A0 A1 A2 A3 A4 A5 A6 A7]
  · isplitl [Hb]; · unfold ba; iexact Hb
    unfold at8
    isplitl [A0]; · iexact A0
    isplitl [A1]; · iexact A1
    isplitl [A2 A3]
    · iapply (bl_join (fun j => atp c 2 j) (fun j => atp c 3 j) L8)
      isplitl [A2]; · iexact A2
      iexact A3
    isplitl [A4]; · iexact A4
    isplitl [A5]; · iexact A5
    isplitl [A6]; · iexact A6
    iexact A7
  isplitl [T0 T1 T2 T3]
  · ihave T0 := (Entails.of_eq (peers_L8 c _).symm) $$ T0
    ihave T1 := (Entails.of_eq (peers_L8 c _).symm) $$ T1
    ihave T2 := (Entails.of_eq (peers_L8 c _).symm) $$ T2
    ihave T3 := (Entails.of_eq (peers_L8 c _).symm) $$ T3
    icases T0 with ⟨-, T0⟩
    icases T1 with ⟨-, T1⟩
    icases T2 with ⟨H2, T2⟩
    icases T3 with ⟨H3, T3⟩
    isplitl [T0 T1 T2 T3]
    · ihave T02 := (bl_join _ _ _) $$ [T0 T2]
      · isplitl [T0]; · iexact T0
        iexact T2
      ihave T13 := (bl_join _ _ _) $$ [T1 T3]
      · isplitl [T1]; · iexact T1
        iexact T3
      ihave T := (bl_join _ _ _) $$ [T02 T13]
      · isplitl [T02]; · iexact T02
        iexact T13
      iexact T
    isplitl [H2]; · iexact H2
    iexact H3
  isplitl [T4 T5]
  · iapply (bl_join (fun n => tk c 4 n) (fun n => tk n 5 c) L8)
    isplitl [T4]; · iexact T4
    iexact T5
  isplitl [T6 T7]
  · iapply (bl_join (fun n => tk c 6 n) (fun n => tk n 7 c) L8)
    isplitl [T6]; · iexact T6
    iexact T7
  isplitl [HB]
  · ihave HB := (Entails.of_eq (peers_L8 c _).symm) $$ HB
    icases HB with ⟨-, HB⟩
    iexact HB
  iexact Hex

/-- The windows before the body: the three arguments, and the result's buffer. -/
def winsIn (c : Dev nD) : sProp 𝕄 := iprop(wins (memI m) c ∗ ∃ f, whPts mO c f)
/-- After it. -/
def winsOut (c : Dev nD) : sProp 𝕄 := iprop(wins (memI m) c ∗ whPts mO c (out (memI m)))

theorem body_intro (K : Dev nD × CI → ℕ) (c : Dev nD) :
    iprop(linear c ∗ creds c ∗ kvPts m c ∗ scr c ∗ winsIn m c ∗ ow c (barL c ++ l0 c)) ⊢ iprop(bodyIn (memI m) c ∗ ex c) := by
  iintro ⟨Hl, Hc, Hkv, Hs, Hw, Ho⟩
  ihave Hl := (linear_split c) $$ Hl
  icases Hl with ⟨⟨Hb, A0, A1, A23, A4, A5, A6, A7⟩, ⟨T, T23⟩, T45, T67, HB, Hex⟩
  unfold creds scr winsIn kvPts
  icases Hc with ⟨Cb, C23, C5, C7⟩
  icases Hs with ⟨Ska, Sva, Sps, Srr, Sas, Sar, Scx⟩
  icases Hw with ⟨Hw, HO⟩
  isplitr [Hex]
  · unfold bodyIn headPre kvTok
    isplitl [Hb A23 T T23 HB Cb C23 Ska Sva Srr Sar Hkv Hw Ho]
    · isplitl [HB Cb Hb]
      · isplitl [HB]; · iexact HB
        isplitl [Cb] <;> iassumption
      isplitl [T T23 C23 A23]
      · isplitl [T]; · iexact T
        isplitl [T23]; · iexact T23
        isplitl [C23] <;> iassumption
      isplitl [Ska Sva Srr Sar]
      · isplitl [Ska]; · iexact Ska
        isplitl [Sva]; · iexact Sva
        isplitl [Srr] <;> iassumption
      isplitl [Hkv]; · iexact Hkv
      isplitl [Hw]; · iexact Hw
      iexact Ho
    isplitl [Sps Sas Scx HO]
    · isplitl [Sps]; · iexact Sps
      isplitl [Sas]; · iexact Sas
      isplitl [Scx] <;> iassumption
    isplitl [T45]; · iexact T45
    isplitl [T67]; · iexact T67
    isplitl [C5 C7]; · isplitl [C5] <;> iassumption
    isplitl [A0]; · iexact A0
    isplitl [A1]; · iexact A1
    isplitl [A4]; · iexact A4
    isplitl [A5]; · iexact A5
    isplitl [A6] <;> iassumption
  iexact Hex

theorem body_run (c : Dev nD) {Q : PUnit → sProp 𝕄} :
    iprop(Φ₀ m c ∗ winsIn m c ∗ ow c (barL c ++ l0 c))
      ⊢ iprop((Φ₁ m c ∗ winsOut m c ∗ ow c [] -∗ Q ⟨⟩)
        -∗ WP c (Fold.body mX mWq mWo mKs (Memref.isWhole_whole _) mVs (Memref.isWhole_whole _) mO mKa (Memref.isWhole_whole _) mVa (Memref.isWhole_whole _)
            mPs (Memref.isWhole_whole _) mRr (Memref.isWhole_whole _) mAs (Memref.isWhole_whole _) mAr (Memref.isWhole_whole _)
            mCx (Memref.isWhole_whole _) (arr 0) (arr 1) (arr 2) (arr 3) (arr 4) (arr 5) (arr 6) (arr 7)) Q) := by
  unfold Φ₀ start G'
  iintro ⟨⟨⟨⟨%K, #HR, Hl⟩, Hc, #Hlev, Hkv⟩, Hs⟩, Hw, Ho⟩ Hk
  ihave H := (body_intro m K c) $$ [Hl Hc Hkv Hs Hw Ho]
  · isplitl [Hl]; · iexact Hl
    isplitl [Hc]; · iexact Hc
    isplitl [Hkv]; · iexact Hkv
    isplitl [Hs]; · iexact Hs
    isplitl [Hw] <;> iassumption
  icases H with ⟨H, Hex⟩
  iapply (wp_body (memI m) K c) $$ [H]
  · isplitr; · iexact HR
    isplitr; · iexact Hlev
    iexact H
  unfold bodyOut
  iintro ⟨Hbz, Hz, Hs, Hkv, Hw, HO, Ho⟩
  iapply Hk
  unfold Φ₁ winsOut zs scr kvPts
  isplitl [Hbz Hz Hex Hs Hkv]
  · isplitl [Hbz]; · iexact Hbz
    isplitl [Hz]; · iexact Hz
    isplitl [Hex]; · iexact Hex
    isplitl [Hs] <;> iassumption
  isplitl [Hw HO]
  · isplitl [Hw] <;> iassumption
  iexact Ho

/-! ## The pipeline's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t₀.castSucc
    ∗ (∃ d, stg c cc0_stg0_0 ((dats m 0 c).before (0 : Fin 4) t₀ d)) ∗ (∃ d, stg c cc0_stg1_0 ((dats m 0 c).before (1 : Fin 4) t₀ d))
    ∗ (∃ d, stg c cc0_stg2_0 ((dats m 0 c).before (2 : Fin 4) t₀ d)) ∗ (∃ d, stg c cc0_stg3_0 ((dats m 0 c).before (3 : Fin 4) t₀ d)))

def bodyPost (c : Dev nD) : sProp 𝕄 :=
  iprop(Φ₁ m c ∗ (dats m 0 c).owesAt () t₀.succ ∗ stg c cc0_stg0_0 ((memI m).x c) ∗ stg c cc0_stg1_0 ((memI m).wq c)
    ∗ stg c cc0_stg2_0 ((memI m).wo c) ∗ stg c cc0_stg3_0 (out (memI m)))

theorem before0 (c : Dev nD) (d) : (dats m 0 c).before (0 : Fin 4) t₀ d = (memI m).x c := by unfold Dat.before; rw [if_pos (fetch0_0 t₀)]; rfl
theorem before1 (c : Dev nD) (d) : (dats m 0 c).before (1 : Fin 4) t₀ d = (memI m).wq c := by unfold Dat.before; rw [if_pos (fetch0_1 t₀)]; rfl
theorem before2 (c : Dev nD) (d) : (dats m 0 c).before (2 : Fin 4) t₀ d = (memI m).wo c := by unfold Dat.before; rw [if_pos (fetch0_2 t₀)]; rfl

theorem pre_split (c : Dev nD) : bodyPre m c ⊢ iprop(Φ₀ m c ∗ winsIn m c ∗ ow c (barL c ++ l0 c)) := by
  unfold bodyPre Dat.owesAt Pipeline.owesWithin winsIn wins ow
  iintro ⟨HΦ, ⟨%W, %hW, HO⟩, ⟨%d0, %g0, %h0, H0⟩, ⟨%d1, %g1, %h1, H1⟩, ⟨%d2, %g2, %h2, H2⟩, ⟨%d3, %g3, %h3, H3⟩⟩
  rw [before0] at h0; rw [before1] at h1; rw [before2] at h2
  subst h0; subst h1; subst h2
  isplitl [HΦ]; · iexact HΦ
  isplitl [H0 H1 H2 H3]
  · isplitl [H0 H1 H2]
    · isplitl [H0]; · iexact H0
      isplitl [H1]; · iexact H1
      iexact H2
    iexists g3; iexact H3
  iexists W
  iexact HO

theorem post_join (c : Dev nD) : iprop(Φ₁ m c ∗ winsOut m c ∗ ow c []) ⊢ bodyPost m c := by
  unfold bodyPost Dat.owesAt Pipeline.owesWithin winsOut wins ow
  iintro ⟨HΦ, ⟨⟨H0, H1, H2⟩, H3⟩, ⟨%W, HO⟩⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem bodyAt_eq : defs₀ (F := F) .tc cfg0.body (cfg0.bodyArgs t₀ (cfg0.slots t₀))
    = cc0__body mX (Memref.isWhole_whole _) mWq (Memref.isWhole_whole _) mWo (Memref.isWhole_whole _) mKs (Memref.isWhole_whole _) mVs (Memref.isWhole_whole _)
        mO (Memref.isWhole_whole _) mKa (Memref.isWhole_whole _) mVa (Memref.isWhole_whole _) mPs (Memref.isWhole_whole _) mRr (Memref.isWhole_whole _)
        mAs (Memref.isWhole_whole _) mAr (Memref.isWhole_whole _) mCx (Memref.isWhole_whole _)
        cc0_scratch7 cc0_scratch8 cc0_scratch9 cc0_scratch10 cc0_scratch11 cc0_scratch12 cc0_scratch13 cc0_scratch14 cc0_scratch15 := rfl

set_option maxRecDepth 100000 in
theorem body_obligation (c : Dev nD) : BodyObligation (dats m 0 c) (defs₀ (F := F)) 𝒱₀ () Set.univ := fun t => by
  rw [fin_N t]
  rw [bigSep_W0, bigSep_W0]
  simp only [owns_whole_eq]
  rw [bodyAt_eq]
  show bodyPre m c ⊢ WP c _ (fun _ => bodyPost m c)
  rw [body_eq]
  iintro H
  ihave H := (pre_split m c) $$ H
  iapply (body_run m c) $$ [H]
  · iexact H
  iintro H
  iapply (post_join m c)
  iexact H

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (memI m) c)
      ⊢ |={Set.univ}=> iprop(start m c ∗ emp) := by
  rw [Pipeline.unscopedRestP_none, unscopedRest0_eq]
  iintro ⟨⟨H3, H4⟩, Hlev, Hcr, -, HG⟩
  ihave Hc := (creds_intro c) $$ Hcr
  imodintro
  unfold start kvPts
  isplitl
  · isplitl [HG]; · iexact HG
    isplitl [Hc]; · iexact Hc
    isplitl [Hlev]; · iexact Hlev
    isplitl [H3]; · iexact H3
    iexact H4
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem zs_intro (c : Dev nD) : (zs c : sProp 𝕄) ⊢ bigSep Finset.univ fun x : Fin 8 × Fin 8 => semVal (cell c (some x)) 0 := by
  rw [tr_all]
  unfold zs z8
  iintro ⟨H0, H1, H23, H4, H5, H6, H7⟩
  ihave H23 := (Entails.of_eq ((univ_L8 (fun j => iprop(zv c 2 j ∗ zv c 3 j))).symm.trans ((bigSep_sep' _ _ _).trans
    (congrArg₂ BIBase.sep (univ_L8 (fun j => zv c 2 j)) (univ_L8 (fun j => zv c 3 j)))))) $$ H23
  icases H23 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What a device's program leaves besides the windows' arrays. -/
def Y (c : Dev nD) : sProp 𝕄 := iprop(unscopedSems0 c ∗ kvPts m c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  rw [unscopedSems0_eq]
  iintro ⟨Hbz, Hz, Hex, Hs, Hkv⟩
  ihave Hz := (zs_intro c) $$ Hz
  isplitl [Hbz Hkv]
  · isplitl [Hbz]; · unfold bz; iexact Hbz
    iexact Hkv
  isplitl [Hz Hex]
  · isplitl [Hz] <;> iassumption
  unfold scr
  iexact Hs

theorem lv_owed : ∀ (c : Dev nD), ∀ x ∈ barL c ++ l0 c, 0 < lvCI x.2 := by decide

theorem lv_stage (c : Dev nD) (q : DmaSem sig) (hq : q.val < 4) : lv ((c : Thread nD τ), .dma q) () = 0 := by
  have h : ciOf (SemLoc.dma q : SemLoc sig) = none := by
    unfold ciOf
    rw [dif_neg]
    rintro ⟨_ | ⟨k, j⟩, h⟩
    · cases h
    · have h1 : (sm k j).val = q.val := congrArg (fun s : SemLoc sig => match s with | .dma q => q.val | _ => 0) h
      rw [sm_val] at h1; omega
  show (match ciOf (SemLoc.dma q : SemLoc sig) with | none => 0 | some i => lvCI i) = 0
  rw [h]

theorem waits (c : Dev nD) : (levAts L lv : sProp 𝕄) ⊢ Pipeline.cellsWaits cfgs (dats m) () 0 c :=
  Pipeline.cellsWaits_intro cfgs (dats m) () 0 c fun w s t => by
    have hq : ((cfg0.win w).sem s).val < 4 := by revert w s; decide
    rcases t with ⟨_ | _, ht⟩
    · exact mayWait c _ (barL c ++ l0 c) fun x hx => by rw [lv_stage c _ hq]; exact lv_owed c x hx
    · exact mayWait c _ [] fun x hx => absurd hx List.not_mem_nil

/-! ## The run -/

def finalA (c : Dev nD) (w : Fin cfg0.W) : Buf (Elt F) ((cfg0.win w).arr.view.loc (c : Thread nD τ)) := (dats m 0 c).arrAt w cfg0.N

/-- What every final state holds: the windows' arrays, and the code arrays as they were. -/
def QC (s : MemSt nD τ sig (Elt F)) : Prop := ∀ c : Dev nD, (∀ w : Fin cfg0.W, s.mem ((cfg0.win w).arr.view.loc (c : Thread nD τ)) = finalA m c w)
  ∧ s.mem ((c : Thread nD τ).loc main_arg3) = m ((c : Thread nD τ).loc main_arg3) ∧ s.mem ((c : Thread nD τ).loc main_arg4) = m ((c : Thread nD τ).loc main_arg4)

theorem read_kv (c : Dev nD) (s' : Phys nD τ sig (Elt F)) : iprop(kvPts m c ∗ SI s') ⊢ (⌜s'.mem.mem ((c : Thread nD τ).loc main_arg3) = m ((c : Thread nD τ).loc main_arg3)
    ∧ s'.mem.mem ((c : Thread nD τ).loc main_arg4) = m ((c : Thread nD τ).loc main_arg4)⌝ : sProp 𝕄) := by
  have h3 : iprop(kvPts m c ∗ SI s') ⊢ (⌜∀ i ∈ Finset.univ, s'.mem.mem ((c : Thread nD τ).loc main_arg3) i = m ((c : Thread nD τ).loc main_arg3) i⌝ : sProp 𝕄) := by
    unfold kvPts
    iintro ⟨⟨H3, -⟩, HSI⟩
    iapply (SI_pointsTo_agree (st := s') (ℓ := (c : Thread nD τ).loc main_arg3) (I := Finset.univ) (q := fullShare) (f := m ((c : Thread nD τ).loc main_arg3)))
    isplitl [HSI]; · iexact HSI
    iexact H3
  have h4 : iprop(kvPts m c ∗ SI s') ⊢ (⌜∀ i ∈ Finset.univ, s'.mem.mem ((c : Thread nD τ).loc main_arg4) i = m ((c : Thread nD τ).loc main_arg4) i⌝ : sProp 𝕄) := by
    unfold kvPts
    iintro ⟨⟨-, H4⟩, HSI⟩
    iapply (SI_pointsTo_agree (st := s') (ℓ := (c : Thread nD τ).loc main_arg4) (I := Finset.univ) (q := fullShare) (f := m ((c : Thread nD τ).loc main_arg4)))
    isplitl [HSI]; · iexact HSI
    iexact H4
  exact fun x hx => ⟨funext fun i => h3 x hx i (Finset.mem_univ i), funext fun i => h4 x hx i (Finset.mem_univ i)⟩

set_option maxRecDepth 100000 in
/-- Every weakly fair execution of the eight devices' programs ends, and every final state has each device's arrays as
    computed, the code arrays unchanged and every semaphore at zero. -/
theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (memI m)) (G' := G' (memI m)) (u₀ := u₀)
    (hu₀ := by
      unfold u₀
      iintro Hu
      ihave H := (ownU_pair _ _) $$ Hu
      icases H with ⟨HP, HX⟩
      imod (fund_all (memI m)) $$ HX with HG
      imodintro
      isplitl [HP] <;> iassumption)
    (hglob := glob (memI m))
    (hA := fun _ _ => rfl) (hpf := fun _ k => k.elim0)
    (X := start m) (Y := Y m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3) ∧ s.mem ((c : Thread nD τ).loc main_arg4) = m ((c : Thread nD τ).loc main_arg4))
    (hY := fun c s' => by
      unfold Y
      iintro ⟨⟨Hu, Hkv⟩, -, HSI⟩
      ihave H := (persistent_entails_right (read_kv m c s')) $$ [Hkv HSI]
      · isplitl [Hkv] <;> iassumption
      icases H with ⟨%h, Hkv, HSI⟩
      imod (Pipeline.unscopedSems0_read (X := unscopedSems0 c) (c := c) fupd_intro s') $$ [Hu HSI] with ⟨%h2, HSI⟩
      · isplitl [Hu] <;> iassumption
      imodintro
      isplitr; · ipureintro; exact ⟨h2, h⟩
      iexact HSI)
    (hQ := fun _ h hs => ⟨fun c => ⟨fun w => (h c).1 w, (h c).2.2.2⟩, sem_eq_zero hs fun c => (h c).2.2.1⟩)

theorem finalA_0 (c : Dev nD) : finalA m c (0 : Fin 4) = m ((c : Thread nD τ).loc main_arg0) := (dats m 0 c).arrAt_in (0 : Fin 4) rfl _
theorem finalA_1 (c : Dev nD) : finalA m c (1 : Fin 4) = m ((c : Thread nD τ).loc main_arg1) := (dats m 0 c).arrAt_in (1 : Fin 4) rfl _
theorem finalA_2 (c : Dev nD) : finalA m c (2 : Fin 4) = m ((c : Thread nD τ).loc main_arg2) := (dats m 0 c).arrAt_in (2 : Fin 4) rfl _

/-- The arguments end as they were, and every semaphore at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 (0 : Fin 4)).trans (finalA_0 m c), ((h.1 c).1 (1 : Fin 4)).trans (finalA_1 m c),
    ((h.1 c).1 (2 : Fin 4)).trans (finalA_2 m c), (h.1 c).2⟩, h.2⟩) (run_main m ρ)

end Cert.KernelIdeal.Run
-- ==== Proof.Final.lean ====
/-
What the run leaves in the result array, and the inputs it read, as the arrays themselves.
-/
module

public import proofs.«01_k».proof.Proof.Run

@[expose] public section

noncomputable section

namespace Cert.KernelIdeal.Run

open Cert.KernelIdeal.Gen Cert.KernelIdeal.Vals
open Idealize.ShloMosaic
open Idealize.ShloMosaic.TcCoe
open Idealize.ShloMosaic.Pipeline (Dat Cfg Window)

variable {F : FTy → Type} [FloatOps F] [Named F]
variable (m : (ℓ : Loc nD τ sig) → Buf (Elt F) ℓ)

theorem x_eq (c : Dev nD) : (memI m).x c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem wq_eq (c : Dev nD) : (memI m).wq c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem wo_eq (c : Dev nD) : (memI m).wo c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

/-- Reading the result array's one block gives what the body left. -/
theorem finalA_blk (c : Dev nD) : (win0_3.blk (0 : Fin 1)).view.read (Elt F) (finalA m c (3 : Fin 4)) = out (memI m) := by
  unfold finalA
  rw [show cfg0.N = (t₀ : Fin cfg0.N).val + 1 from cfg0_N, (dats m 0 c).arrAt_succ (3 : Fin 4) t₀, flush0_3 t₀, if_pos rfl]
  exact View.read_write_univ _ _

/-- The result array ends as the result. -/
theorem finalA_3 (c : Dev nD) : finalA m c (3 : Fin 4) = out (memI m) := by
  have hz : (fun a => (win0_3.index (0 : Fin 1)) a * main_v1.ty.shape.size a) = fun _ => 0 := funext fun a => by fin_cases a <;> decide
  have h := Memref.read_access_unit_zero (Elt F) main_v1 hz (fun a => by fin_cases a <;> decide) (finalA m c (3 : Fin 4))
  exact h.symm.trans (finalA_blk m c)

end Cert.KernelIdeal.Run

end
-- ==== Proof.Soft.lean ====
/-
The arithmetic of one row of attention over the extended reals: exponentials of masked scores, their quotients, the shift by
the largest score, and the sum over the keys cut into the first 512 and every third block of 64 after them.
-/
module

public import Idealize.ShloMosaic.PureOps.Ideal

@[expose] public section

noncomputable section

namespace Cert.Soft

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe {x y : ℝ} (hy : y ≠ 0) : Ideal.div (x : EReal) (y : EReal) = ((x / y : ℝ) : EReal) := by
  rw [Ideal.div, if_neg (by simpa using hy), div_eq_mul_inv, EReal.coe_mul, EReal.coe_inv]

theorem exp_coe (r : ℝ) : Ideal.exp (r : EReal) = (Real.exp r : EReal) := rfl
theorem exp_bot : Ideal.exp ⊥ = 0 := rfl

/-- A finite extended real is a real. -/
theorem real_of_lt {x : EReal} (h : max x (-x) < ⊤) : ∃ r : ℝ, x = r := by
  induction x using EReal.rec with
  | bot => simp at h
  | top => simp at h
  | coe r => exact ⟨r, rfl⟩

/-- The weight of a key: zero where the mask hides it. -/
def wt {n : ℕ} (M : Fin n → Prop) [DecidablePred M] (s : Fin n → ℝ) (j : Fin n) : ℝ := if M j then Real.exp (s j) else 0

/-- One row of attention: the weighted sum of the values, scaled, over the sum of the weights. -/
def attn {n : ℕ} (M : Fin n → Prop) [DecidablePred M] (s v : Fin n → ℝ) (κ : ℝ) : ℝ :=
  (∑ j, wt M s j * v j) * κ / ∑ j, wt M s j

theorem wt_nonneg {n : ℕ} (M : Fin n → Prop) [DecidablePred M] (s : Fin n → ℝ) (j : Fin n) : 0 ≤ wt M s j := by
  unfold wt; split
  · exact (Real.exp_pos _).le
  · exact le_rfl

theorem sum_wt_pos {n : ℕ} (M : Fin n → Prop) [DecidablePred M] (s : Fin n → ℝ) (j : Fin n) (hj : M j) : 0 < ∑ i, wt M s i :=
  Finset.sum_pos' (fun i _ => wt_nonneg M s i) ⟨j, Finset.mem_univ _, by rw [wt, if_pos hj]; exact Real.exp_pos _⟩

/-- The masked score. -/
def msk {n : ℕ} (M : Fin n → Prop) [DecidablePred M] (s : Fin n → ℝ) (j : Fin n) : EReal := if M j then (s j : EReal) else ⊥

/-- The exponential of a masked score is its weight. -/
theorem exp_msk {n : ℕ} (M : Fin n → Prop) [DecidablePred M] (s : Fin n → ℝ) (j : Fin n) : Ideal.exp (msk M s j) = (wt M s j : EReal) := by
  unfold msk wt
  split
  · exact exp_coe _
  · rw [exp_bot, EReal.coe_zero]

/-- The largest of masked scores, one of them seen, is a real. -/
theorem fold_max_real {n : ℕ} (M : Fin n → Prop) [DecidablePred M] (s : Fin n → ℝ) (j : Fin n) (hj : M j) :
    ∃ r : ℝ, (Finset.univ : Finset (Fin n)).fold max ⊥ (msk M s) = (r : EReal) := by
  have h1 : ((s j : ℝ) : EReal) ≤ (Finset.univ : Finset (Fin n)).fold max ⊥ (msk M s) := by
    rw [Finset.le_fold_max]
    exact .inr ⟨j, Finset.mem_univ _, by rw [msk, if_pos hj]⟩
  have h2 : (Finset.univ : Finset (Fin n)).fold max ⊥ (msk M s) < ⊤ := by
    rw [Finset.fold_max_lt]
    refine ⟨bot_lt_top, fun i _ => ?_⟩
    unfold msk; split
    · exact EReal.coe_lt_top _
    · exact bot_lt_top
  exact ⟨_, (EReal.coe_toReal h2.ne (ne_of_gt (lt_of_lt_of_le (EReal.bot_lt_coe _) h1))).symm⟩

/-- The exponential of a masked score's distance from a real. -/
theorem exp_msk_sub {n : ℕ} (M : Fin n → Prop) [DecidablePred M] (s : Fin n → ℝ) (r : ℝ) (j : Fin n) :
    Ideal.exp (msk M s j - (r : EReal)) = ((wt M s j * Real.exp (-r) : ℝ) : EReal) := by
  unfold msk wt
  split
  · rw [← EReal.coe_sub, exp_coe, sub_eq_add_neg, Real.exp_add]
  · rw [EReal.bot_sub, exp_bot, zero_mul, EReal.coe_zero]

/-- The reference's row: shifted by the largest score, each value scaled, each weight divided by the sum. -/
theorem attn_shifted {n : ℕ} (M : Fin n → Prop) [DecidablePred M] (s v : Fin n → ℝ) (κ : ℝ) (i : Fin n) (hi : M i) (S : Fin n → EReal)
    (hS : ∀ j, S j = msk M s j) :
    ∑ j, ((v j * κ : ℝ) : EReal) * Ideal.div (Ideal.exp (S j - (Finset.univ : Finset (Fin n)).fold max ⊥ S))
        (∑ k, Ideal.exp (S k - (Finset.univ : Finset (Fin n)).fold max ⊥ S))
      = (attn M s v κ : EReal) := by
  obtain rfl : S = msk M s := funext hS
  obtain ⟨r, hr⟩ := fold_max_real M s i hi
  have hpos := sum_wt_pos M s i hi
  have he : Real.exp (-r) ≠ 0 := (Real.exp_pos _).ne'
  rw [hr]
  simp only [exp_msk_sub, coe_sum]
  rw [← Finset.sum_mul]
  have hne : (∑ i, wt M s i) * Real.exp (-r) ≠ 0 := mul_ne_zero hpos.ne' he
  simp only [div_coe hne, ← EReal.coe_mul, coe_sum]
  congr 1
  rw [attn, Finset.sum_mul (s := Finset.univ) (f := fun j => wt M s j * v j), Finset.sum_div]
  refine Finset.sum_congr rfl fun j _ => ?_
  rw [mul_div_mul_right _ _ he]
  ring

/-- The block of key `u` of a group that starts at block `b` and takes every third. -/
def keyOf (b N : ℕ) (hb : b + 3 * N ≤ 66) (u : Fin (N * 64)) : Fin 4096 :=
  ⟨(b + 3 * (u.val / 64)) * 64 + u.val % 64, by
    have h1 : u.val / 64 < N := by have := u.isLt; omega
    have h2 := Nat.mod_lt u.val (show 0 < 64 by decide)
    omega⟩

/-- A sum over the keys that a query block sees, cut into the first 512 keys and every third block from `b` on. -/
theorem sum_cut {A : Type} [AddCommMonoid A] (M : Fin 4096 → Prop) [DecidablePred M] (f : Fin 4096 → A) (b N : ℕ) (hb : b + 3 * N ≤ 66)
    (hb8 : 8 ≤ b) (hM : ∀ j : Fin 4096, 512 ≤ j.val → (M j ↔ b ≤ j.val / 64 ∧ (j.val / 64 - b) % 3 = 0)) (hN : 64 ≤ b + 3 * N) :
    ∑ j, (if M j then f j else 0)
      = (∑ j : Fin 512, if M ⟨j.val, by omega⟩ then f ⟨j.val, by omega⟩ else 0) + ∑ u : Fin (N * 64), f (keyOf b N hb u) := by
  have h := Fin.sum_univ_add (a := 512) (b := 3584) (fun j : Fin (512 + 3584) => if M j then f j else 0)
  refine h.trans (congrArg₂ (· + ·) rfl ?_)
  rw [← Finset.sum_filter]
  have hk : ∀ k : Fin 3584, (Fin.natAdd 512 k).val = 512 + k.val := fun k => rfl
  refine Finset.sum_bij' (fun k hk' => (⟨((512 + k.val) / 64 - b) / 3 * 64 + k.val % 64, ?_⟩ : Fin (N * 64)))
    (fun u _ => (⟨(keyOf b N hb u).val - 512, ?_⟩ : Fin 3584)) ?_ ?_ ?_ ?_ ?_
  · have := k.isLt
    have h3 := (hM (Fin.natAdd 512 k) (by rw [hk]; omega)).1 (Finset.mem_filter.1 hk').2
    rw [hk] at h3
    have h2 : ((512 + k.val) / 64 - b) / 3 < N := by omega
    omega
  · have := (keyOf b N hb u).isLt
    omega
  · exact fun _ _ => Finset.mem_univ _
  · intro u _
    have h1 : u.val / 64 < N := by have := u.isLt; omega
    refine Finset.mem_filter.2 ⟨Finset.mem_univ _, ?_⟩
    have e : Fin.natAdd 512 (⟨(keyOf b N hb u).val - 512, by have := (keyOf b N hb u).isLt; omega⟩ : Fin 3584) = keyOf b N hb u := by
      apply Fin.ext
      simp only [Fin.val_natAdd, keyOf]
      omega
    refine (iff_of_eq (congrArg M e)).2 ((hM _ ?_).2 ?_) <;> simp only [keyOf] <;> omega
  · intro k hk'
    have h3 := (hM (Fin.natAdd 512 k) (by rw [hk]; omega)).1 (Finset.mem_filter.1 hk').2
    rw [hk] at h3
    apply Fin.ext
    simp only [keyOf]
    omega
  · intro u _
    apply Fin.ext
    simp only [keyOf]
    omega
  · intro k hk'
    have h3 := (hM (Fin.natAdd 512 k) (by rw [hk]; omega)).1 (Finset.mem_filter.1 hk').2
    rw [hk] at h3
    refine congrArg f (Fin.ext ?_)
    simp only [keyOf]
    rw [hk]
    omega

end Cert.Soft

end
-- ==== Proof.Pre.lean ====
/-
The precondition read: every element of the activations and of the query weights is a real number.
-/
module

public import proofs.«01_k».proof.Defs
public import proofs.«01_k».proof.Proof.Soft
public import Idealize.ShloMosaic.Lib.ReduceAll
public import Idealize.ShloMosaic.Lib.Pointwise

@[expose] public section

noncomputable section

namespace Cert.Pre

open Idealize.ShloMosaic Cert.Soft

theorem facts : Cert.Pre_finite_inputs_KernelIdeal.Facts where
  bitsLt_bf16_f32 := by decide
  bcast_S_S2x512x768 := by decide
  reducesTo_S2x512x768_S_d0_1_2 := by decide
  h_S_ := by decide
  bcast_S_S768x512 := by decide
  reducesTo_S768x512_S_d0_1 := by decide

theorem facts_ref : Cert.Pre_finite_inputs_ReferenceIdeal.Facts where
  bitsLt_bf16_f32 := by decide
  bcast_S_S2x512x768 := by decide
  reducesTo_S2x512x768_S_d0_1_2 := by decide
  h_S_ := by decide
  bcast_S_S768x4096 := by decide
  reducesTo_S768x4096_S_d0_1 := by decide

theorem pos_inf : Ideal.ofBits .f32 0x7F800000#32 = ⊤ := by simp [Ideal.ofBits, Ideal.ieee]

theorem both {a b : BitVec 1} (h : IntOp.andi a b = 1#1) : a = 1#1 ∧ b = 1#1 := by
  revert a b
  decide

/-- A comparison that says one is of a smaller number. -/
theorem lt_of_cmp {a b : EReal} (h : FloatOps.cmpf (F := Ideal) (φ := .f32) .olt a b = 1#1) : a < b := by
  by_contra hn
  have : FloatOps.cmpf (F := Ideal) (φ := .f32) .olt a b = 0#1 := by
    show BitVec.ofBool (decide (a < b)) = 0#1
    rw [decide_eq_false hn]
    rfl
  rw [this] at h
  exact absurd h (by decide)

instance : Subsingleton Cert.Pre_finite_inputs_KernelIdeal.S_.Idx := ⟨fun a b => funext fun i => i.elim0⟩

open Cert.Pre_finite_inputs_KernelIdeal in
theorem finite [Facts] (x : FVec Ideal S2x512x768 .bf16) (wq : FVec Ideal S768x512 .bf16) (wo : FVec Ideal S512x768 .bf16) (ks vs : IVec S8x2x512x512 8)
    (h : fn x wq wo ks vs = fun _ => 1#1) : (∀ i, ∃ r : ℝ, x i = (r : EReal)) ∧ ∀ i, ∃ r : ℝ, wq i = (r : EReal) := by
  have h0 := congrFun h ix0
  unfold fn at h0
  obtain ⟨h1, h2⟩ := both h0
  refine ⟨fun i => ?_, fun i => ?_⟩
  · have h3 := lt_of_cmp (Host.reduce_andi_all _ _ _ _ _ h1 i)
    exact real_of_lt (lt_of_lt_of_eq h3 pos_inf)
  · have h3 := lt_of_cmp (Host.reduce_andi_all _ _ _ _ _ h2 i)
    exact real_of_lt (lt_of_lt_of_eq h3 pos_inf)

end Cert.Pre

end
-- ==== Proof.RefTerm.lean ====
/-
The reference's result in stages: the mask, the heads' keys and values, the queries, the scores, the weights, the context.
-/
module

public import proofs.«01_k».proof.Proof.Gen.ReferenceIdeal.Run
public import Idealize.ShloMosaic.PureOps.Ideal

@[expose] public section

noncomputable section

namespace Cert.ReferenceIdeal.Stages

open Cert.ReferenceIdeal Cert.ReferenceIdeal.Gen Idealize.ShloMosaic Idealize.ShloMosaic.TcCoe Idealize.SL.Sem

/-- The query block of each row. -/
def qblk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The key block of each key. -/
def kblk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

def qcol : IVec S512x1 32 := broadcastInDim S512x1 ![0] bcast_S512_S512x1_0 qblk
def krow : IVec S1x4096 32 := broadcastInDim S1x4096 ![1] bcast_S4096_S1x4096_1 kblk

/-- The number three, as the remainder takes it. -/
def three : IVec S_ 32 := select (cmpi .eq (id (constantI S_ 32 3#32)) (constantI S_ 32 0#32)) (constantI S_ 32 1#32) (id (constantI S_ 32 3#32))

/-- The remainder of the blocks' sum by three, before its sign is looked at. -/
def rem : IVec S512x4096 32 :=
  Host.remsi (addi (broadcastInDim S512x4096 ![0, 1] bcast_S512x1_S512x4096_0_1 qcol) (broadcastInDim S512x4096 ![0, 1] bcast_S1x4096_S512x4096_0_1 krow))
    (broadcastInDim S512x4096 ![] bcast_S_S512x4096 three)

/-- The mask. -/
def mask : IVec S512x4096 1 :=
  ori (ori (cmpi .eq (broadcastInDim S512x4096 ![0, 1] bcast_S512x1_S512x4096_0_1 qcol) (broadcastInDim S512x4096 ![0, 1] bcast_S1x4096_S512x4096_0_1 krow))
      (broadcastInDim S512x4096 ![0, 1] bcast_S1x4096_S512x4096_0_1 (cmpi .eq krow (broadcastInDim S1x4096 ![] bcast_S_S1x4096 (constantI S_ 32 0#32)))))
    (cmpi .eq (select (andi (cmpi .ne (cmpi .slt rem (broadcastInDim S512x4096 ![] bcast_S_S512x4096 (constantI S_ 32 0#32)))
          (broadcastInDim S512x4096 ![] bcast_S_S512x4096 (cmpi .slt three (constantI S_ 32 0#32))))
          (cmpi .ne rem (broadcastInDim S512x4096 ![] bcast_S_S512x4096 (constantI S_ 32 0#32))))
        (addi rem (broadcastInDim S512x4096 ![] bcast_S_S512x4096 three)) rem)
      (broadcastInDim S512x4096 ![] bcast_S_S512x4096 (constantI S_ 32 0#32)))

/-- The heads' numbers that the codes stand for. -/
def heads (k : IVec S8x2x4096x512 8) : FVec Ideal S2x4096x64x64 .f32 :=
  mulf (sitofp .f32 (extsi 32 (shapeCast S2x4096x64x64 (transpose S2x4096x8x8x64 [1, 2, 0, 3, 4]
      (shapeCast S8x2x4096x8x64 k shapeCasts_S8x2x4096x512_S8x2x4096x8x64) transposes_S8x2x4096x8x64_S2x4096x8x8x64_1_2_0_3_4)
      shapeCasts_S2x4096x8x8x64_S2x4096x64x64) natLt_8_32))
    (broadcastInDim S2x4096x64x64 ![] bcast_S_S2x4096x64x64 (constant S_ .f32 0x3D112245#32))

/-- The queries. -/
def queries (x : FVec Ideal S2x512x768 .bf16) (w : FVec Ideal S768x4096 .bf16) : FVec Ideal S2x512x64x64 .f32 :=
  shapeCast S2x512x64x64 (extf .f32 (truncf .bf16 (Host.dotGeneral dot_S2x512x768_S768x4096_S2x512x4096_2_0_01_1_n_n none
    (extf .f32 x bitsLt_bf16_f32) (extf .f32 w bitsLt_bf16_f32)) bitsLt_bf16_f32) bitsLt_bf16_f32) shapeCasts_S2x512x4096_S2x512x64x64

/-- The scores, the masked ones minus infinity. -/
def scores (q : FVec Ideal S2x512x64x64 .f32) (k : FVec Ideal S2x4096x64x64 .f32) : FVec Ideal S2x64x512x4096 .f32 :=
  select (broadcastInDim S2x64x512x4096 ![0, 1, 2, 3] bcast_S1x1x512x4096_S2x64x512x4096_0_1_2_3
      (broadcastInDim S1x1x512x4096 ![2, 3] bcast_S512x4096_S1x1x512x4096_2_3 mask))
    (mulf (Host.dotGeneral dot_S2x512x64x64_S2x4096x64x64_S2x64x512x4096_3_3_1_1_02_02 none q k)
      (broadcastInDim S2x64x512x4096 ![] bcast_S_S2x64x512x4096 (constant S_ .f32 0x3E000000#32)))
    (broadcastInDim S2x64x512x4096 ![] bcast_S_S2x64x512x4096 (id (constant S_ .f32 0xFF800000#32)))

/-- Each row's largest score. -/
def top (s : FVec Ideal S2x64x512x4096 .f32) : FVec Ideal S2x64x512 .f32 :=
  Host.reduce FloatOps.maximumf s (constant S_ .f32 0xFF800000#32) reducesTo_S2x64x512x4096_S2x64x512_d3 h_S_

/-- The exponentials of the scores' distances from their row's largest. -/
def expo (s : FVec Ideal S2x64x512x4096 .f32) : FVec Ideal S2x64x512x4096 .f32 :=
  Host.exp (subf s (broadcastInDim S2x64x512x4096 ![0, 1, 2, 3] bcast_S2x64x512x1_S2x64x512x4096_0_1_2_3
    (broadcastInDim S2x64x512x1 ![0, 1, 2] bcast_S2x64x512_S2x64x512x1_0_1_2 (top s))))

/-- Whether a row sees any key. -/
def seen : IVec S512 1 := Host.reduce IntOp.ori mask (constantI S_ 1 0#1) reducesTo_S512x4096_S512_d1 h_S_

def keep : IVec S1x1x512x1 1 := broadcastInDim S1x1x512x1 ![2] bcast_S512_S1x1x512x1_2 seen

/-- The weights: the exponentials over their row's sum. -/
def weights (e : FVec Ideal S2x64x512x4096 .f32) : FVec Ideal S2x64x512x4096 .f32 :=
  select (broadcastInDim S2x64x512x4096 ![0, 1, 2, 3] bcast_S1x1x512x1_S2x64x512x4096_0_1_2_3 keep)
    (Host.divf e (broadcastInDim S2x64x512x4096 ![0, 1, 2, 3] bcast_S2x64x512x1_S2x64x512x4096_0_1_2_3
      (select (broadcastInDim S2x64x512x1 ![0, 1, 2, 3] bcast_S1x1x512x1_S2x64x512x1_0_1_2_3 keep)
        (broadcastInDim S2x64x512x1 ![0, 1, 2] bcast_S2x64x512_S2x64x512x1_0_1_2
          (Host.reduceAdd e (constant S_ .f32 0x00000000#32) reducesTo_S2x64x512x4096_S2x64x512_d3 h_S_))
        (broadcastInDim S2x64x512x1 ![] bcast_S_S2x64x512x1 (constant S_ .f32 0x3F800000#32)))))
    (broadcastInDim S2x64x512x4096 ![] bcast_S_S2x64x512x4096 (constant S_ .f32 0x00000000#32))

/-- The weighted sums of the values, the heads side by side. -/
def context (v : FVec Ideal S2x4096x64x64 .f32) (w : FVec Ideal S2x64x512x4096 .f32) : FVec Ideal S2x512x4096 .f32 :=
  extf .f32 (truncf .bf16 (shapeCast S2x512x4096 (transpose S2x512x64x64 [0, 3, 1, 2]
    (Host.dotGeneral dot_S2x4096x64x64_S2x64x512x4096_S2x64x64x512_1_3_3_2_02_01 none v w) transposes_S2x64x64x512_S2x512x64x64_0_3_1_2)
    shapeCasts_S2x512x64x64_S2x512x4096) bitsLt_bf16_f32) bitsLt_bf16_f32

/-- The result. -/
def result (x : FVec Ideal S2x512x768 .bf16) (wq : FVec Ideal S768x4096 .bf16) (wo : FVec Ideal S4096x768 .bf16)
    (ks vs : IVec S8x2x4096x512 8) : FVec Ideal S2x512x768 .f32 :=
  Host.dotGeneral dot_S2x512x4096_S4096x768_S2x512x768_2_0_01_1_n_n none
    (context (heads vs) (weights (expo (scores (queries x wq) (heads ks))))) (extf .f32 wo bitsLt_bf16_f32)

set_option maxRecDepth 100000 in
/-- The reference's run leaves the last stage. -/
theorem res_eq (m : (ℓ : Loc nD τ sig) → Buf (Elt Ideal) ℓ) (c : Dev nD) :
    Value.res_main_v65 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v65 result context weights keep seen expo top scores queries heads mask rem three krow qcol kblk qblk
  rfl

end Cert.ReferenceIdeal.Stages

end
-- ==== Proof.RefMask.lean ====
/-
The reference's mask at an index: the query block and the key block equal, the key block the first, or their sum divisible by three.
-/
module

public import proofs.«01_k».proof.Proof.RefTerm
public import Idealize.ShloMosaic.Lib.Pointwise
public import Idealize.ShloMosaic.Lib.IdealHost

@[expose] public section

noncomputable section

namespace Cert.ReferenceIdeal.Stages

open Cert.ReferenceIdeal Cert.ReferenceIdeal.Gen Idealize.ShloMosaic

/-- Which keys a query sees. -/
def Sees (i j : ℕ) : Prop := i / 64 = j / 64 ∨ j / 64 = 0 ∨ (i / 64 + j / 64) % 3 = 0

instance (i j : ℕ) : Decidable (Sees i j) := by unfold Sees; infer_instance

theorem qblk_at (i : Fin 512) : qblk (ix1 i) = BitVec.ofNat 32 (i.val / 64) := by
  pointwise [qblk]
  revert i
  decide +kernel

theorem kblk_at (i : Fin 4096) : kblk (ix1 i) = BitVec.ofNat 32 (i.val / 64) := by
  pointwise [kblk]
  revert i
  decide +kernel

theorem mask_at (i : Fin 512) (j : Fin 4096) : mask (ix2 i j) = BitVec.ofBool (decide (Sees i.val j.val)) := by
  pointwise [mask, rem, three, qcol, krow]
  rw [qblk_at, kblk_at]
  obtain ⟨a, ha⟩ : ∃ a : Fin 8, i.val / 64 = a.val := ⟨⟨i.val / 64, by have := i.isLt; omega⟩, rfl⟩
  obtain ⟨b, hb⟩ : ∃ b : Fin 64, j.val / 64 = b.val := ⟨⟨j.val / 64, by have := j.isLt; omega⟩, rfl⟩
  simp only [Sees, ha, hb]
  clear ha hb
  revert a b
  decide +kernel

end Cert.ReferenceIdeal.Stages

end
-- ==== Proof.KerAt.lean ====
/-
The kernel's values for one batch and head at an index: the queries, the masked first 512 keys, the groups of blocks.
-/
module

public import proofs.«01_k».proof.Proof.Fold
public import proofs.«01_k».proof.Proof.RefMask

@[expose] public section

noncomputable section

namespace Cert.KernelIdeal.At

open Cert.KernelIdeal Cert.KernelIdeal.Gen Cert.KernelIdeal.Fold Idealize.ShloMosaic
open Cert.ReferenceIdeal.Stages (Sees)

set_option maxRecDepth 16384

theorem named_bot : (Named.named (F := Ideal) κ "mask" (φ := .f32) 0xCE6E6B28#32 : EReal) = ⊥ := rfl

theorem qblk_at (i j : Fin 512) : k0_pay22 (ix2 i j) = BitVec.ofNat 32 (i.val / 64) := by
  pointwise [k0_pay22]
  revert i
  decide +kernel

theorem mask_at (i j : Fin 512) : mask (ix2 i j) = BitVec.ofBool (decide (Sees i.val j.val)) := by
  have hk : ∀ j : Fin 512, Scalar.select (IntOp.andi (k0_pay24 (ix2 i j)) (k0_pay25 (ix2 i j)))
      (IntOp.subi (k0_pay23 (ix2 i j)) 1#32) (k0_pay23 (ix2 i j)) = BitVec.ofNat 32 (j.val / 64) := by
    intro j
    pointwise [k0_pay23, k0_pay24, k0_pay25]
    clear i
    revert j
    decide +kernel
  pointwise [mask, k0_pay26]
  rw [hk, qblk_at]
  obtain ⟨a, ha⟩ : ∃ a : Fin 8, i.val / 64 = a.val := ⟨⟨i.val / 64, by have := i.isLt; omega⟩, rfl⟩
  obtain ⟨b, hb⟩ : ∃ b : Fin 8, j.val / 64 = b.val := ⟨⟨j.val / 64, by have := j.isLt; omega⟩, rfl⟩
  simp only [Sees, ha, hb]
  clear hk ha hb i j
  revert a b
  decide +kernel

theorem qv_at (x : FVec Ideal S2x512x768 .bf16) (w : FVec Ideal S768x512 .bf16) (t : ℕ) (ht : t < 16) (i : Fin 512) (d : Fin 64) :
    qv x w t ht (ix2 i d) = (∑ k : Fin 768, x (ix3 ⟨t / 8, by omega⟩ i k) * w (ix2 k ⟨t % 8 * 64 + d.val, by omega⟩)) * Ideal.ofBits .f32 0x3B912245#32 := by
  pointwise [qv, k0_pay1, k0_pay2]

/-- The masked exponentials. -/
theorem p0_at (q : FVec Ideal S512x64 .bf16) (k : Vec Ideal S1x1x512x64 .i8) (i j : Fin 512) :
    k0_pay31 q mask k (ix2 i j) = Ideal.exp (if Sees i.val j.val then ∑ d : Fin 64, q (ix2 i d) * (((k (ix4 0 0 j d)).toInt : ℝ) : EReal) else ⊥) := by
  pointwise [k0_pay31]
  rw [mask_at]
  by_cases h : Sees i.val j.val
  · rw [if_pos h, decide_eq_true h]
    rfl
  · rw [if_neg h, decide_eq_false h]
    rfl

theorem l0v_at (q : FVec Ideal S512x64 .bf16) (kv : Vec Ideal S1x1x512x64 .i8 × Vec Ideal S1x1x512x64 .i8) (i : Fin 512) :
    l0v q kv (ix2 i 0) = ∑ j : Fin 512, k0_pay31 q mask kv.1 (ix2 i j) := by
  pointwise [l0v, k0_pay32]

theorem a0v_at (q : FVec Ideal S512x64 .bf16) (kv : Vec Ideal S1x1x512x64 .i8 × Vec Ideal S1x1x512x64 .i8) (i : Fin 512) (d : Fin 64) :
    a0v q kv (ix2 i d) = ∑ j : Fin 512, k0_pay31 q mask kv.1 (ix2 i j) * (((kv.2 (ix4 0 0 j d)).toInt : ℝ) : EReal) := by
  pointwise [a0v, k0_pay33]
  rfl

theorem qA_at (q : FVec Ideal S512x64 .bf16) (r : ℕ) (hr : r < 2) (a : Fin 3) (o d : Fin 64) :
    qA q r hr (ix2 ⟨a.val * 64 + o.val, by omega⟩ d) = q (ix2 ⟨(r + 3 * a.val) * 64 + o.val, by omega⟩ d) := by
  pointwise [qA]
  fin_cases a
  · rw [dif_pos (by simp)]
    congr 2; exact Fin.ext (by simp)
  · rw [dif_neg (by simp), dif_pos (by simp)]
    congr 2; exact Fin.ext (by simp)
  · rw [dif_neg (by simp; omega), dif_neg (by simp; omega)]
    congr 2; exact Fin.ext (by simp; omega)

theorem qB_at (q : FVec Ideal S512x64 .bf16) (a : Fin 2) (o d : Fin 64) :
    qB q (ix2 ⟨a.val * 64 + o.val, by omega⟩ d) = q (ix2 ⟨(2 + 3 * a.val) * 64 + o.val, by omega⟩ d) := by
  pointwise [qB]
  fin_cases a
  · rw [dif_pos (by simp)]
    congr 2; exact Fin.ext (by simp)
  · rw [dif_neg (by simp)]
    congr 2; exact Fin.ext (by simp)

theorem pA_at (q : FVec Ideal S192x64 .bf16) (k : FVec Ideal S1216x64 .bf16) (i : Fin 192) (j : Fin 1216) :
    pA q k (ix2 i j) = Ideal.exp (∑ d : Fin 64, q (ix2 i d) * k (ix2 j d)) := by
  pointwise [pA]
theorem pB_at (q : FVec Ideal S128x64 .bf16) (k : FVec Ideal S1152x64 .bf16) (i : Fin 128) (j : Fin 1152) :
    pB q k (ix2 i j) = Ideal.exp (∑ d : Fin 64, q (ix2 i d) * k (ix2 j d)) := by
  pointwise [pB]

theorem lA_at (q : FVec Ideal S192x64 .bf16) (k : FVec Ideal S1216x64 .bf16) (i : Fin 192) :
    lA q k (ix2 i 0) = ∑ j : Fin 1216, pA q k (ix2 i j) := by
  pointwise [lA]
theorem lB_at (q : FVec Ideal S128x64 .bf16) (k : FVec Ideal S1152x64 .bf16) (i : Fin 128) :
    lB q k (ix2 i 0) = ∑ j : Fin 1152, pB q k (ix2 i j) := by
  pointwise [lB]

theorem aA_at (q : FVec Ideal S192x64 .bf16) (k v : FVec Ideal S1216x64 .bf16) (i : Fin 192) (d : Fin 64) :
    aA q k v (ix2 i d) = ∑ j : Fin 1216, pA q k (ix2 i j) * v (ix2 j d) := by
  pointwise [aA]
theorem aB_at (q : FVec Ideal S128x64 .bf16) (k v : FVec Ideal S1152x64 .bf16) (i : Fin 128) (d : Fin 64) :
    aB q k v (ix2 i d) = ∑ j : Fin 1152, pB q k (ix2 i j) * v (ix2 j d) := by
  pointwise [aB]

theorem ctxA_at (l0 : FVec Ideal S512x1 .f32) (a0 : FVec Ideal S512x64 .f32) (lg : FVec Ideal S192x1 .f32) (ag : FVec Ideal S192x64 .f32) (n : ℕ) (hn : n < 8)
    (a : Fin 3) (o d : Fin 64) :
    ctxA l0 a0 lg ag n hn a (ix2 o d)
      = Ideal.div ((a0 (ix2 ⟨n * 64 + o.val, by omega⟩ d) + ag (ix2 ⟨a.val * 64 + o.val, by omega⟩ d)) * Ideal.ofBits .f32 0x3D112245#32)
          (l0 (ix2 ⟨n * 64 + o.val, by omega⟩ 0) + lg (ix2 ⟨a.val * 64 + o.val, by omega⟩ 0)) := by
  pointwise [ctxA, quot]
theorem ctxB_at (l0 : FVec Ideal S512x1 .f32) (a0 : FVec Ideal S512x64 .f32) (lg : FVec Ideal S128x1 .f32) (ag : FVec Ideal S128x64 .f32) (n : ℕ) (hn : n < 8)
    (a : Fin 2) (o d : Fin 64) :
    ctxB l0 a0 lg ag n hn a (ix2 o d)
      = Ideal.div ((a0 (ix2 ⟨n * 64 + o.val, by omega⟩ d) + ag (ix2 ⟨a.val * 64 + o.val, by omega⟩ d)) * Ideal.ofBits .f32 0x3D112245#32)
          (l0 (ix2 ⟨n * 64 + o.val, by omega⟩ 0) + lg (ix2 ⟨a.val * 64 + o.val, by omega⟩ 0)) := by
  pointwise [ctxB, quot]

end Cert.KernelIdeal.At

end
-- ==== Proof.KerCat.lean ====
/-
The key and value blocks of a group, put on top of each other, at an index; the codes a device holds.
-/
module

public import proofs.«01_k».proof.Proof.Vals
public import proofs.«01_k».proof.Proof.Soft
public import Idealize.ShloMosaic.PureOps.Ideal
public import Idealize.ShloMosaic.Lib.Pointwise

@[expose] public section

noncomputable section

namespace Cert.KernelIdeal.At

open Cert.KernelIdeal Cert.KernelIdeal.Gen Cert.KernelIdeal.Fold Cert.KernelIdeal.Vals Idealize.ShloMosaic Cert.Soft

set_option maxRecDepth 16384

/-- A block of codes without its two leading axes. -/
theorem blk_at (g : Vec Ideal S1x1x64x64 .i8) (o d : Fin 64) : shapeCast S64x64 g shapeCasts_S1x1x64x64_S64x64 (ix2 o d) = g (ix4 0 0 o d) := by
  pointwise []

theorem catA_at (f : ℕ → Vec Ideal S1x1x64x64 .i8) (u : Fin 1216) (d : Fin 64) :
    catA f (ix2 u d) = (((f (u.val / 64) (ix4 0 0 ⟨u.val % 64, Nat.mod_lt _ (by decide)⟩ d)).toInt : ℝ) : EReal) := by
  have hu := u.isLt
  have h := concatenate_ofFn_apply (t := S1216x64) (s₁ := S64x64) 0
    (fun n : Fin 19 => shapeCast S64x64 (f n.val) shapeCasts_S1x1x64x64_S64x64)
    concatenates_S64x64_S64x64_S64x64_S64x64_S64x64_S64x64_S64x64_S64x64_S64x64_S64x64_S64x64_S64x64_S64x64_S64x64_S64x64_S64x64_S64x64_S64x64_S64x64_S1216x64_d0
    rfl 64 rfl (ix2 u d) ⟨u.val / 64, by omega⟩ rfl (ix2 ⟨u.val % 64, Nat.mod_lt _ (by decide)⟩ d) rfl
    (fun b hb => by
      fin_cases b
      · exact absurd rfl hb
      · rfl)
  rw [blk_at] at h
  exact congrArg (FloatOps.sitofp (F := Ideal) .bf16) h

theorem catB_at (f : ℕ → Vec Ideal S1x1x64x64 .i8) (u : Fin 1152) (d : Fin 64) :
    catB f (ix2 u d) = (((f (u.val / 64) (ix4 0 0 ⟨u.val % 64, Nat.mod_lt _ (by decide)⟩ d)).toInt : ℝ) : EReal) := by
  have hu := u.isLt
  have h := concatenate_ofFn_apply (t := S1152x64) (s₁ := S64x64) 0
    (fun n : Fin 18 => shapeCast S64x64 (f n.val) shapeCasts_S1x1x64x64_S64x64)
    concatenates_S64x64_S64x64_S64x64_S64x64_S64x64_S64x64_S64x64_S64x64_S64x64_S64x64_S64x64_S64x64_S64x64_S64x64_S64x64_S64x64_S64x64_S64x64_S1152x64_d0
    rfl 64 rfl (ix2 u d) ⟨u.val / 64, by omega⟩ rfl (ix2 ⟨u.val % 64, Nat.mod_lt _ (by decide)⟩ d) rfl
    (fun b hb => by
      fin_cases b
      · exact absurd rfl hb
      · rfl)
  rw [blk_at] at h
  exact congrArg (FloatOps.sitofp (F := Ideal) .bf16) h

/-- The code of key `u` and lane `d` of batch and head `t`. -/
def code (f : Vec Ideal S8x2x512x512 .i8) (t : ℕ) (ht : t < 16) (d : Fin 64) (u : Fin 4096) : BitVec 8 :=
  f (ix4 ⟨u.val / 512, by omega⟩ ⟨t / 8, by omega⟩ ⟨u.val % 512, by omega⟩ ⟨t % 8 * 64 + d.val, by omega⟩)

theorem blkOf_at (f : Vec Ideal S8x2x512x512 .i8) (t : ℕ) (ht : t < 16) (n : ℕ) (hn : n < 64) (o d : Fin 64) :
    blkOf f t ht n hn (ix4 0 0 o d) = code f t ht d ⟨n * 64 + o.val, by omega⟩ := by
  unfold blkOf code
  congr 1
  funext a
  refine Fin.ext ?_
  fin_cases a
  · show n / 8 + 1 * 0 = (n * 64 + o.val) / 512
    omega
  · show t / 8 + 1 * 0 = t / 8
    omega
  · show n % 8 * 64 + 1 * o.val = (n * 64 + o.val) % 512
    omega
  · show t % 8 * 64 + 1 * d.val = t % 8 * 64 + d.val
    omega

theorem rowOf_at (f : Vec Ideal S8x2x512x512 .i8) (t : ℕ) (ht : t < 16) (j : Fin 512) (d : Fin 64) :
    rowOf f t ht (ix4 0 0 j d) = code f t ht d ⟨j.val, by omega⟩ := by
  unfold rowOf code
  congr 1
  funext a
  refine Fin.ext ?_
  fin_cases a
  · show 0 + 1 * 0 = j.val / 512
    omega
  · show t / 8 + 1 * 0 = t / 8
    omega
  · show 0 + 1 * j.val = j.val % 512
    omega
  · show t % 8 * 64 + 1 * d.val = t % 8 * 64 + d.val
    omega

theorem blksOf_eq (f : Vec Ideal S8x2x512x512 .i8) (t : ℕ) (ht : t < 16) :
    ∀ (c n : ℕ) (h : n + 3 * c < 67) (m : ℕ) (hm : m < c), blksOf f t ht c n h m = blkOf f t ht (n + 3 * m) (by omega)
  | c + 1, n, h, 0, hm => rfl
  | c + 1, n, h, m + 1, hm => by
    refine (blksOf_eq f t ht c (n + 3) (by omega) m (by omega)).trans ?_
    congr 1
    omega

/-- The codes of group `b`, `b + 3`, … at an index. -/
theorem blks_at (f : Vec Ideal S8x2x512x512 .i8) (t : ℕ) (ht : t < 16) (b N : ℕ) (h : b + 3 * N < 67) (u : Fin (N * 64)) (d : Fin 64) :
    blksOf f t ht N b h (u.val / 64) (ix4 0 0 ⟨u.val % 64, Nat.mod_lt _ (by decide)⟩ d) = code f t ht d (keyOf b N (by omega) u) := by
  have hu := u.isLt
  rw [blksOf_eq f t ht N b h (u.val / 64) (by omega), blkOf_at]
  rfl

theorem rowsOf_eq (f g : Vec Ideal S8x2x512x512 .i8) :
    ∀ (c t : ℕ) (h : t + c ≤ 16) (m : ℕ) (hm : m < c), rowsOf f g c t h m = (rowOf f (t + m) (by omega), rowOf g (t + m) (by omega))
  | c + 1, t, h, 0, hm => rfl
  | c + 1, t, h, m + 1, hm => by
    refine (rowsOf_eq f g c (t + 1) (by omega) m (by omega)).trans ?_
    have e : t + 1 + m = t + (m + 1) := by omega
    congr 2 <;> (congr 1)

end Cert.KernelIdeal.At

end
-- ==== Proof.KerCtx.lean ====
/-
One row of the context: the kernel's two groups of keys together are the row of attention over the keys its mask keeps.
-/
module

public import proofs.«01_k».proof.Proof.KerAt
public import proofs.«01_k».proof.Proof.KerCat

@[expose] public section

noncomputable section

namespace Cert.KernelIdeal.At

open Cert.KernelIdeal Cert.KernelIdeal.Gen Cert.KernelIdeal.Fold Cert.KernelIdeal.Vals Idealize.ShloMosaic Cert.Soft
open Cert.ReferenceIdeal.Stages (Sees)

set_option maxRecDepth 16384

/-- The first 512 keys under the mask and a group of further blocks give the row of attention. -/
theorem join (M : Fin 4096 → Prop) [DecidablePred M] (s v : Fin 4096 → ℝ) (kr : ℝ) (b N : ℕ) (hb : b + 3 * N ≤ 66) (hb8 : 8 ≤ b)
    (hM : ∀ j : Fin 4096, 512 ≤ j.val → (M j ↔ b ≤ j.val / 64 ∧ (j.val / 64 - b) % 3 = 0)) (hN : 64 ≤ b + 3 * N) (i : Fin 4096) (hi : M i) :
    Ideal.div (((∑ j : Fin 512, (wt M s ⟨j.val, by omega⟩ : EReal) * (v ⟨j.val, by omega⟩ : EReal))
          + ∑ u : Fin (N * 64), (Real.exp (s (keyOf b N hb u)) : EReal) * (v (keyOf b N hb u) : EReal)) * (kr : EReal))
        ((∑ j : Fin 512, (wt M s ⟨j.val, by omega⟩ : EReal)) + ∑ u : Fin (N * 64), (Real.exp (s (keyOf b N hb u)) : EReal))
      = (attn M s v kr : EReal) := by
  have hl : ∑ j, wt M s j = (∑ j : Fin 512, wt M s ⟨j.val, by omega⟩) + ∑ u : Fin (N * 64), Real.exp (s (keyOf b N hb u)) :=
    sum_cut M (fun j => Real.exp (s j)) b N hb hb8 hM hN
  have ha : ∑ j, wt M s j * v j = (∑ j : Fin 512, wt M s ⟨j.val, by omega⟩ * v ⟨j.val, by omega⟩)
      + ∑ u : Fin (N * 64), Real.exp (s (keyOf b N hb u)) * v (keyOf b N hb u) := by
    have h := sum_cut M (fun j => Real.exp (s j) * v j) b N hb hb8 hM hN
    simpa only [wt, ite_mul, zero_mul] using h
  simp only [← EReal.coe_mul, coe_sum, ← EReal.coe_add]
  rw [← hl, ← ha]
  exact div_coe (sum_wt_pos M s i hi).ne'

/-- The score of key `u` for a query's lanes `Q`. -/
def sc (fk : Vec Ideal S8x2x512x512 .i8) (t : ℕ) (ht : t < 16) (Q : Fin 64 → ℝ) (u : Fin 4096) : ℝ :=
  ∑ d : Fin 64, Q d * ((code fk t ht d u).toInt : ℝ)

/-- Lane `d` of the value of key `u`. -/
def vl (fv : Vec Ideal S8x2x512x512 .i8) (t : ℕ) (ht : t < 16) (d : Fin 64) (u : Fin 4096) : ℝ := ((code fv t ht d u).toInt : ℝ)

/-- The keys query `i` sees. -/
abbrev M (i : ℕ) (j : Fin 4096) : Prop := Sees i j.val

section
variable (s : St Ideal) (fk fv : Vec Ideal S8x2x512x512 .i8) (t : ℕ) (ht : t < 16) (hkv : s.kv t = (rowOf fk t ht, rowOf fv t ht))
  (kr : ℝ) (hkr : Ideal.ofBits .f32 0x3D112245#32 = (kr : EReal)) (Q : Fin 64 → ℝ)

include hkv in
theorem first_at (i : Fin 512) (hq : ∀ d, s.q t ht (ix2 i d) = (Q d : EReal)) (j : Fin 512) :
    k0_pay31 (s.q t ht) mask (s.kv t).1 (ix2 i j) = (wt (M i.val) (sc fk t ht Q) ⟨j.val, by omega⟩ : EReal) := by
  rw [p0_at, ← exp_msk]
  unfold msk sc M
  simp only [hkv, rowOf_at, hq, ← EReal.coe_mul, coe_sum]

include hkv in
theorem first_v (j : Fin 512) (d : Fin 64) : ((((s.kv t).2 (ix4 0 0 j d)).toInt : ℝ) : EReal) = (vl fv t ht d ⟨j.val, by omega⟩ : EReal) := by
  rw [hkv]
  exact congrArg (fun z : BitVec 8 => ((z.toInt : ℝ) : EReal)) (rowOf_at fv t ht j d)

include hkv hkr in
theorem blkA_at (r : ℕ) (hr : r < 2) (a : Fin 3) (n : ℕ) (hn : n < 8) (e : n = r + 3 * a.val) (o d : Fin 64)
    (hq : ∀ d, s.q t ht (ix2 ⟨n * 64 + o.val, by omega⟩ d) = (Q d : EReal)) :
    blkA s fk fv t ht r hr n hn a (ix2 o d) = (attn (M (n * 64 + o.val)) (sc fk t ht Q) (vl fv t ht d) kr : EReal) := by
  subst e
  have hM : ∀ j : Fin 4096, 512 ≤ j.val → (M ((r + 3 * a.val) * 64 + o.val) j ↔ 9 - r ≤ j.val / 64 ∧ (j.val / 64 - (9 - r)) % 3 = 0) := by
    intro j hj
    have := j.isLt
    unfold M Sees
    omega
  have h1 : ∀ u : Fin 1216, pA (qA (s.q t ht) r hr) (catA (blksOf fk t ht 19 (9 - r) (by omega))) (ix2 ⟨a.val * 64 + o.val, by omega⟩ u)
      = (Real.exp (sc fk t ht Q (keyOf (9 - r) 19 (by omega) u)) : EReal) := by
    intro u
    rw [pA_at, ← exp_coe]
    refine congrArg Ideal.exp ?_
    unfold sc
    rw [← coe_sum]
    refine Finset.sum_congr rfl fun d _ => ?_
    rw [qA_at, hq, catA_at, EReal.coe_mul]
    exact congrArg (fun z : BitVec 8 => (Q d : EReal) * ((z.toInt : ℝ) : EReal)) (blks_at fk t ht (9 - r) 19 (by omega) u d)
  have h2 : ∀ u : Fin 1216, catA (blksOf fv t ht 19 (9 - r) (by omega)) (ix2 u d) = (vl fv t ht d (keyOf (9 - r) 19 (by omega) u) : EReal) := by
    intro u
    rw [catA_at]
    exact congrArg (fun z : BitVec 8 => ((z.toInt : ℝ) : EReal)) (blks_at fv t ht (9 - r) 19 (by omega) u d)
  unfold blkA
  rw [ctxA_at, l0v_at, a0v_at, lA_at, aA_at, hkr]
  simp only [first_at s fk fv t ht hkv Q _ hq, first_v s fk fv t ht hkv, h1, h2]
  exact join (M ((r + 3 * a.val) * 64 + o.val)) (sc fk t ht Q) (vl fv t ht d) kr (9 - r) 19 (by omega) (by omega) hM (by omega)
    ⟨0, by decide⟩ (.inr (.inl rfl))

include hkv hkr in
theorem blkB_at (a : Fin 2) (n : ℕ) (hn : n < 8) (e : n = 2 + 3 * a.val) (o d : Fin 64)
    (hq : ∀ d, s.q t ht (ix2 ⟨n * 64 + o.val, by omega⟩ d) = (Q d : EReal)) :
    blkB s fk fv t ht n hn a (ix2 o d) = (attn (M (n * 64 + o.val)) (sc fk t ht Q) (vl fv t ht d) kr : EReal) := by
  subst e
  have hM : ∀ j : Fin 4096, 512 ≤ j.val → (M ((2 + 3 * a.val) * 64 + o.val) j ↔ 10 ≤ j.val / 64 ∧ (j.val / 64 - 10) % 3 = 0) := by
    intro j hj
    have := j.isLt
    unfold M Sees
    omega
  have h1 : ∀ u : Fin 1152, pB (qB (s.q t ht)) (catB (blksOf fk t ht 18 10 (by omega))) (ix2 ⟨a.val * 64 + o.val, by omega⟩ u)
      = (Real.exp (sc fk t ht Q (keyOf 10 18 (by omega) u)) : EReal) := by
    intro u
    rw [pB_at, ← exp_coe]
    refine congrArg Ideal.exp ?_
    unfold sc
    rw [← coe_sum]
    refine Finset.sum_congr rfl fun d _ => ?_
    rw [qB_at, hq, catB_at, EReal.coe_mul]
    exact congrArg (fun z : BitVec 8 => (Q d : EReal) * ((z.toInt : ℝ) : EReal)) (blks_at fk t ht 10 18 (by omega) u d)
  have h2 : ∀ u : Fin 1152, catB (blksOf fv t ht 18 10 (by omega)) (ix2 u d) = (vl fv t ht d (keyOf 10 18 (by omega) u) : EReal) := by
    intro u
    rw [catB_at]
    exact congrArg (fun z : BitVec 8 => ((z.toInt : ℝ) : EReal)) (blks_at fv t ht 10 18 (by omega) u d)
  unfold blkB
  rw [ctxB_at, l0v_at, a0v_at, lB_at, aB_at, hkr]
  simp only [first_at s fk fv t ht hkv Q _ hq, first_v s fk fv t ht hkv, h1, h2]
  exact join (M ((2 + 3 * a.val) * 64 + o.val)) (sc fk t ht Q) (vl fv t ht d) kr 10 18 (by omega) (by omega) hM (by omega)
    ⟨0, by decide⟩ (.inr (.inl rfl))

include hkv hkr in
theorem ctxBlk_at (n : Fin 8) (o d : Fin 64) (hq : ∀ d, s.q t ht (ix2 ⟨n.val * 64 + o.val, by omega⟩ d) = (Q d : EReal)) :
    ctxBlk s fk fv t ht n (ix2 o d) = (attn (M (n.val * 64 + o.val)) (sc fk t ht Q) (vl fv t ht d) kr : EReal) := by
  fin_cases n
  · exact blkA_at s fk fv t ht hkv kr hkr Q 0 (by decide) 0 0 (by decide) rfl o d hq
  · exact blkA_at s fk fv t ht hkv kr hkr Q 1 (by decide) 0 1 (by decide) rfl o d hq
  · exact blkB_at s fk fv t ht hkv kr hkr Q 0 2 (by decide) rfl o d hq
  · exact blkA_at s fk fv t ht hkv kr hkr Q 0 (by decide) 1 3 (by decide) rfl o d hq
  · exact blkA_at s fk fv t ht hkv kr hkr Q 1 (by decide) 1 4 (by decide) rfl o d hq
  · exact blkB_at s fk fv t ht hkv kr hkr Q 1 5 (by decide) rfl o d hq
  · exact blkA_at s fk fv t ht hkv kr hkr Q 0 (by decide) 2 6 (by decide) rfl o d hq
  · exact blkA_at s fk fv t ht hkv kr hkr Q 1 (by decide) 2 7 (by decide) rfl o d hq
end

end Cert.KernelIdeal.At

end
-- ==== Proof.KerOut.lean ====
/-
The kernel's result at an index: the devices' contexts against the devices' rows of the output weights, summed.
-/
module

public import proofs.«01_k».proof.Proof.KerCtx

@[expose] public section

noncomputable section

namespace Cert.KernelIdeal.At

open Cert.KernelIdeal Cert.KernelIdeal.Gen Cert.KernelIdeal.Fold Cert.KernelIdeal.Vals Idealize.ShloMosaic Cert.Soft
open Cert.ReferenceIdeal.Stages (Sees)

set_option maxRecDepth 16384

theorem inBlk_eq (a b : ℕ) : inBlk a b = ix2 ⟨a % 64, Nat.mod_lt _ (by decide)⟩ ⟨b % 64, Nat.mod_lt _ (by decide)⟩ := by
  funext k
  fin_cases k <;> rfl

theorem inPart_eq (a : Fin 64) (b : Fin 768) : inPart a b = ix4 0 0 a b := by
  funext k
  fin_cases k <;> rfl

theorem inRed_eq (b : Fin 2) (i : Fin 512) (o : Fin 768) : inRed (ix3 b i o) = ix3 b ⟨i.val % 64, Nat.mod_lt _ (by decide)⟩ o := by
  funext k
  fin_cases k <;> rfl

theorem tl_eq {A B C : ℕ} (j : Fin 8) (a : Fin A) (b : Fin B) (c : Fin C) : Geo.tl4 (ix4 j a b c) = ix3 a b c := by
  funext k
  fin_cases k <;> rfl

theorem hd_eq {A B C : ℕ} (j : Fin 8) (a : Fin A) (b : Fin B) (c : Fin C) : Geo.ix4 j (ix3 a b c) = ix4 j a b c := by
  funext k
  fin_cases k <;> rfl

theorem proj_at (wo : FVec Ideal S512x768 .bf16) (f : Vec Ideal S1x64x512 .bf16) (a : Fin 64) (o : Fin 768) :
    proj (k0_pay82 wo) f (ix4 0 0 a o) = ∑ e : Fin 512, f (ix3 0 a e) * wo (ix2 e o) := by
  pointwise [proj, k0_pay655, k0_pay82]

theorem redv_at (f : ℕ → Vec Ideal S1x2x64x768 .bf16) (b : Fin 2) (a : Fin 64) (o : Fin 768) :
    redv f (ix3 b a o) = ∑ j : Fin 8, f j.val (ix4 0 b a o) := by
  rw [Fin.sum_univ_eight]
  pointwise [redv, k0_pay1773, k0_pay1772]

theorem wide_at (f : Vec Ideal S1x2x64x768 .bf16) (b : Fin 2) (a : Fin 64) (o : Fin 768) :
    k0_pay1774 f (ix3 b a o) = f (ix4 0 b a o) := by
  pointwise [k0_pay1774]

theorem ctxRow_at (f : Vec Ideal S2x512x512 .bf16) (b : ℕ) (hb : b < 2) (n : ℕ) (hn : n < 8) (a : Fin 64) (e : Fin 512) :
    ctxRow f b hb n hn (ix3 0 a e) = f (ix3 ⟨b, hb⟩ ⟨n * 64 + a.val, by omega⟩ e) := by
  unfold ctxRow
  congr 1
  funext k
  refine Fin.ext ?_
  fin_cases k
  · show b + 1 * 0 = b
    omega
  · show n * 64 + 1 * a.val = n * 64 + a.val
    omega
  · show 0 + 1 * e.val = e.val
    omega

theorem partOf_at (f : Vec Ideal S8x2x64x768 .bf16) (j : Fin 8) (b : Fin 2) (a : Fin 64) (o : Fin 768) :
    partOf f j (ix4 0 b a o) = f (ix4 j b a o) := by
  unfold partOf
  congr 1
  funext k
  refine Fin.ext ?_
  fin_cases k
  · show j.val + 1 * 0 = j.val
    omega
  · show 0 + 1 * b.val = b.val
    omega
  · show 0 + 1 * a.val = a.val
    omega
  · show 0 + 1 * o.val = o.val
    omega

theorem partsOf_eq (f : Vec Ideal S8x2x64x768 .bf16) :
    ∀ (c j : ℕ) (h : j + c ≤ 8) (m : ℕ) (hm : m < c), partsOf f c j h m = partOf f ⟨j + m, by omega⟩
  | c + 1, j, h, 0, hm => rfl
  | c + 1, j, h, m + 1, hm => by
    refine (partsOf_eq f c (j + 1) (by omega) m (by omega)).trans ?_
    congr 1
    exact Fin.ext (by show j + 1 + m = j + (m + 1); omega)

variable (I : Inp Ideal)

theorem ps_at (c : Dev nD) (n : Fin 8) (b : Fin 2) (a : Fin 64) (o : Fin 768) :
    ps I c (ix4 n b a o) = ∑ e : Fin 512, ctx I c (ix3 b ⟨n.val * 64 + a.val, by omega⟩ e) * I.wo c (ix2 e o) := by
  unfold ps
  show proj (k0_pay82 (I.wo c)) (ctxRow (ctx I c) b.val b.isLt n.val n.isLt) (inPart a o) = _
  rw [inPart_eq, proj_at]
  refine Finset.sum_congr rfl fun e _ => ?_
  rw [ctxRow_at]

theorem red_at (c : Dev nD) (b : Fin 2) (a : Fin 64) (o : Fin 768) :
    red I c (ix3 b a o) = ∑ j : Fin 8, ps I j (ix4 c b a o) := by
  unfold red
  rw [redv_at]
  refine Finset.sum_congr rfl fun j _ => ?_
  rw [partsOf_eq _ _ _ _ _ j.isLt, partOf_at]
  unfold rsr
  rw [tl_eq, hd_eq]
  congr 1
  exact Fin.ext (by show 0 + j.val = j.val; omega)

/-- The result at an index. -/
theorem out_at (b : Fin 2) (i : Fin 512) (o : Fin 768) :
    out I (ix3 b i o) = ∑ j : Fin 8, ∑ e : Fin 512, ctx I j (ix3 b i e) * I.wo j (ix2 e o) := by
  unfold out
  rw [inRed_eq, wide_at, partOf_at]
  unfold agr
  rw [tl_eq]
  show red I (jOf (ix3 b i o)) (ix3 b ⟨i.val % 64, Nat.mod_lt _ (by decide)⟩ o) = _
  rw [red_at]
  refine Finset.sum_congr rfl fun j _ => ?_
  rw [ps_at]
  refine Finset.sum_congr rfl fun e _ => ?_
  have hi : (⟨(jOf (ix3 b i o)).val * 64 + (⟨i.val % 64, Nat.mod_lt _ (by decide)⟩ : Fin 64).val, by
      have h1 : (jOf (ix3 b i o)).val = i.val / 64 := rfl
      have := i.isLt
      show (jOf (ix3 b i o)).val * 64 + i.val % 64 < 512
      omega⟩ : Fin 512) = i := Fin.ext (by show i.val / 64 * 64 + i.val % 64 = i.val; omega)
  exact congrArg (fun z => ctx I j (ix3 b z e) * I.wo j (ix2 e o)) hi

/-- The context at an index, from finite queries. -/
theorem ctx_at (c : Dev nD) (kr k8 : ℝ) (hkr : Ideal.ofBits .f32 0x3D112245#32 = (kr : EReal)) (hk8 : Ideal.ofBits .f32 0x3B912245#32 = (k8 : EReal))
    (X : Fin 2 → Fin 512 → Fin 768 → ℝ) (hX : ∀ b i k, I.x c (ix3 b i k) = (X b i k : EReal))
    (W : Fin 768 → Fin 512 → ℝ) (hW : ∀ k e, I.wq c (ix2 k e) = (W k e : EReal))
    (b : Fin 2) (i : Fin 512) (e : Fin 512) (t : ℕ) (ht : t < 16) (he : t = b.val * 8 + e.val / 64) :
    ctx I c (ix3 b i e) = (attn (M i.val)
      (sc (kall I c) t ht fun d => (∑ k, X b i k * W k ⟨e.val / 64 * 64 + d.val, by omega⟩) * k8)
      (vl (vall I c) t ht ⟨e.val % 64, Nat.mod_lt _ (by decide)⟩) kr : EReal) := by
  subst he
  unfold ctx
  show ctxBlk (stOf I c) (kall I c) (vall I c) (b.val * 8 + e.val / 64) _ ⟨i.val / 64, _⟩ (inBlk i.val e.val) = _
  rw [inBlk_eq, ctxBlk_at (stOf I c) (kall I c) (vall I c) (b.val * 8 + e.val / 64) ht
    ((rowsOf_eq (kall I c) (vall I c) 16 0 (by decide) _ ht).trans (by
      have h : 0 + (b.val * 8 + e.val / 64) = b.val * 8 + e.val / 64 := Nat.zero_add _
      congr 2)) kr hkr
    (fun d => (∑ k, X b i k * W k ⟨e.val / 64 * 64 + d.val, by omega⟩) * k8)]
  · have h : i.val / 64 * 64 + i.val % 64 = i.val := by omega
    show ((attn (M (i.val / 64 * 64 + i.val % 64)) _ _ kr : ℝ) : EReal) = _
    simp only [h]
  · intro d
    have h : (⟨i.val / 64 * 64 + i.val % 64, by omega⟩ : Fin 512) = i := Fin.ext (by show i.val / 64 * 64 + i.val % 64 = i.val; omega)
    show qv (I.x c) (I.wq c) (b.val * 8 + e.val / 64) ht (ix2 ⟨i.val / 64 * 64 + i.val % 64, _⟩ d) = _
    rw [h, qv_at, hk8, EReal.coe_mul, ← coe_sum]
    refine congrArg (· * (k8 : EReal)) (Finset.sum_congr rfl fun k _ => ?_)
    rw [EReal.coe_mul, ← hX, ← hW]
    have h1 : (⟨(b.val * 8 + e.val / 64) / 8, by omega⟩ : Fin 2) = b := Fin.ext (by show (b.val * 8 + e.val / 64) / 8 = b.val; omega)
    have h2 : (⟨(b.val * 8 + e.val / 64) % 8 * 64 + d.val, by omega⟩ : Fin 512) = ⟨e.val / 64 * 64 + d.val, by omega⟩ :=
      Fin.ext (by show (b.val * 8 + e.val / 64) % 8 * 64 + d.val = e.val / 64 * 64 + d.val; omega)
    rw [h1, h2]

end Cert.KernelIdeal.At

end
-- ==== Proof.RefRow.lean ====
/-
One row of the reference: the largest score, the exponentials, the weights.
-/
module

public import proofs.«01_k».proof.Proof.RefMask
public import proofs.«01_k».proof.Proof.Soft

@[expose] public section

noncomputable section

namespace Cert.ReferenceIdeal.Stages

open Cert.ReferenceIdeal Cert.ReferenceIdeal.Gen Idealize.ShloMosaic Cert.Soft

set_option maxRecDepth 16384

theorem neg_inf : Ideal.ofBits .f32 0xFF800000#32 = ⊥ := by simp [Ideal.ofBits, Ideal.ieee]

theorem top_at (s : FVec Ideal S2x64x512x4096 .f32) (b : Fin 2) (g : Fin 64) (i : Fin 512) :
    top s (ix3 b g i) = (Finset.univ : Finset (Fin 4096)).fold max ⊥ fun j => s (ix4 b g i j) := by
  pointwise [top]
  rw [neg_inf]

theorem expo_at (s : FVec Ideal S2x64x512x4096 .f32) (b : Fin 2) (g : Fin 64) (i : Fin 512) (j : Fin 4096) :
    expo s (ix4 b g i j) = Ideal.exp (s (ix4 b g i j) - (Finset.univ : Finset (Fin 4096)).fold max ⊥ fun j => s (ix4 b g i j)) := by
  pointwise [expo]
  rw [top_at]

theorem seen_at (i : Fin 512) : seen (ix1 i) = 1#1 := by
  pointwise [seen]
  have h := Finset.fold_insert (op := (IntOp.ori : BitVec 1 → BitVec 1 → BitVec 1)) (b := 0#1) (f := fun x => mask (ix2 i x))
    (Finset.notMem_erase (0 : Fin 4096) Finset.univ)
  rw [Finset.insert_erase (Finset.mem_univ _)] at h
  rw [h, mask_at, decide_eq_true (show Sees i.val (0 : Fin 4096).val from .inr (.inl rfl))]
  exact (by decide : ∀ z : BitVec 1, IntOp.ori (BitVec.ofBool true) z = 1#1) _

theorem weights_at (e : FVec Ideal S2x64x512x4096 .f32) (b : Fin 2) (g : Fin 64) (i : Fin 512) (j : Fin 4096) :
    weights e (ix4 b g i j) = Ideal.div (e (ix4 b g i j)) (∑ k : Fin 4096, e (ix4 b g i k)) := by
  pointwise [weights, keep]
  rw [seen_at]
  rfl

end Cert.ReferenceIdeal.Stages

end
-- ==== Proof.RefAt.lean ====
/-
The reference's stages at an index.
-/
module

public import proofs.«01_k».proof.Proof.RefRow
public import proofs.«01_k».proof.Proof.Soft

@[expose] public section

noncomputable section

namespace Cert.ReferenceIdeal.Stages

open Cert.ReferenceIdeal Cert.ReferenceIdeal.Gen Idealize.ShloMosaic Cert.Soft

set_option maxRecDepth 16384

theorem heads_at (k : IVec S8x2x4096x512 8) (b : Fin 2) (j : Fin 4096) (g d : Fin 64) :
    heads k (ix4 b j g d) = (((k (ix4 ⟨g.val / 8, by omega⟩ b j ⟨g.val % 8 * 64 + d.val, by omega⟩)).toInt : ℝ) : EReal) * Ideal.ofBits .f32 0x3D112245#32 := by
  pointwise [heads]
  rw [show FloatOps.sitofp (F := Ideal) FTy.f32 (BitVec.signExtend 32 (k (ix4 ⟨g.val / 8, by omega⟩ b j ⟨g.val % 8 * 64 + d.val, by omega⟩)))
    = (((BitVec.signExtend 32 (k (ix4 ⟨g.val / 8, by omega⟩ b j ⟨g.val % 8 * 64 + d.val, by omega⟩))).toInt : ℝ) : EReal) from rfl,
    BitVec.toInt_signExtend_of_le (by decide)]

theorem queries_at (x : FVec Ideal S2x512x768 .bf16) (w : FVec Ideal S768x4096 .bf16) (b : Fin 2) (i : Fin 512) (g d : Fin 64) :
    queries x w (ix4 b i g d) = ∑ k : Fin 768, x (ix3 b i k) * w (ix2 k ⟨g.val * 64 + d.val, by omega⟩) := by
  pointwise [queries]

theorem scores_at (q : FVec Ideal S2x512x64x64 .f32) (k : FVec Ideal S2x4096x64x64 .f32) (b : Fin 2) (g : Fin 64) (i : Fin 512) (j : Fin 4096) :
    scores q k (ix4 b g i j) = if Sees i.val j.val then (∑ d : Fin 64, q (ix4 b i g d) * k (ix4 b j g d)) * Ideal.ofBits .f32 0x3E000000#32 else ⊥ := by
  pointwise [scores]
  have hn : id (constant (F := Ideal) S_ FTy.f32 0xFF800000#32) ix0 = (⊥ : EReal) := neg_inf
  rw [mask_at, hn]
  by_cases h : Sees i.val j.val
  · rw [if_pos h, decide_eq_true h]
    rfl
  · rw [if_neg h, decide_eq_false h]
    rfl

theorem context_at (v : FVec Ideal S2x4096x64x64 .f32) (w : FVec Ideal S2x64x512x4096 .f32) (b : Fin 2) (i : Fin 512) (e : Fin 4096) :
    context v w (ix3 b i e) = ∑ j : Fin 4096, v (ix4 b j ⟨e.val / 64, by omega⟩ ⟨e.val % 64, by omega⟩) * w (ix4 b ⟨e.val / 64, by omega⟩ i j) := by
  pointwise [context]

theorem result_at (x : FVec Ideal S2x512x768 .bf16) (wq : FVec Ideal S768x4096 .bf16) (wo : FVec Ideal S4096x768 .bf16)
    (ks vs : IVec S8x2x4096x512 8) (b : Fin 2) (i : Fin 512) (o : Fin 768) :
    result x wq wo ks vs (ix3 b i o)
      = ∑ e : Fin 4096, context (heads vs) (weights (expo (scores (queries x wq) (heads ks)))) (ix3 b i e) * wo (ix2 e o) := by
  pointwise [result]

end Cert.ReferenceIdeal.Stages

end
-- ==== Proof.Same.lean ====
/-
The two programs' results are the same array: the devices' contexts, side by side, are the reference's context.
-/
module

public import proofs.«01_k».proof.Proof.KerOut
public import proofs.«01_k».proof.Proof.RefAt
public import Idealize.ShloMosaic.Lib.Layout

@[expose] public section

noncomputable section

namespace Cert.Same

open Cert.KernelIdeal.Gen Cert.KernelIdeal.At Cert.KernelIdeal.Vals Idealize.ShloMosaic Cert.Soft
open Cert.ReferenceIdeal.Stages

set_option maxRecDepth 16384

/-- The codes' scale, and an eighth of it. -/
def kr : ℝ := 9511493 / 2 ^ 28

theorem scale : Ideal.ofBits .f32 0x3D112245#32 = (kr : EReal) := by
  unfold kr
  simp [Ideal.ofBits, Ideal.ieee]
  norm_num
  rw [← EReal.coe_mul, EReal.coe_eq_coe_iff]
  norm_num
theorem scale8 : Ideal.ofBits .f32 0x3B912245#32 = ((kr * (1 / 8) : ℝ) : EReal) := by
  unfold kr
  simp [Ideal.ofBits, Ideal.ieee]
  norm_num
  rw [← EReal.coe_mul, ← EReal.coe_mul, EReal.coe_eq_coe_iff]
  norm_num
theorem eighth : Ideal.ofBits .f32 0x3E000000#32 = ((1 / 8 : ℝ) : EReal) := by
  simp [Ideal.ofBits, Ideal.ieee]
  norm_num
  rw [← EReal.coe_mul, EReal.coe_eq_coe_iff]
  norm_num

variable (x : FVec Ideal ⟨3, ![2, 512, 768]⟩ .bf16) (wq : FVec Ideal ⟨2, ![768, 4096]⟩ .bf16) (wo : FVec Ideal ⟨2, ![4096, 768]⟩ .bf16)
  (ks vs : IVec ⟨4, ![8, 2, 4096, 512]⟩ 8)

/-- The inputs of the devices: their blocks of the whole arrays. -/
def inp : Inp Ideal where
  x _ := x
  wq c := Layout.block ⟨2, ![768, 512]⟩ ⟨2, ![768, 4096]⟩ 1 8 c wq
  wo c := Layout.block ⟨2, ![512, 768]⟩ ⟨2, ![4096, 768]⟩ 0 8 c wo
  ks c := Layout.block ⟨4, ![8, 2, 512, 512]⟩ ⟨4, ![8, 2, 4096, 512]⟩ 2 8 c ks
  vs c := Layout.block ⟨4, ![8, 2, 512, 512]⟩ ⟨4, ![8, 2, 4096, 512]⟩ 2 8 c vs

theorem wq_at (c : Fin 8) (k : Fin 768) (e : Fin 512) : (inp x wq wo ks vs).wq c (ix2 k e) = wq (ix2 k ⟨c.val * 512 + e.val, by omega⟩) := by
  show wq _ = _
  congr 1
  funext a
  fin_cases a <;> exact Fin.ext rfl

theorem wo_at (c : Fin 8) (e : Fin 512) (o : Fin 768) : (inp x wq wo ks vs).wo c (ix2 e o) = wo (ix2 ⟨c.val * 512 + e.val, by omega⟩ o) := by
  show wo _ = _
  congr 1
  funext a
  fin_cases a <;> exact Fin.ext rfl

/-- Codes cut along the keys, at an index. -/
theorem cut_at (f : IVec ⟨4, ![8, 2, 4096, 512]⟩ 8) (s c : Fin 8) (b : Fin 2) (r l : Fin 512) :
    Layout.block ⟨4, ![8, 2, 512, 512]⟩ ⟨4, ![8, 2, 4096, 512]⟩ 2 8 s f (by decide) (ix4 c b r l) = f (ix4 c b ⟨s.val * 512 + r.val, by omega⟩ l) := by
  show f _ = _
  congr 1
  funext a
  fin_cases a <;> exact Fin.ext rfl

/-- Device `c` holds, after the exchange, the codes of heads `8c` to `8c + 7` of every key. -/
theorem code_at (f : IVec ⟨4, ![8, 2, 4096, 512]⟩ 8) (h : Vec Ideal Cert.KernelIdeal.S8x2x512x512 .i8) (c : Fin 8)
    (hh : ∀ s b r l, h (ix4 s b r l) = Layout.block ⟨4, ![8, 2, 512, 512]⟩ ⟨4, ![8, 2, 4096, 512]⟩ 2 8 s f (by decide) (ix4 c b r l))
    (b : Fin 2) (p : ℕ) (hp : p < 8) (ht : b.val * 8 + p < 16) (d : Fin 64) (u : Fin 4096) :
    code h (b.val * 8 + p) ht d u = f (ix4 c b u ⟨p * 64 + d.val, by omega⟩) := by
  unfold code
  rw [hh, cut_at]
  congr 1
  funext a
  refine Fin.ext ?_
  fin_cases a
  · rfl
  · show (b.val * 8 + p) / 8 = b.val
    omega
  · show u.val / 512 * 512 + u.val % 512 = u.val
    omega
  · show (b.val * 8 + p) % 8 * 64 + d.val = p * 64 + d.val
    omega

variable (X : Fin 2 → Fin 512 → Fin 768 → ℝ) (hX : ∀ b i k, x (ix3 b i k) = (X b i k : EReal))
  (W : Fin 768 → Fin 4096 → ℝ) (hW : ∀ k e, wq (ix2 k e) = (W k e : EReal))

include hX hW in
/-- One element of the context: the same for both programs. -/
theorem ctx_same (c : Fin 8) (b : Fin 2) (i e : Fin 512) :
    ctx (inp x wq wo ks vs) c (ix3 b i e)
      = context (heads vs) (weights (expo (scores (queries x wq) (heads ks)))) (ix3 b i ⟨c.val * 512 + e.val, by omega⟩) := by
  have hp : e.val / 64 < 8 := by omega
  have ht : b.val * 8 + e.val / 64 < 16 := by omega
  rw [ctx_at (inp x wq wo ks vs) c kr (kr * (1 / 8)) scale scale8 X hX (fun k e => W k ⟨c.val * 512 + e.val, by omega⟩)
    (fun k e => (wq_at x wq wo ks vs c k e).trans (hW k _)) b i e _ ht rfl, context_at]
  obtain ⟨g, hg⟩ : ∃ g : Fin 64, g = ⟨(c.val * 512 + e.val) / 64, by omega⟩ := ⟨_, rfl⟩
  have hgv : g.val = c.val * 8 + e.val / 64 := by rw [hg]; show (c.val * 512 + e.val) / 64 = _; omega
  obtain ⟨d, hd⟩ : ∃ d : Fin 64, d = ⟨(c.val * 512 + e.val) % 64, by omega⟩ := ⟨_, rfl⟩
  have hdv : (⟨e.val % 64, Nat.mod_lt _ (by decide)⟩ : Fin 64) = d := by rw [hd]; exact Fin.ext (by show e.val % 64 = (c.val * 512 + e.val) % 64; omega)
  show _ = ∑ j : Fin 4096, heads vs (ix4 b j ⟨(c.val * 512 + e.val) / 64, _⟩ ⟨(c.val * 512 + e.val) % 64, _⟩) * weights _ (ix4 b ⟨(c.val * 512 + e.val) / 64, _⟩ i j)
  rw [← hg, ← hd, hdv]
  -- the codes
  have hcode : ∀ (f : IVec ⟨4, ![8, 2, 4096, 512]⟩ 8) (j : Fin 4096) (l : Fin 64),
      f (ix4 ⟨g.val / 8, by omega⟩ b j ⟨g.val % 8 * 64 + l.val, by omega⟩) = f (ix4 c b j ⟨e.val / 64 * 64 + l.val, by omega⟩) := by
    intro f j l
    have h1 : (⟨g.val / 8, by omega⟩ : Fin 8) = c := Fin.ext (by show g.val / 8 = c.val; omega)
    have h2 : (⟨g.val % 8 * 64 + l.val, by omega⟩ : Fin 512) = ⟨e.val / 64 * 64 + l.val, by omega⟩ :=
      Fin.ext (by show g.val % 8 * 64 + l.val = e.val / 64 * 64 + l.val; omega)
    rw [h1, h2]
  have hk : ∀ (l : Fin 64) (j : Fin 4096), code (kall (inp x wq wo ks vs) c) (b.val * 8 + e.val / 64) ht l j = ks (ix4 c b j ⟨e.val / 64 * 64 + l.val, by omega⟩) :=
    fun l j => code_at ks (kall (inp x wq wo ks vs) c) c (fun s b r l => by unfold kall; rw [tl_eq, hd_eq]; rfl) b _ hp ht l j
  have hv : ∀ (l : Fin 64) (j : Fin 4096), code (vall (inp x wq wo ks vs) c) (b.val * 8 + e.val / 64) ht l j = vs (ix4 c b j ⟨e.val / 64 * 64 + l.val, by omega⟩) :=
    fun l j => code_at vs (vall (inp x wq wo ks vs) c) c (fun s b r l => by unfold vall; rw [tl_eq, hd_eq]; rfl) b _ hp ht l j
  -- the queries
  have hq : ∀ l : Fin 64, queries x wq (ix4 b i g l) = ((∑ k, X b i k * W k ⟨c.val * 512 + (e.val / 64 * 64 + l.val), by omega⟩ : ℝ) : EReal) := by
    intro l
    rw [queries_at, ← coe_sum]
    refine Finset.sum_congr rfl fun k _ => ?_
    have h : (⟨g.val * 64 + l.val, by omega⟩ : Fin 4096) = ⟨c.val * 512 + (e.val / 64 * 64 + l.val), by omega⟩ :=
      Fin.ext (by show g.val * 64 + l.val = c.val * 512 + (e.val / 64 * 64 + l.val); omega)
    rw [h, hX, hW, EReal.coe_mul]
  -- the scores
  have hS : ∀ j, scores (queries x wq) (heads ks) (ix4 b g i j) = msk (Cert.KernelIdeal.At.M i.val) (sc (kall (inp x wq wo ks vs) c) (b.val * 8 + e.val / 64) ht
      fun l => (∑ k, X b i k * W k ⟨c.val * 512 + (e.val / 64 * 64 + l.val), by omega⟩) * (kr * (1 / 8))) j := by
    intro j
    rw [scores_at]
    unfold msk Cert.KernelIdeal.At.M
    refine if_congr Iff.rfl ?_ rfl
    unfold sc
    simp only [hq, heads_at, hcode ks, hk, scale, eighth, ← EReal.coe_mul, coe_sum]
    refine congrArg _ ?_
    rw [Finset.sum_mul]
    exact Finset.sum_congr rfl fun l _ => by ring
  refine (attn_shifted (Cert.KernelIdeal.At.M i.val) _ (vl (vall (inp x wq wo ks vs) c) (b.val * 8 + e.val / 64) ht d) kr ⟨0, by decide⟩ (.inr (.inl rfl)) _ hS).symm.trans ?_
  refine Finset.sum_congr rfl fun j _ => ?_
  rw [heads_at, hcode vs, scale, ← EReal.coe_mul, weights_at]
  unfold vl
  rw [hv]
  simp only [expo_at]

include hX hW in
/-- The results are the same. -/
theorem out_same : out (inp x wq wo ks vs) = result x wq wo ks vs := by
  funext y
  obtain ⟨b, i, o, rfl⟩ : ∃ (b : Fin 2) (i : Fin 512) (o : Fin 768), y = ix3 b i o := ⟨_, _, _, eq_ix3 y⟩
  rw [out_at]
  refine Eq.trans ?_ (result_at x wq wo ks vs b i o).symm
  rw [← Equiv.sum_comp (finProdFinEquiv (m := 8) (n := 512)), Fintype.sum_prod_type]
  refine Finset.sum_congr rfl fun c _ => Finset.sum_congr rfl fun e _ => ?_
  rw [ctx_same x wq wo ks vs X hX W hW, wo_at]
  have h : (finProdFinEquiv (c, e) : Fin (8 * 512)) = (⟨c.val * 512 + e.val, by omega⟩ : Fin 4096) :=
    Fin.ext (by show e.val + 512 * c.val = c.val * 512 + e.val; omega)
  rw [h]

end Cert.Same

end
-- ==== Proof.Cast.Ker.lean ====
/-
What the call leaves: at block p, row (b, j), lane e, the code of the argument's lane 512 p + e.
-/
module

public import proofs.«01_k».proof.Proof.Gen.CastIdeal.Value
public import Idealize.ShloMosaic.Lib.Pipeline.Value
public import Idealize.ShloMosaic.Lib.ValueIdx
public import Idealize.ShloMosaic.Lib.Pointwise

@[expose] public section

noncomputable section

namespace Cert.CastIdeal.Code

open Cert.CastIdeal Cert.CastIdeal.Gen Idealize.ShloMosaic Idealize.ShloMosaic.TcCoe Idealize.SL.Sem
open Idealize.ShloMosaic.Pipeline (Dat)

/-- One code. -/
def code (t : EReal) : BitVec 8 :=
  Ideal.fptosi 8 (Ideal.liftRound Ideal.roundHalfEven
    (min (Ideal.ofBits .f32 0x42FE0000#32) (max (Ideal.ofBits .f32 0xC2FE0000#32) (t * Ideal.ofBits .bf16 0x41E2#16))))

/-- The codes of an array, block by block of 512 lanes. -/
def codes (x : FVec Ideal S2x512x4096 .bf16) : IVec S8x2x512x512 8 := fun y =>
  code (x (ix3 (y 1) (y 2) ⟨(y 0).val * 512 + (y 3).val, by
    have h0 : (y 0).val < 8 := (y 0).isLt
    have h3 : (y 3).val < 512 := (y 3).isLt
    show _ < 4096
    omega⟩))

theorem pay1_at (v : FVec Ideal S2x512x512 .bf16) (z : Fin 1) (b : Fin 2) (j e : Fin 512) :
    k0_pay1 (F := Ideal) v (ix4 z b j e) = code (v (ix3 b j e)) := by
  pointwise [k0_pay1]
  rfl

theorem pay2_at (v : FVec Ideal S2x512x512 .bf16) (z : Fin 1) (b : Fin 2) (j e : Fin 512) :
    k0_pay2 (F := Ideal) v (ix4 z b j e) = code (v (ix3 b j e)) := pay1_at v z b j e

variable (m : (ℓ : Loc nD τ sig) → Buf (Elt Ideal) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Where the blocks of argument 0 and of its codes lie. -/
theorem index2 : ∀ t : Fin cfg0.N, win0_0.index t 0 * win0_0.size 0 = 0 ∧ win0_0.index t 1 * win0_0.size 1 = 0 ∧ win0_0.index t 2 * win0_0.size 2 = t.val * 512
    ∧ win0_2.index t 0 * win0_2.size 0 = t.val ∧ win0_2.index t 1 * win0_2.size 1 = 0 ∧ win0_2.index t 2 * win0_2.size 2 = 0 ∧ win0_2.index t 3 * win0_2.size 3 = 0
    ∧ win0_2.xsize (grid0.coords t) 0 = 1 ∧ win0_2.xsize (grid0.coords t) 1 = 2 ∧ win0_2.xsize (grid0.coords t) 2 = 512 ∧ win0_2.xsize (grid0.coords t) 3 = 512 :=
  (by decide +kernel : ∀ t : Fin grid0.N, _)

/-- What point `t` writes back is the codes' block. -/
theorem flushed2 (c : Dev nD) (t : Fin cfg0.N) :
    (dats m 0 c).flushed 2 t = (win0_2.blk t).view.read (Elt Ideal) (codes (m ((c : Thread nD τ).loc main_arg0))) := by
  refine (Value.flushed2 m c t).trans ?_
  unfold out0_2
  rw [View.canon_unit_zero hz4, View.ld_unit_zero hz3]
  funext y
  obtain ⟨z, b, j, e, rfl⟩ : ∃ (z : Fin 1) (b : Fin 2) (j e : Fin 512), y = ix4 z b j e := ⟨y 0, y 1, y 2, y 3, eq_ix4 y⟩
  refine (pay1_at _ z b j e).trans ?_
  refine congrArg (fun i => code (m ((c : Thread nD τ).loc main_arg0) i)) (funext fun a => Fin.ext ?_)
  obtain ⟨i0, i1, i2, o0, o1, o2, o3, -⟩ := index2 t
  have hz : z.val = 0 := by omega
  match a with
  | ⟨0, _⟩ =>
    show win0_0.index t 0 * win0_0.size 0 + 1 * b.val = win0_2.index t 1 * win0_2.size 1 + 1 * b.val
    rw [i0, o1]
  | ⟨1, _⟩ =>
    show win0_0.index t 1 * win0_0.size 1 + 1 * j.val = win0_2.index t 2 * win0_2.size 2 + 1 * j.val
    rw [i1, o2]
  | ⟨2, _⟩ =>
    show win0_0.index t 2 * win0_0.size 2 + 1 * e.val = (win0_2.index t 0 * win0_2.size 0 + 1 * z.val) * 512 + (win0_2.index t 3 * win0_2.size 3 + 1 * e.val)
    rw [i2, o0, o3, hz]
    omega

theorem mem_blk2 (t : Fin cfg0.N) (i : S8x2x512x512.Idx) (h : (i 0 : Nat) = t.val) : i ∈ ((cfg0.win 2).blk t).view.set := by
  show i ∈ ((View.whole main_v0_0).slice (win0_2.rect t)).set
  rw [View.set_slice_whole, Rect.mem_set_unit]
  obtain ⟨-, -, -, o0, o1, o2, o3, s0, s1, s2, s3⟩ := index2 t
  have h1 : (i 1).val < 2 := (i 1).isLt
  have h2 : (i 2).val < 512 := (i 2).isLt
  have h3 : (i 3).val < 512 := (i 3).isLt
  intro a
  match a with
  | ⟨0, _⟩ =>
    show win0_2.index t 0 * win0_2.size 0 ≤ (i 0).val ∧ (i 0).val < win0_2.index t 0 * win0_2.size 0 + win0_2.xsize (grid0.coords t) 0
    rw [o0, s0]; omega
  | ⟨1, _⟩ =>
    show win0_2.index t 1 * win0_2.size 1 ≤ (i 1).val ∧ (i 1).val < win0_2.index t 1 * win0_2.size 1 + win0_2.xsize (grid0.coords t) 1
    rw [o1, s1]; omega
  | ⟨2, _⟩ =>
    show win0_2.index t 2 * win0_2.size 2 ≤ (i 2).val ∧ (i 2).val < win0_2.index t 2 * win0_2.size 2 + win0_2.xsize (grid0.coords t) 2
    rw [o2, s2]; omega
  | ⟨3, _⟩ =>
    show win0_2.index t 3 * win0_2.size 3 ≤ (i 3).val ∧ (i 3).val < win0_2.index t 3 * win0_2.size 3 + win0_2.xsize (grid0.coords t) 3
    rw [o3, s3]; omega

/-- The array after the run. -/
theorem final2 (c : Dev nD) : (dats m 0 c).arrAt 2 cfg0.N = codes (m ((c : Thread nD τ).loc main_arg0)) :=
  (dats m 0 c).arrAt_eq_of_cover 2 (codes (m ((c : Thread nD τ).loc main_arg0))) (fun t _ => flushed2 m c t)
    fun i => ⟨⟨(i 0).val, lt_of_lt_of_eq (i 0).isLt N_0.symm⟩, flush0_2 _, mem_blk2 _ i rfl⟩

/-- Where the blocks of argument 1 and of its codes lie. -/
theorem index3 : ∀ t : Fin cfg0.N, win0_1.index t 0 * win0_1.size 0 = 0 ∧ win0_1.index t 1 * win0_1.size 1 = 0 ∧ win0_1.index t 2 * win0_1.size 2 = t.val * 512
    ∧ win0_3.index t 0 * win0_3.size 0 = t.val ∧ win0_3.index t 1 * win0_3.size 1 = 0 ∧ win0_3.index t 2 * win0_3.size 2 = 0 ∧ win0_3.index t 3 * win0_3.size 3 = 0
    ∧ win0_3.xsize (grid0.coords t) 0 = 1 ∧ win0_3.xsize (grid0.coords t) 1 = 2 ∧ win0_3.xsize (grid0.coords t) 2 = 512 ∧ win0_3.xsize (grid0.coords t) 3 = 512 :=
  (by decide +kernel : ∀ t : Fin grid0.N, _)

/-- What point `t` writes back is the codes' block. -/
theorem flushed3 (c : Dev nD) (t : Fin cfg0.N) :
    (dats m 0 c).flushed 3 t = (win0_3.blk t).view.read (Elt Ideal) (codes (m ((c : Thread nD τ).loc main_arg1))) := by
  refine (Value.flushed3 m c t).trans ?_
  unfold out0_3
  rw [View.canon_unit_zero hz4, View.ld_unit_zero hz3]
  funext y
  obtain ⟨z, b, j, e, rfl⟩ : ∃ (z : Fin 1) (b : Fin 2) (j e : Fin 512), y = ix4 z b j e := ⟨y 0, y 1, y 2, y 3, eq_ix4 y⟩
  refine (pay2_at _ z b j e).trans ?_
  refine congrArg (fun i => code (m ((c : Thread nD τ).loc main_arg1) i)) (funext fun a => Fin.ext ?_)
  obtain ⟨i0, i1, i2, o0, o1, o2, o3, -⟩ := index3 t
  have hz : z.val = 0 := by omega
  match a with
  | ⟨0, _⟩ =>
    show win0_1.index t 0 * win0_1.size 0 + 1 * b.val = win0_3.index t 1 * win0_3.size 1 + 1 * b.val
    rw [i0, o1]
  | ⟨1, _⟩ =>
    show win0_1.index t 1 * win0_1.size 1 + 1 * j.val = win0_3.index t 2 * win0_3.size 2 + 1 * j.val
    rw [i1, o2]
  | ⟨2, _⟩ =>
    show win0_1.index t 2 * win0_1.size 2 + 1 * e.val = (win0_3.index t 0 * win0_3.size 0 + 1 * z.val) * 512 + (win0_3.index t 3 * win0_3.size 3 + 1 * e.val)
    rw [i2, o0, o3, hz]
    omega

theorem mem_blk3 (t : Fin cfg0.N) (i : S8x2x512x512.Idx) (h : (i 0 : Nat) = t.val) : i ∈ ((cfg0.win 3).blk t).view.set := by
  show i ∈ ((View.whole main_v0_1).slice (win0_3.rect t)).set
  rw [View.set_slice_whole, Rect.mem_set_unit]
  obtain ⟨-, -, -, o0, o1, o2, o3, s0, s1, s2, s3⟩ := index3 t
  have h1 : (i 1).val < 2 := (i 1).isLt
  have h2 : (i 2).val < 512 := (i 2).isLt
  have h3 : (i 3).val < 512 := (i 3).isLt
  intro a
  match a with
  | ⟨0, _⟩ =>
    show win0_3.index t 0 * win0_3.size 0 ≤ (i 0).val ∧ (i 0).val < win0_3.index t 0 * win0_3.size 0 + win0_3.xsize (grid0.coords t) 0
    rw [o0, s0]; omega
  | ⟨1, _⟩ =>
    show win0_3.index t 1 * win0_3.size 1 ≤ (i 1).val ∧ (i 1).val < win0_3.index t 1 * win0_3.size 1 + win0_3.xsize (grid0.coords t) 1
    rw [o1, s1]; omega
  | ⟨2, _⟩ =>
    show win0_3.index t 2 * win0_3.size 2 ≤ (i 2).val ∧ (i 2).val < win0_3.index t 2 * win0_3.size 2 + win0_3.xsize (grid0.coords t) 2
    rw [o2, s2]; omega
  | ⟨3, _⟩ =>
    show win0_3.index t 3 * win0_3.size 3 ≤ (i 3).val ∧ (i 3).val < win0_3.index t 3 * win0_3.size 3 + win0_3.xsize (grid0.coords t) 3
    rw [o3, s3]; omega

/-- The array after the run. -/
theorem final3 (c : Dev nD) : (dats m 0 c).arrAt 3 cfg0.N = codes (m ((c : Thread nD τ).loc main_arg1)) :=
  (dats m 0 c).arrAt_eq_of_cover 3 (codes (m ((c : Thread nD τ).loc main_arg1))) (fun t _ => flushed3 m c t)
    fun i => ⟨⟨(i 0).val, lt_of_lt_of_eq (i 0).isLt N_0.symm⟩, flush0_3 _, mem_blk3 _ i rfl⟩

/-- The call's run: the codes of both arguments, which are unchanged. -/
theorem run (g : Dev nD → PrngReg) : θ_run defs (onTc (τ := τ) (main (F := Ideal))) ⟨m, fun _ => 0, g⟩ fun r => ∀ c : Dev nD,
      r.2.mem ((c : Thread nD τ).loc main_v0_0) = codes (m ((c : Thread nD τ).loc main_arg0))
      ∧ r.2.mem ((c : Thread nD τ).loc main_v0_1) = codes (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m g)

end Cert.CastIdeal.Code

end
-- ==== Proof.Cast.Scalar.lean ====
/-
One code: a number between -127 and 127, rounded to an integer, is the same byte whether it is taken as a byte at once or
as a word whose low byte is kept.
-/
module

public import Idealize.ShloMosaic.PureOps.Ideal

@[expose] public section

noncomputable section

namespace Cert.Code

open Idealize.ShloMosaic

theorem round_bounds (r : ℝ) (h1 : -127 ≤ r) (h2 : r ≤ 127) : -127 ≤ Ideal.roundHalfEven r ∧ Ideal.roundHalfEven r ≤ 127 := by
  have f1 : -127 ≤ ⌊r⌋ := Int.le_floor.mpr (by exact_mod_cast h1)
  have f2 : ⌊r⌋ ≤ 127 := by
    have : (⌊r⌋ : ℝ) ≤ 127 := (Int.floor_le r).trans h2
    exact_mod_cast this
  unfold Ideal.roundHalfEven
  dsimp only
  by_cases e : ⌊r⌋ = 127
  · have hr : r - (⌊r⌋ : ℝ) < 1 / 2 := by
      have : (⌊r⌋ : ℝ) = 127 := by exact_mod_cast e
      rw [this]; linarith
    rw [if_pos hr]
    exact ⟨f1, f2⟩
  · split_ifs <;> constructor <;> omega

theorem low_byte (n : ℤ) (h1 : -127 ≤ n) (h2 : n ≤ 127) : BitVec.ofInt 8 n = (BitVec.ofInt 32 n).setWidth 8 := by
  interval_cases n <;> decide

/-- The code of a clipped number. -/
theorem code (z : EReal) (h1 : ((-127 : ℝ) : EReal) ≤ z) (h2 : z ≤ ((127 : ℝ) : EReal)) :
    Ideal.fptosi 8 (Ideal.liftRound Ideal.roundHalfEven z) = (Ideal.fptosi 32 (Ideal.liftRound Ideal.roundHalfEven z)).setWidth 8 := by
  induction z using EReal.rec with
  | bot => exact absurd h1 (by simp)
  | top => exact absurd h2 (by simp)
  | coe r =>
    obtain ⟨b1, b2⟩ := round_bounds r (by exact_mod_cast h1) (by exact_mod_cast h2)
    show BitVec.ofInt 8 (Ideal.toIntClamped _ _ (((Ideal.roundHalfEven r : ℤ) : ℝ) : EReal)) = (BitVec.ofInt 32 (Ideal.toIntClamped _ _ (((Ideal.roundHalfEven r : ℤ) : ℝ) : EReal))).setWidth 8
    simp only [Ideal.toIntClamped_coe, Int.floor_intCast, Int.ceil_intCast, ite_self]
    generalize Ideal.roundHalfEven r = n at b1 b2 ⊢
    rw [show max (-((2 ^ (8 - 1) : Nat) : ℤ)) (min (((2 ^ (8 - 1) : Nat) : ℤ) - 1) n) = n by norm_num; omega,
      show max (-((2 ^ (32 - 1) : Nat) : ℤ)) (min (((2 ^ (32 - 1) : Nat) : ℤ) - 1) n) = n by norm_num; omega]
    exact low_byte n b1 b2

/-- The same, of whatever was clipped. -/
theorem clipped (t : EReal) :
    Ideal.fptosi 8 (Ideal.liftRound Ideal.roundHalfEven (min (Ideal.ofBits .f32 0x42FE0000#32) (max (Ideal.ofBits .f32 0xC2FE0000#32) t)))
      = (Ideal.fptosi 32 (Ideal.liftRound Ideal.roundHalfEven (min (Ideal.ofBits .f32 0x42FE0000#32) (max (Ideal.ofBits .f32 0xC2FE0000#32) t)))).setWidth 8 := by
  have e1 : Ideal.ofBits .f32 0x42FE0000#32 = ((127 : ℝ) : EReal) := by
    simp [Ideal.ofBits, Ideal.ieee]
    norm_num
    rw [← EReal.coe_mul, EReal.coe_eq_coe_iff]
    norm_num
  have e2 : Ideal.ofBits .f32 0xC2FE0000#32 = ((-127 : ℝ) : EReal) := by
    simp [Ideal.ofBits, Ideal.ieee]
    norm_num
    rw [← EReal.coe_mul, EReal.coe_eq_coe_iff]
    norm_num
  rw [e1, e2]
  exact code _ (le_min (by rw [EReal.coe_le_coe_iff]; norm_num) (le_max_left _ _)) (min_le_left _ _)

end Cert.Code

end
-- ==== Proof.Cast.Ref.lean ====
/-
The reference's codes at an index, and the two calls' agreement.
-/
module

public import proofs.«01_k».proof.Proof.Cast.Ker
public import proofs.«01_k».proof.Proof.Cast.Scalar
public import proofs.«01_k».proof.Proof.Gen.QuantiseIdeal.Run

@[expose] public section

noncomputable section

namespace Cert.QuantiseIdeal.Code

open Cert.QuantiseIdeal Cert.QuantiseIdeal.Gen Idealize.ShloMosaic Idealize.ShloMosaic.TcCoe Idealize.SL.Sem Idealize.ShloMosaic.StableHlo

/-- The reference's codes, before they are laid out in blocks. -/
def flat (x : FVec Ideal S2x512x4096 .bf16) : IVec S2x512x4096 8 :=
  trunci 8 (fptosi 32 (extf .f32 (Host.roundeven (minimumf (broadcastInDim S2x512x4096 ![] bcast_S_S2x512x4096 (truncf .bf16 (constant (F := Ideal) S_ .f32 0x42FE0000#32) bitsLt_bf16_f32))
    (maximumf (broadcastInDim S2x512x4096 ![] bcast_S_S2x512x4096 (truncf .bf16 (constant (F := Ideal) S_ .f32 0xC2FE0000#32) bitsLt_bf16_f32))
      (mulf x (broadcastInDim S2x512x4096 ![] bcast_S_S2x512x4096 (constant (F := Ideal) S_ .bf16 0x41E2#16)))))) bitsLt_bf16_f32)) natLt_8_32

theorem flat_at (x : FVec Ideal S2x512x4096 .bf16) (i : S2x512x4096.Idx) : flat x i = Cert.CastIdeal.Code.code (x i) :=
  (Cert.Code.clipped (x i * Ideal.ofBits .bf16 0x41E2#16)).symm

/-- The reference's codes in blocks of 512 lanes. -/
def blocks (x : FVec Ideal S2x512x4096 .bf16) : IVec S8x2x512x512 8 :=
  transpose S8x2x512x512 [2, 0, 1, 3] (shapeCast S2x512x8x512 (flat x) shapeCasts_S2x512x4096_S2x512x8x512) transposes_S2x512x8x512_S8x2x512x512_2_0_1_3

theorem blocks_eq (x : FVec Ideal S2x512x4096 .bf16) : blocks x = Cert.CastIdeal.Code.codes x := by
  funext y
  obtain ⟨p, b, j, e, rfl⟩ : ∃ (p : Fin 8) (b : Fin 2) (j e : Fin 512), y = ix4 p b j e := ⟨y 0, y 1, y 2, y 3, eq_ix4 y⟩
  have hk : p.val * 512 + e.val < 4096 := by omega
  refine Eq.trans (b := flat x (ix3 b j ⟨p.val * 512 + e.val, hk⟩)) ?_ (flat_at x _)
  pointwise [blocks]

/-- The reference's run: the kernel's codes of both arguments, which are unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v8) = Cert.CastIdeal.Code.codes (m ((c.tc : Thread nD τ).loc main_arg0))
      ∧ r.2.mem ((c.tc : Thread nD τ).loc main_v17) = Cert.CastIdeal.Code.codes (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (blocks_eq _), (h c).2.1.trans (blocks_eq _), (h c).2.2⟩) (Value.run (F := Ideal) m g)

end Cert.QuantiseIdeal.Code

end
-- ==== Proof.lean ====
/- The proof of the claims: each program's run, and the values of the two idealized ones. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Cast
public import proofs.«01_k».proof.Proof.Gen.Cast.Frame
public import proofs.«01_k».proof.Proof.Gen.CastIdeal
public import proofs.«01_k».proof.Proof.Gen.CastIdeal.Value
public import proofs.«01_k».proof.Proof.Gen.QuantiseIdeal
public import proofs.«01_k».proof.Proof.Gen.QuantiseIdeal.Run
public import proofs.«01_k».proof.Proof.Run
public import proofs.«01_k».proof.Proof.Bits.Run
public import proofs.«01_k».proof.Proof.Final
public import proofs.«01_k».proof.Proof.Pre
public import proofs.«01_k».proof.Proof.RefTerm
public import proofs.«01_k».proof.Proof.Same
public import proofs.«01_k».proof.Proof.Cast.Ref
public import Idealize.ShloMosaic.Adequacy
public import Idealize.ShloMosaic.Init

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The score of a masked key: the named constant is minus infinity. -/
theorem preserves : Cert.preserves_Kernel_KernelIdeal :=
  IdealRules.named_const.statement Cert.KernelIdeal.κ "mask" .f32 0xCE6E6B28#32 ⊥ rfl

open Cert.KernelIdeal Cert.KernelIdeal.Vals in
/-- The inputs of the run are the devices' blocks of the whole arrays. -/
theorem inputs (m : (ℓ : Loc nD τ sig) → Buf (Elt Ideal) ℓ) (x : FVec Ideal ⟨3, ![2, 512, 768]⟩ .bf16) (wq : FVec Ideal ⟨2, ![768, 4096]⟩ .bf16)
    (wo : FVec Ideal ⟨2, ![4096, 768]⟩ .bf16) (ks vs : IVec ⟨4, ![8, 2, 4096, 512]⟩ 8)
    (h : ∀ c : Dev nD, m ((c.tc : Thread nD τ).loc main_arg0) = x
      ∧ m ((c.tc : Thread nD τ).loc main_arg1) = Layout.block ⟨2, ![768, 512]⟩ ⟨2, ![768, 4096]⟩ 1 8 c wq
      ∧ m ((c.tc : Thread nD τ).loc main_arg2) = Layout.block ⟨2, ![512, 768]⟩ ⟨2, ![4096, 768]⟩ 0 8 c wo
      ∧ m ((c.tc : Thread nD τ).loc main_arg3) = Layout.block ⟨4, ![8, 2, 512, 512]⟩ ⟨4, ![8, 2, 4096, 512]⟩ 2 8 c ks
      ∧ m ((c.tc : Thread nD τ).loc main_arg4) = Layout.block ⟨4, ![8, 2, 512, 512]⟩ ⟨4, ![8, 2, 4096, 512]⟩ 2 8 c vs) :
    Run.memI m = Cert.Same.inp x wq wo ks vs := by
  have e : ∀ I J : Inp Ideal, I.x = J.x → I.wq = J.wq → I.wo = J.wo → I.ks = J.ks → I.vs = J.vs → I = J := by
    rintro ⟨_, _, _, _, _⟩ ⟨_, _, _, _, _⟩ h1 h2 h3 h4 h5
    cases h1; cases h2; cases h3; cases h4; cases h5
    rfl
  exact e _ _ (funext fun c => (Run.x_eq m c).trans (h c).1) (funext fun c => (Run.wq_eq m c).trans (h c).2.1)
    (funext fun c => (Run.wo_eq m c).trans (h c).2.2.1) (funext fun c => (h c).2.2.2.1) (funext fun c => (h c).2.2.2.2)

open Cert.KernelIdeal in
/-- From finite blocks on every device, the whole arrays are finite, and the two results are the same. -/
theorem results [hPre : Cert.Pre_finite_inputs_KernelIdeal.Facts] (m : (ℓ : Loc nD τ sig) → Buf (Elt Ideal) ℓ) (x : FVec Ideal ⟨3, ![2, 512, 768]⟩ .bf16) (wq : FVec Ideal ⟨2, ![768, 4096]⟩ .bf16)
    (wo : FVec Ideal ⟨2, ![4096, 768]⟩ .bf16) (ks vs : IVec ⟨4, ![8, 2, 4096, 512]⟩ 8) (hp : Cert.Pre_KernelIdeal_finite_inputs_KernelIdeal m)
    (h : ∀ c : Dev nD, m ((c.tc : Thread nD τ).loc main_arg0) = x
      ∧ m ((c.tc : Thread nD τ).loc main_arg1) = Layout.block ⟨2, ![768, 512]⟩ ⟨2, ![768, 4096]⟩ 1 8 c wq
      ∧ m ((c.tc : Thread nD τ).loc main_arg2) = Layout.block ⟨2, ![512, 768]⟩ ⟨2, ![4096, 768]⟩ 0 8 c wo
      ∧ m ((c.tc : Thread nD τ).loc main_arg3) = Layout.block ⟨4, ![8, 2, 512, 512]⟩ ⟨4, ![8, 2, 4096, 512]⟩ 2 8 c ks
      ∧ m ((c.tc : Thread nD τ).loc main_arg4) = Layout.block ⟨4, ![8, 2, 512, 512]⟩ ⟨4, ![8, 2, 4096, 512]⟩ 2 8 c vs) :
    Vals.out (Run.memI m) = Cert.ReferenceIdeal.Stages.result x wq wo ks vs := by
  have hf := fun c : Dev nD => Cert.Pre.finite _ _ _ _ _ (hp c)
  have hx : ∀ b i k, ∃ r : ℝ, x (ix3 b i k) = (r : EReal) := fun b i k => by
    obtain ⟨r, hr⟩ := (hf 0).1 (ix3 b i k)
    exact ⟨r, (congrFun (h 0).1 _).symm.trans hr⟩
  have hw : ∀ (k : Fin 768) (e : Fin 4096), ∃ r : ℝ, wq (ix2 k e) = (r : EReal) := fun k e => by
    have hc : e.val / 512 < 8 := by omega
    obtain ⟨r, hr⟩ := (hf ⟨e.val / 512, hc⟩).2 (ix2 k ⟨e.val % 512, Nat.mod_lt _ (by decide)⟩)
    refine ⟨r, ?_⟩
    rw [← hr, (h ⟨e.val / 512, hc⟩).2.1]
    refine Eq.trans ?_ (Cert.Same.wq_at x wq wo ks vs ⟨e.val / 512, hc⟩ k ⟨e.val % 512, Nat.mod_lt _ (by decide)⟩).symm
    congr 2
    exact Fin.ext (by show e.val = e.val / 512 * 512 + e.val % 512; omega)
  choose X hX using hx
  choose W hW using hw
  rw [inputs m x wq wo ks vs h]
  exact Cert.Same.out_same x wq wo ks vs X hX W hW

/-- On every device the kernel's result is the reference's. -/
theorem algebraic : Cert.algebraic_KernelIdeal_ReferenceIdeal_pre_finite_inputs_KernelIdeal
    (hKernelIdeal := Cert.KernelIdeal.Gen.facts) (hReferenceIdeal := Cert.ReferenceIdeal.Gen.facts) (hPre_finite_inputs_KernelIdeal := Cert.Pre.facts) :=
  fun m g m' g' hp h => by
    have hr := results (hPre := Cert.Pre.facts) m _ _ _ _ _ hp h
    refine ⟨_, (θ_run Cert.KernelIdeal.defs _ _).mono (fun r hq c => ⟨((hq.1 c).1 (3 : Fin 4)).trans ((Cert.KernelIdeal.Run.finalA_3 m c).trans hr),
      ((hq.1 c).1 (0 : Fin 4)).trans (Cert.KernelIdeal.Run.finalA_0 m c), ((hq.1 c).1 (1 : Fin 4)).trans (Cert.KernelIdeal.Run.finalA_1 m c),
      ((hq.1 c).1 (2 : Fin 4)).trans (Cert.KernelIdeal.Run.finalA_2 m c), (hq.1 c).2⟩) (Cert.KernelIdeal.Run.run_main m g),
      (θ_run Cert.ReferenceIdeal.defs _ _).mono (fun r hq => ⟨(hq 0).1.trans (Cert.ReferenceIdeal.Stages.res_eq m' 0), (hq 0).2⟩)
        (Cert.ReferenceIdeal.Value.run (F := Ideal) m' g')⟩

theorem frame_quantise : Cert.quiescent_QuantiseIdeal := fun m ρ _ =>
  (θ_run Cert.QuantiseIdeal.defs _ _).mono (fun r h => ⟨fun c => (h c).2.2, Idealize.ShloMosaic.sem_eq_zero_of_no_sems (by decide) r.2⟩)
    (Cert.QuantiseIdeal.Value.run (F := Ideal) m ρ)

/-- The first call leaves the reference's codes. -/
theorem quantised : Cert.algebraic_CastIdeal_QuantiseIdeal := fun m g m' g' _ h =>
  ⟨_, _, Cert.CastIdeal.Code.run m g, (θ_run Cert.QuantiseIdeal.defs _ _).mono
    (fun _ hq c => ⟨(hq c).1.trans (congrArg _ (h c).1), (hq c).2.1.trans (congrArg _ (h c).2), (hq c).2.2⟩) (Cert.QuantiseIdeal.Code.run m' g')⟩

theorem claim : Cert.Claim :=
  ⟨Cert.Kernel.Gen.facts, Cert.KernelIdeal.Gen.facts, Cert.ReferenceIdeal.Gen.facts, Cert.Cast.Gen.facts, Cert.CastIdeal.Gen.facts, Cert.QuantiseIdeal.Gen.facts,
    Cert.Pre.facts, Cert.Pre.facts_ref,
    fun m ρ _ => Cert.Kernel.Run.run_frame m ρ, fun m ρ _ => Cert.KernelIdeal.Run.run_frame m ρ, fun m ρ _ => Cert.KernelIdeal.Run.run_frame m ρ,
    frame_ri, fun m ρ _ => frame_ri m ρ trivial,
    fun m ρ _ => Cert.Cast.Gen.frame m ρ, fun m ρ _ => Cert.CastIdeal.Gen.frame m ρ, frame_quantise,
    preserves, algebraic, trivial, quantised⟩

end Cert.Proof

end
